-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_v277) = v1 c
          ∧ r.2.mem ((c.tc : Thread Cert.ReferenceIdeal.nD Cert.ReferenceIdeal.τ).loc Cert.ReferenceIdeal.main_v278) = v2 c
          ∧ r.2.mem ((c.tc : Thread Cert.ReferenceIdeal.nD Cert.ReferenceIdeal.τ).loc Cert.ReferenceIdeal.main_v279) = v3 c
          ∧ r.2.mem ((c.tc : Thread Cert.ReferenceIdeal.nD Cert.ReferenceIdeal.τ).loc Cert.ReferenceIdeal.main_v280) = v4 c
          ∧ r.2.mem ((c.tc : Thread Cert.ReferenceIdeal.nD Cert.ReferenceIdeal.τ).loc Cert.ReferenceIdeal.main_v281) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_queries_and_keys_finite : Cert.Pre_queries_and_keys_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_queries_and_keys_finite.lean ====
abbrev S8x2048x5120 : Shape := ⟨3, ![8, 2048, 5120]⟩
abbrev S2048x2048 : Shape := ⟨2, ![2048, 2048]⟩
abbrev S256x2048 : Shape := ⟨2, ![256, 2048]⟩
abbrev S768x2048 : Shape := ⟨2, ![768, 2048]⟩
abbrev S512x2048 : Shape := ⟨2, ![512, 2048]⟩
abbrev S2048x1024 : Shape := ⟨2, ![2048, 1024]⟩
abbrev S8x2048x1536 : Shape := ⟨3, ![8, 2048, 1536]⟩
abbrev S_ : Shape := ⟨0, ![]⟩

class Facts : Prop where
  slices_S8x2048x5120_S8x2048x1536_0_0_0 : S8x2048x5120.Slices ![0, 0, 0] S8x2048x1536
  bcast_S_S8x2048x1536 : S_.BroadcastsInDim S8x2048x1536 (![] : Fin 0 → Fin S8x2048x1536.rank)

variable [Facts]

def fn {F : FTy → Type} [FloatOps F] (main_arg0 : FVec F S8x2048x5120 .bf16) (main_arg1 : FVec F S2048x2048 .f32) (main_arg2 : FVec F S256x2048 .f32) (main_arg3 : FVec F S768x2048 .f32) (main_arg4 : FVec F S512x2048 .f32) (main_arg5 : FVec F S2048x1024 .f32) : IVec S8x2048x1536 1 :=
  let main_v0 : FVec F S8x2048x1536 .bf16 := (extractStridedSlice S8x2048x1536 ![0, 0, 0] · slices_S8x2048x5120_S8x2048x1536_0_0_0) main_arg0
  let main_v1 : FVec F S8x2048x1536 .bf16 := Host.absf main_v0
  let main_cst : FVec F S_ .bf16 := constant S_ .bf16 0x7F80#16
  let main_v2 : FVec F S8x2048x1536 .bf16 := broadcastInDim S8x2048x1536 ![] bcast_S_S8x2048x1536 main_cst
  let main_v3 : IVec S8x2048x1536 1 := cmpf .olt main_v1 main_v2
  main_v3
-- ==== Kernel.lean ====
abbrev S8x2048x5120 : Shape := ⟨3, ![8, 2048, 5120]⟩
abbrev S2048x2048 : Shape := ⟨2, ![2048, 2048]⟩
abbrev S256x2048 : Shape := ⟨2, ![256, 2048]⟩
abbrev S768x2048 : Shape := ⟨2, ![768, 2048]⟩
abbrev S512x2048 : Shape := ⟨2, ![512, 2048]⟩
abbrev S2048x1024 : Shape := ⟨2, ![2048, 1024]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S8x2048x256 : Shape := ⟨3, ![8, 2048, 256]⟩
abbrev S1x2048x128 : Shape := ⟨3, ![1, 2048, 128]⟩
abbrev S128x2048 : Shape := ⟨2, ![128, 2048]⟩
abbrev S16x2048 : Shape := ⟨2, ![16, 2048]⟩
abbrev S48x2048 : Shape := ⟨2, ![48, 2048]⟩
abbrev S32x2048 : Shape := ⟨2, ![32, 2048]⟩
abbrev S128x1024 : Shape := ⟨2, ![128, 1024]⟩
abbrev S2048x128 : Shape := ⟨2, ![2048, 128]⟩
abbrev S512x128 : Shape := ⟨2, ![512, 128]⟩
abbrev S128x128 : Shape := ⟨2, ![128, 128]⟩
abbrev S256x128 : Shape := ⟨2, ![256, 128]⟩
abbrev S384x128 : Shape := ⟨2, ![384, 128]⟩
abbrev S128x256 : Shape := ⟨2, ![128, 256]⟩
abbrev S1x128x128 : Shape := ⟨3, ![1, 128, 128]⟩

abbrev nBuf : Space → Nat
  | .hbm => 32
  | .vmem => 48
  | .smem => 0
  | _ => 0

abbrev bufTy : (tb : Table) → Fin (tcTables nBuf tb) → BufTy
  | .hbm, ⟨0, _⟩ => ⟨S8x2048x5120, .bf16⟩
  | .hbm, ⟨1, _⟩ => ⟨S2048x2048, .f32⟩
  | .hbm, ⟨2, _⟩ => ⟨S256x2048, .f32⟩
  | .hbm, ⟨3, _⟩ => ⟨S768x2048, .f32⟩
  | .hbm, ⟨4, _⟩ => ⟨S512x2048, .f32⟩
  | .hbm, ⟨5, _⟩ => ⟨S2048x1024, .f32⟩
  | .hbm, ⟨6, _⟩ => ⟨S128, .i32⟩
  | .hbm, ⟨7, _⟩ => ⟨S128x1, .i32⟩
  | .hbm, ⟨8, _⟩ => ⟨S384, .i32⟩
  | .hbm, ⟨9, _⟩ => ⟨S1x384, .i32⟩
  | .hbm, ⟨10, _⟩ => ⟨S_, .i32⟩
  | .hbm, ⟨11, _⟩ => ⟨S1x384, .i32⟩
  | .hbm, ⟨12, _⟩ => ⟨S1x384, .i32⟩
  | .hbm, ⟨13, _⟩ => ⟨S128x384, .i32⟩
  | .hbm, ⟨14, _⟩ => ⟨S128x384, .i32⟩
  | .hbm, ⟨15, _⟩ => ⟨S128x384, .i32⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i1⟩
  | .hbm, ⟨20, _⟩ => ⟨S_, .f32⟩
  | .hbm, ⟨21, _⟩ => ⟨S_, .f32⟩
  | .hbm, ⟨22, _⟩ => ⟨S128x384, .f32⟩
  | .hbm, ⟨23, _⟩ => ⟨S128x384, .f32⟩
  | .hbm, ⟨24, _⟩ => ⟨S128x384, .f32⟩
  | .hbm, ⟨25, _⟩ => ⟨S128x384, .f32⟩
  | .hbm, ⟨26, _⟩ => ⟨S8x2048x256, .bf16⟩
  | .hbm, ⟨27, _⟩ => ⟨S2048x2048, .bf16⟩
  | .hbm, ⟨28, _⟩ => ⟨S256x2048, .bf16⟩
  | .hbm, ⟨29, _⟩ => ⟨S768x2048, .bf16⟩
  | .hbm, ⟨30, _⟩ => ⟨S512x2048, .bf16⟩
  | .hbm, ⟨31, _⟩ => ⟨S2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S128x384, .f32⟩
  | .local _ .vmem, ⟨19, _⟩ => ⟨S128x2048, .f32⟩
  | .local _ .vmem, ⟨20, _⟩ => ⟨S128x2048, .f32⟩
  | .local _ .vmem, ⟨21, _⟩ => ⟨S16x2048, .f32⟩
  | .local _ .vmem, ⟨22, _⟩ => ⟨S16x2048, .f32⟩
  | .local _ .vmem, ⟨23, _⟩ => ⟨S48x2048, .f32⟩
  | .local _ .vmem, ⟨24, _⟩ => ⟨S48x2048, .f32⟩
  | .local _ .vmem, ⟨25, _⟩ => ⟨S32x2048, .f32⟩
  | .local _ .vmem, ⟨26, _⟩ => ⟨S32x2048, .f32⟩
  | .local _ .vmem, ⟨27, _⟩ => ⟨S128x1024, .f32⟩
  | .local _ .vmem, ⟨28, _⟩ => ⟨S128x1024, .f32⟩
  | .local _ .vmem, ⟨29, _⟩ => ⟨S1x2048x128, .bf16⟩
  | .local _ .vmem, ⟨30, _⟩ => ⟨S1x2048x128, .bf16⟩
  | .local _ .vmem, ⟨31, _⟩ => ⟨S128x2048, .bf16⟩
  | .local _ .vmem, ⟨32, _⟩ => ⟨S128x2048, .bf16⟩
  | .local _ .vmem, ⟨33, _⟩ => ⟨S16x2048, .bf16⟩
  | .local _ .vmem, ⟨34, _⟩ => ⟨S16x2048, .bf16⟩
  | .local _ .vmem, ⟨35, _⟩ => ⟨S48x2048, .bf16⟩
  | .local _ .vmem, ⟨36, _⟩ => ⟨S48x2048, .bf16⟩
  | .local _ .vmem, ⟨37, _⟩ => ⟨S32x2048, .bf16⟩
  | .local _ .vmem, ⟨38, _⟩ => ⟨S32x2048, .bf16⟩
  | .local _ .vmem, ⟨39, _⟩ => ⟨S128x1024, .bf16⟩
  | .local _ .vmem, ⟨40, _⟩ => ⟨S128x1024, .bf16⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | _, _ => ⟨S8x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_19 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_20 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c16_i32_0 : BitVec 32 := 16#32
  let v3 : BitVec 32 := Scalar.divsi v2 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S48x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S48x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S8x2048x5120 : Shape := ⟨3, ![8, 2048, 5120]⟩
abbrev S2048x2048 : Shape := ⟨2, ![2048, 2048]⟩
abbrev S256x2048 : Shape := ⟨2, ![256, 2048]⟩
abbrev S768x2048 : Shape := ⟨2, ![768, 2048]⟩
abbrev S512x2048 : Shape := ⟨2, ![512, 2048]⟩
abbrev S2048x1024 : Shape := ⟨2, ![2048, 1024]⟩
abbrev S8x2048x768 : Shape := ⟨3, ![8, 2048, 768]⟩
abbrev S8x2048x6x128 : Shape := ⟨4, ![8, 2048, 6, 128]⟩
abbrev S8x2048x2x128 : Shape := ⟨4, ![8, 2048, 2, 128]⟩
abbrev S8x2048x1x2x128 : Shape := ⟨5, ![8, 2048, 1, 2, 128]⟩
abbrev S8x1x2048x2x128 : Shape := ⟨5, ![8, 1, 2048, 2, 128]⟩
abbrev S_ : Shape := ⟨0, ![]⟩
abbrev S8x1x32x64x2x128 : Shape := ⟨6, ![8, 1, 32, 64, 2, 128]⟩
abbrev S8x1x2176x2x128 : Shape := ⟨5, ![8, 1, 2176, 2, 128]⟩
abbrev S8x1x34x64x2x128 : Shape := ⟨6, ![8, 1, 34, 64, 2, 128]⟩
abbrev S8x1x32x192x2x128 : Shape := ⟨6, ![8, 1, 32, 192, 2, 128]⟩
abbrev S8x1x32x2x64x192 : Shape := ⟨6, ![8, 1, 32, 2, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S32 : Shape := ⟨1, ![32]⟩
abbrev S32x1x1 : Shape := ⟨3, ![32, 1, 1]⟩
abbrev S1x1x192 : Shape := ⟨3, ![1, 1, 192]⟩
abbrev S32x1x192 : Shape := ⟨3, ![32, 1, 192]⟩
abbrev S1x64x192 : Shape := ⟨3, ![1, 64, 192]⟩
abbrev S32x64x192 : Shape := ⟨3, ![32, 64, 192]⟩
abbrev S1x1x32x1x64x192 : Shape := ⟨6, ![1, 1, 32, 1, 64, 192]⟩
abbrev S8x1x32x2x64 : Shape := ⟨5, ![8, 1, 32, 2, 64]⟩
abbrev S8x1x32x2x64x1 : Shape := ⟨6, ![8, 1, 32, 2, 64, 1]⟩
abbrev S8x1x32x2x64x128 : Shape := ⟨6, ![8, 1, 32, 2, 64, 128]⟩
abbrev S8x1x32x64x2 : Shape := ⟨5, ![8, 1, 32, 64, 2]⟩
abbrev S8x1x2048x2 : Shape := ⟨4, ![8, 1, 2048, 2]⟩
abbrev S8x2048x1x2 : Shape := ⟨4, ![8, 2048, 1, 2]⟩
abbrev S8x2048x2 : Shape := ⟨3, ![8, 2048, 2]⟩
abbrev S8x512x4x2x128 : Shape := ⟨5, ![8, 512, 4, 2, 128]⟩
abbrev S8x4x512x2x128 : Shape := ⟨5, ![8, 4, 512, 2, 128]⟩
abbrev S8x4x8x64x2x128 : Shape := ⟨6, ![8, 4, 8, 64, 2, 128]⟩
abbrev S8x4x640x2x128 : Shape := ⟨5, ![8, 4, 640, 2, 128]⟩
abbrev S8x4x10x64x2x128 : Shape := ⟨6, ![8, 4, 10, 64, 2, 128]⟩
abbrev S8x4x8x192x2x128 : Shape := ⟨6, ![8, 4, 8, 192, 2, 128]⟩
abbrev S8x4x8x2x64x192 : Shape := ⟨6, ![8, 4, 8, 2, 64, 192]⟩
abbrev S8 : Shape := ⟨1, ![8]⟩
abbrev S8x1x1 : Shape := ⟨3, ![8, 1, 1]⟩
abbrev S8x1x192 : Shape := ⟨3, ![8, 1, 192]⟩
abbrev S8x64x192 : Shape := ⟨3, ![8, 64, 192]⟩
abbrev S1x1x8x1x64x192 : Shape := ⟨6, ![1, 1, 8, 1, 64, 192]⟩
abbrev S8x4x8x2x64 : Shape := ⟨5, ![8, 4, 8, 2, 64]⟩
abbrev S8x4x8x2x64x1 : Shape := ⟨6, ![8, 4, 8, 2, 64, 1]⟩
abbrev S8x4x8x2x64x128 : Shape := ⟨6, ![8, 4, 8, 2, 64, 128]⟩
abbrev S8x4x8x64x2 : Shape := ⟨5, ![8, 4, 8, 64, 2]⟩
abbrev S8x4x512x2 : Shape := ⟨4, ![8, 4, 512, 2]⟩
abbrev S8x512x4x2 : Shape := ⟨4, ![8, 512, 4, 2]⟩
abbrev S8x128x16x2x128 : Shape := ⟨5, ![8, 128, 16, 2, 128]⟩
abbrev S8x16x128x2x128 : Shape := ⟨5, ![8, 16, 128, 2, 128]⟩
abbrev S8x16x2x64x2x128 : Shape := ⟨6, ![8, 16, 2, 64, 2, 128]⟩
abbrev S8x16x256x2x128 : Shape := ⟨5, ![8, 16, 256, 2, 128]⟩
abbrev S8x16x4x64x2x128 : Shape := ⟨6, ![8, 16, 4, 64, 2, 128]⟩
abbrev S8x16x2x192x2x128 : Shape := ⟨6, ![8, 16, 2, 192, 2, 128]⟩
abbrev S8x16x2x2x64x192 : Shape := ⟨6, ![8, 16, 2, 2, 64, 192]⟩
abbrev S2 : Shape := ⟨1, ![2]⟩
abbrev S2x1x1 : Shape := ⟨3, ![2, 1, 1]⟩
abbrev S2x1x192 : Shape := ⟨3, ![2, 1, 192]⟩
abbrev S2x64x192 : Shape := ⟨3, ![2, 64, 192]⟩
abbrev S1x1x2x1x64x192 : Shape := ⟨6, ![1, 1, 2, 1, 64, 192]⟩
abbrev S8x16x2x2x64 : Shape := ⟨5, ![8, 16, 2, 2, 64]⟩
abbrev S8x16x2x2x64x1 : Shape := ⟨6, ![8, 16, 2, 2, 64, 1]⟩
abbrev S8x16x2x2x64x128 : Shape := ⟨6, ![8, 16, 2, 2, 64, 128]⟩
abbrev S8x16x2x64x2 : Shape := ⟨5, ![8, 16, 2, 64, 2]⟩
abbrev S8x16x128x2 : Shape := ⟨4, ![8, 16, 128, 2]⟩
abbrev S8x128x16x2 : Shape := ⟨4, ![8, 128, 16, 2]⟩
abbrev S1x8x2048x2 : Shape := ⟨4, ![1, 8, 2048, 2]⟩
abbrev S3x8x2048x2 : Shape := ⟨4, ![3, 8, 2048, 2]⟩
abbrev S3x8x2048x2x1 : Shape := ⟨5, ![3, 8, 2048, 2, 1]⟩
abbrev S1x8x2048x2x128 : Shape := ⟨5, ![1, 8, 2048, 2, 128]⟩
abbrev S3x8x2048x2x128 : Shape := ⟨5, ![3, 8, 2048, 2, 128]⟩
abbrev S8x2048x256 : Shape := ⟨3, ![8, 2048, 256]⟩

abbrev nBuf : Space → Nat
  | .hbm => 346
  | .vmem => 0
  | .smem => 0
  | _ => 0

abbrev hbmTy0_0 (i : Nat) : BufTy := match i % 128 with
  | 0 => ⟨S8x2048x5120, .bf16⟩
  | 1 => ⟨S2048x2048, .f32⟩
  | 2 => ⟨S256x2048, .f32⟩
  | 3 => ⟨S768x2048, .f32⟩
  | 4 => ⟨S512x2048, .f32⟩
  | 5 => ⟨S2048x1024, .f32⟩
  | 6 => ⟨S8x2048x768, .bf16⟩
  | 7 => ⟨S8x2048x6x128, .bf16⟩
  | 8 => ⟨S8x2048x768, .bf16⟩
  | 9 => ⟨S8x2048x6x128, .bf16⟩
  | 10 => ⟨S8x2048x768, .bf16⟩
  | 11 => ⟨S8x2048x6x128, .bf16⟩
  | 12 => ⟨S8x2048x2x128, .bf16⟩
  | 13 => ⟨S8x2048x2x128, .bf16⟩
  | 14 => ⟨S8x2048x2x128, .bf16⟩
  | 15 => ⟨S8x2048x2x128, .f32⟩
  | 16 => ⟨S8x2048x1x2x128, .f32⟩
  | 17 => ⟨S8x1x2048x2x128, .f32⟩
  | 18 => ⟨S_, .i32⟩
  | 19 => ⟨S_, .f32⟩
  | 20 => ⟨S8x1x2048x2x128, .f32⟩
  | 21 => ⟨S8x1x32x64x2x128, .f32⟩
  | 22 => ⟨S8x2048x2x128, .f32⟩
  | 23 => ⟨S8x2048x1x2x128, .f32⟩
  | 24 => ⟨S8x1x2048x2x128, .f32⟩
  | 25 => ⟨S_, .i32⟩
  | 26 => ⟨S_, .f32⟩
  | 27 => ⟨S8x1x2176x2x128, .f32⟩
  | 28 => ⟨S8x1x34x64x2x128, .f32⟩
  | 29 => ⟨S8x1x32x64x2x128, .f32⟩
  | 30 => ⟨S8x1x32x64x2x128, .f32⟩
  | 31 => ⟨S8x1x32x64x2x128, .f32⟩
  | 32 => ⟨S8x1x32x192x2x128, .f32⟩
  | 33 => ⟨S8x2048x2x128, .f32⟩
  | 34 => ⟨S8x2048x1x2x128, .f32⟩
  | 35 => ⟨S8x1x2048x2x128, .f32⟩
  | 36 => ⟨S_, .i32⟩
  | 37 => ⟨S_, .f32⟩
  | 38 => ⟨S8x1x2176x2x128, .f32⟩
  | 39 => ⟨S8x1x34x64x2x128, .f32⟩
  | 40 => ⟨S8x1x32x64x2x128, .f32⟩
  | 41 => ⟨S8x1x32x64x2x128, .f32⟩
  | 42 => ⟨S8x1x32x64x2x128, .f32⟩
  | 43 => ⟨S8x1x32x192x2x128, .f32⟩
  | 44 => ⟨S8x1x32x2x64x192, .f32⟩
  | 45 => ⟨S64, .i32⟩
  | 46 => ⟨S64x1, .i32⟩
  | 47 => ⟨S192, .i32⟩
  | 48 => ⟨S1x192, .i32⟩
  | 49 => ⟨S_, .i32⟩
  | 50 => ⟨S1x192, .i32⟩
  | 51 => ⟨S1x192, .i32⟩
  | 52 => ⟨S64x192, .i32⟩
  | 53 => ⟨S64x192, .i32⟩
  | 54 => ⟨S64x192, .i32⟩
  | 55 => ⟨S32, .i32⟩
  | 56 => ⟨S32x1x1, .i32⟩
  | 57 => ⟨S_, .i32⟩
  | 58 => ⟨S32x1x1, .i32⟩
  | 59 => ⟨S32x1x1, .i32⟩
  | 60 => ⟨S_, .i32⟩
  | 61 => ⟨S32x1x1, .i32⟩
  | 62 => ⟨S32x1x1, .i32⟩
  | 63 => ⟨S1x1x192, .i32⟩
  | 64 => ⟨S32x1x192, .i32⟩
  | 65 => ⟨S32x1x192, .i32⟩
  | 66 => ⟨S32x1x192, .i32⟩
  | 67 => ⟨S64x192, .i32⟩
  | 68 => ⟨S_, .i32⟩
  | 69 => ⟨S64x192, .i32⟩
  | 70 => ⟨S64x192, .i1⟩
  | 71 => ⟨S1x64x192, .i1⟩
  | 72 => ⟨S_, .i32⟩
  | 73 => ⟨S32x1x192, .i32⟩
  | 74 => ⟨S32x1x192, .i1⟩
  | 75 => ⟨S32x64x192, .i1⟩
  | 76 => ⟨S32x64x192, .i1⟩
  | 77 => ⟨S32x64x192, .i1⟩
  | 78 => ⟨S_, .i32⟩
  | 79 => ⟨S32x1x192, .i32⟩
  | 80 => ⟨S32x1x192, .i1⟩
  | 81 => ⟨S32x64x192, .i1⟩
  | 82 => ⟨S32x64x192, .i1⟩
  | 83 => ⟨S1x1x32x1x64x192, .i1⟩
  | 84 => ⟨S_, .f32⟩
  | 85 => ⟨S_, .f32⟩
  | 86 => ⟨S8x1x32x2x64x192, .i1⟩
  | 87 => ⟨S8x1x32x2x64x192, .f32⟩
  | 88 => ⟨S8x1x32x2x64x192, .f32⟩
  | 89 => ⟨S_, .f32⟩
  | 90 => ⟨S8x1x32x2x64, .f32⟩
  | 91 => ⟨S8x1x32x2x64x1, .f32⟩
  | 92 => ⟨S8x1x32x2x64x192, .f32⟩
  | 93 => ⟨S8x1x32x2x64x192, .f32⟩
  | 94 => ⟨S8x1x32x2x64x192, .f32⟩
  | 95 => ⟨S_, .f32⟩
  | 96 => ⟨S8x1x32x2x64, .f32⟩
  | 97 => ⟨S8x1x32x2x64x1, .f32⟩
  | 98 => ⟨S8x1x32x2x64x128, .f32⟩
  | 99 => ⟨S8x1x32x2x64x128, .f32⟩
  | 100 => ⟨S8x1x32x2x64x128, .f32⟩
  | 101 => ⟨S8x1x32x2x64x1, .f32⟩
  | 102 => ⟨S8x1x32x2x64x1, .f32⟩
  | 103 => ⟨S8x1x32x2x64, .f32⟩
  | 104 => ⟨S8x1x32x64x2x128, .f32⟩
  | 105 => ⟨S8x1x2048x2x128, .f32⟩
  | 106 => ⟨S8x2048x1x2x128, .f32⟩
  | 107 => ⟨S8x2048x2x128, .f32⟩
  | 108 => ⟨S8x1x32x64x2, .f32⟩
  | 109 => ⟨S8x1x2048x2, .f32⟩
  | 110 => ⟨S8x2048x1x2, .f32⟩
  | 111 => ⟨S8x2048x2, .f32⟩
  | 112 => ⟨S8x2048x2x128, .bf16⟩
  | 113 => ⟨S8x2048x2x128, .bf16⟩
  | 114 => ⟨S8x2048x2x128, .bf16⟩
  | 115 => ⟨S8x2048x2x128, .f32⟩
  | 116 => ⟨S8x512x4x2x128, .f32⟩
  | 117 => ⟨S8x4x512x2x128, .f32⟩
  | 118 => ⟨S_, .i32⟩
  | 119 => ⟨S_, .f32⟩
  | 120 => ⟨S8x4x512x2x128, .f32⟩
  | 121 => ⟨S8x4x8x64x2x128, .f32⟩
  | 122 => ⟨S8x2048x2x128, .f32⟩
  | 123 => ⟨S8x512x4x2x128, .f32⟩
  | 124 => ⟨S8x4x512x2x128, .f32⟩
  | 125 => ⟨S_, .i32⟩
  | 126 => ⟨S_, .f32⟩
  | 127 => ⟨S8x4x640x2x128, .f32⟩
  | _ => ⟨S8x2048x5120, .bf16⟩

abbrev hbmTy0_1 (i : Nat) : BufTy := match i % 128 with
  | 0 => ⟨S8x4x10x64x2x128, .f32⟩
  | 1 => ⟨S8x4x8x64x2x128, .f32⟩
  | 2 => ⟨S8x4x8x64x2x128, .f32⟩
  | 3 => ⟨S8x4x8x64x2x128, .f32⟩
  | 4 => ⟨S8x4x8x192x2x128, .f32⟩
  | 5 => ⟨S8x2048x2x128, .f32⟩
  | 6 => ⟨S8x512x4x2x128, .f32⟩
  | 7 => ⟨S8x4x512x2x128, .f32⟩
  | 8 => ⟨S_, .i32⟩
  | 9 => ⟨S_, .f32⟩
  | 10 => ⟨S8x4x640x2x128, .f32⟩
  | 11 => ⟨S8x4x10x64x2x128, .f32⟩
  | 12 => ⟨S8x4x8x64x2x128, .f32⟩
  | 13 => ⟨S8x4x8x64x2x128, .f32⟩
  | 14 => ⟨S8x4x8x64x2x128, .f32⟩
  | 15 => ⟨S8x4x8x192x2x128, .f32⟩
  | 16 => ⟨S8x4x8x2x64x192, .f32⟩
  | 17 => ⟨S64, .i32⟩
  | 18 => ⟨S64x1, .i32⟩
  | 19 => ⟨S192, .i32⟩
  | 20 => ⟨S1x192, .i32⟩
  | 21 => ⟨S_, .i32⟩
  | 22 => ⟨S1x192, .i32⟩
  | 23 => ⟨S1x192, .i32⟩
  | 24 => ⟨S64x192, .i32⟩
  | 25 => ⟨S64x192, .i32⟩
  | 26 => ⟨S64x192, .i32⟩
  | 27 => ⟨S8, .i32⟩
  | 28 => ⟨S8x1x1, .i32⟩
  | 29 => ⟨S_, .i32⟩
  | 30 => ⟨S8x1x1, .i32⟩
  | 31 => ⟨S8x1x1, .i32⟩
  | 32 => ⟨S_, .i32⟩
  | 33 => ⟨S8x1x1, .i32⟩
  | 34 => ⟨S8x1x1, .i32⟩
  | 35 => ⟨S1x1x192, .i32⟩
  | 36 => ⟨S8x1x192, .i32⟩
  | 37 => ⟨S8x1x192, .i32⟩
  | 38 => ⟨S8x1x192, .i32⟩
  | 39 => ⟨S64x192, .i32⟩
  | 40 => ⟨S_, .i32⟩
  | 41 => ⟨S64x192, .i32⟩
  | 42 => ⟨S64x192, .i1⟩
  | 43 => ⟨S1x64x192, .i1⟩
  | 44 => ⟨S_, .i32⟩
  | 45 => ⟨S8x1x192, .i32⟩
  | 46 => ⟨S8x1x192, .i1⟩
  | 47 => ⟨S8x64x192, .i1⟩
  | 48 => ⟨S8x64x192, .i1⟩
  | 49 => ⟨S8x64x192, .i1⟩
  | 50 => ⟨S_, .i32⟩
  | 51 => ⟨S8x1x192, .i32⟩
  | 52 => ⟨S8x1x192, .i1⟩
  | 53 => ⟨S8x64x192, .i1⟩
  | 54 => ⟨S8x64x192, .i1⟩
  | 55 => ⟨S1x1x8x1x64x192, .i1⟩
  | 56 => ⟨S_, .f32⟩
  | 57 => ⟨S_, .f32⟩
  | 58 => ⟨S8x4x8x2x64x192, .i1⟩
  | 59 => ⟨S8x4x8x2x64x192, .f32⟩
  | 60 => ⟨S8x4x8x2x64x192, .f32⟩
  | 61 => ⟨S_, .f32⟩
  | 62 => ⟨S8x4x8x2x64, .f32⟩
  | 63 => ⟨S8x4x8x2x64x1, .f32⟩
  | 64 => ⟨S8x4x8x2x64x192, .f32⟩
  | 65 => ⟨S8x4x8x2x64x192, .f32⟩
  | 66 => ⟨S8x4x8x2x64x192, .f32⟩
  | 67 => ⟨S_, .f32⟩
  | 68 => ⟨S8x4x8x2x64, .f32⟩
  | 69 => ⟨S8x4x8x2x64x1, .f32⟩
  | 70 => ⟨S8x4x8x2x64x128, .f32⟩
  | 71 => ⟨S8x4x8x2x64x128, .f32⟩
  | 72 => ⟨S8x4x8x2x64x128, .f32⟩
  | 73 => ⟨S8x4x8x2x64x1, .f32⟩
  | 74 => ⟨S8x4x8x2x64x1, .f32⟩
  | 75 => ⟨S8x4x8x2x64, .f32⟩
  | 76 => ⟨S8x4x8x64x2x128, .f32⟩
  | 77 => ⟨S8x4x512x2x128, .f32⟩
  | 78 => ⟨S8x512x4x2x128, .f32⟩
  | 79 => ⟨S8x2048x2x128, .f32⟩
  | 80 => ⟨S8x4x8x64x2, .f32⟩
  | 81 => ⟨S8x4x512x2, .f32⟩
  | 82 => ⟨S8x512x4x2, .f32⟩
  | 83 => ⟨S8x2048x2, .f32⟩
  | 84 => ⟨S8x2048x2x128, .bf16⟩
  | 85 => ⟨S8x2048x2x128, .bf16⟩
  | 86 => ⟨S8x2048x2x128, .bf16⟩
  | 87 => ⟨S8x2048x2x128, .f32⟩
  | 88 => ⟨S8x128x16x2x128, .f32⟩
  | 89 => ⟨S8x16x128x2x128, .f32⟩
  | 90 => ⟨S_, .i32⟩
  | 91 => ⟨S_, .f32⟩
  | 92 => ⟨S8x16x128x2x128, .f32⟩
  | 93 => ⟨S8x16x2x64x2x128, .f32⟩
  | 94 => ⟨S8x2048x2x128, .f32⟩
  | 95 => ⟨S8x128x16x2x128, .f32⟩
  | 96 => ⟨S8x16x128x2x128, .f32⟩
  | 97 => ⟨S_, .i32⟩
  | 98 => ⟨S_, .f32⟩
  | 99 => ⟨S8x16x256x2x128, .f32⟩
  | 100 => ⟨S8x16x4x64x2x128, .f32⟩
  | 101 => ⟨S8x16x2x64x2x128, .f32⟩
  | 102 => ⟨S8x16x2x64x2x128, .f32⟩
  | 103 => ⟨S8x16x2x64x2x128, .f32⟩
  | 104 => ⟨S8x16x2x192x2x128, .f32⟩
  | 105 => ⟨S8x2048x2x128, .f32⟩
  | 106 => ⟨S8x128x16x2x128, .f32⟩
  | 107 => ⟨S8x16x128x2x128, .f32⟩
  | 108 => ⟨S_, .i32⟩
  | 109 => ⟨S_, .f32⟩
  | 110 => ⟨S8x16x256x2x128, .f32⟩
  | 111 => ⟨S8x16x4x64x2x128, .f32⟩
  | 112 => ⟨S8x16x2x64x2x128, .f32⟩
  | 113 => ⟨S8x16x2x64x2x128, .f32⟩
  | 114 => ⟨S8x16x2x64x2x128, .f32⟩
  | 115 => ⟨S8x16x2x192x2x128, .f32⟩
  | 116 => ⟨S8x16x2x2x64x192, .f32⟩
  | 117 => ⟨S64, .i32⟩
  | 118 => ⟨S64x1, .i32⟩
  | 119 => ⟨S192, .i32⟩
  | 120 => ⟨S1x192, .i32⟩
  | 121 => ⟨S_, .i32⟩
  | 122 => ⟨S1x192, .i32⟩
  | 123 => ⟨S1x192, .i32⟩
  | 124 => ⟨S64x192, .i32⟩
  | 125 => ⟨S64x192, .i32⟩
  | 126 => ⟨S64x192, .i32⟩
  | 127 => ⟨S2, .i32⟩
  | _ => ⟨S8x2048x5120, .bf16⟩

abbrev hbmTy0_2 (i : Nat) : BufTy := match i % 128 with
  | 0 => ⟨S2x1x1, .i32⟩
  | 1 => ⟨S_, .i32⟩
  | 2 => ⟨S2x1x1, .i32⟩
  | 3 => ⟨S2x1x1, .i32⟩
  | 4 => ⟨S_, .i32⟩
  | 5 => ⟨S2x1x1, .i32⟩
  | 6 => ⟨S2x1x1, .i32⟩
  | 7 => ⟨S1x1x192, .i32⟩
  | 8 => ⟨S2x1x192, .i32⟩
  | 9 => ⟨S2x1x192, .i32⟩
  | 10 => ⟨S2x1x192, .i32⟩
  | 11 => ⟨S64x192, .i32⟩
  | 12 => ⟨S_, .i32⟩
  | 13 => ⟨S64x192, .i32⟩
  | 14 => ⟨S64x192, .i1⟩
  | 15 => ⟨S1x64x192, .i1⟩
  | 16 => ⟨S_, .i32⟩
  | 17 => ⟨S2x1x192, .i32⟩
  | 18 => ⟨S2x1x192, .i1⟩
  | 19 => ⟨S2x64x192, .i1⟩
  | 20 => ⟨S2x64x192, .i1⟩
  | 21 => ⟨S2x64x192, .i1⟩
  | 22 => ⟨S_, .i32⟩
  | 23 => ⟨S2x1x192, .i32⟩
  | 24 => ⟨S2x1x192, .i1⟩
  | 25 => ⟨S2x64x192, .i1⟩
  | 26 => ⟨S2x64x192, .i1⟩
  | 27 => ⟨S1x1x2x1x64x192, .i1⟩
  | 28 => ⟨S_, .f32⟩
  | 29 => ⟨S_, .f32⟩
  | 30 => ⟨S8x16x2x2x64x192, .i1⟩
  | 31 => ⟨S8x16x2x2x64x192, .f32⟩
  | 32 => ⟨S8x16x2x2x64x192, .f32⟩
  | 33 => ⟨S_, .f32⟩
  | 34 => ⟨S8x16x2x2x64, .f32⟩
  | 35 => ⟨S8x16x2x2x64x1, .f32⟩
  | 36 => ⟨S8x16x2x2x64x192, .f32⟩
  | 37 => ⟨S8x16x2x2x64x192, .f32⟩
  | 38 => ⟨S8x16x2x2x64x192, .f32⟩
  | 39 => ⟨S_, .f32⟩
  | 40 => ⟨S8x16x2x2x64, .f32⟩
  | 41 => ⟨S8x16x2x2x64x1, .f32⟩
  | 42 => ⟨S8x16x2x2x64x128, .f32⟩
  | 43 => ⟨S8x16x2x2x64x128, .f32⟩
  | 44 => ⟨S8x16x2x2x64x128, .f32⟩
  | 45 => ⟨S8x16x2x2x64x1, .f32⟩
  | 46 => ⟨S8x16x2x2x64x1, .f32⟩
  | 47 => ⟨S8x16x2x2x64, .f32⟩
  | 48 => ⟨S8x16x2x64x2x128, .f32⟩
  | 49 => ⟨S8x16x128x2x128, .f32⟩
  | 50 => ⟨S8x128x16x2x128, .f32⟩
  | 51 => ⟨S8x2048x2x128, .f32⟩
  | 52 => ⟨S8x16x2x64x2, .f32⟩
  | 53 => ⟨S8x16x128x2, .f32⟩
  | 54 => ⟨S8x128x16x2, .f32⟩
  | 55 => ⟨S8x2048x2, .f32⟩
  | 56 => ⟨S1x8x2048x2, .f32⟩
  | 57 => ⟨S1x8x2048x2, .f32⟩
  | 58 => ⟨S1x8x2048x2, .f32⟩
  | 59 => ⟨S3x8x2048x2, .f32⟩
  | 60 => ⟨S_, .f32⟩
  | 61 => ⟨S8x2048x2, .f32⟩
  | 62 => ⟨S_, .f32⟩
  | 63 => ⟨S8x2048x2, .f32⟩
  | 64 => ⟨S8x2048x2, .f32⟩
  | 65 => ⟨S1x8x2048x2, .f32⟩
  | 66 => ⟨S3x8x2048x2, .f32⟩
  | 67 => ⟨S3x8x2048x2, .f32⟩
  | 68 => ⟨S3x8x2048x2, .f32⟩
  | 69 => ⟨S_, .f32⟩
  | 70 => ⟨S8x2048x2, .f32⟩
  | 71 => ⟨S1x8x2048x2, .f32⟩
  | 72 => ⟨S3x8x2048x2, .f32⟩
  | 73 => ⟨S3x8x2048x2, .f32⟩
  | 74 => ⟨S3x8x2048x2x1, .f32⟩
  | 75 => ⟨S1x8x2048x2x128, .f32⟩
  | 76 => ⟨S1x8x2048x2x128, .f32⟩
  | 77 => ⟨S1x8x2048x2x128, .f32⟩
  | 78 => ⟨S3x8x2048x2x128, .f32⟩
  | 79 => ⟨S3x8x2048x2x128, .f32⟩
  | 80 => ⟨S3x8x2048x2x128, .f32⟩
  | 81 => ⟨S_, .f32⟩
  | 82 => ⟨S8x2048x2x128, .f32⟩
  | 83 => ⟨S8x2048x256, .f32⟩
  | 84 => ⟨S8x2048x256, .bf16⟩
  | 85 => ⟨S2048x2048, .bf16⟩
  | 86 => ⟨S256x2048, .bf16⟩
  | 87 => ⟨S768x2048, .bf16⟩
  | 88 => ⟨S512x2048, .bf16⟩
  | 89 => ⟨S2048x1024, .bf16⟩
  | _ => ⟨S8x2048x5120, .bf16⟩

abbrev hbmTy (i : Nat) : BufTy := match i / 128 with
  | 0 => hbmTy0_0 i
  | 1 => hbmTy0_1 i
  | 2 => hbmTy0_2 i
  | _ => ⟨S8x2048x5120, .bf16⟩

abbrev bufTy : (tb : Table) → Fin (tcTables nBuf tb) → BufTy
  | .hbm, ⟨i, _⟩ => hbmTy i
  | _, _ => ⟨S8x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_3 : Ref sig .tc := ⟨.hbm, 57, rfl⟩
abbrev main_v44 : Ref sig .tc := ⟨.hbm, 58, rfl⟩
abbrev main_v45 : Ref sig .tc := ⟨.hbm, 59, rfl⟩
abbrev main_c_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_10 : Ref sig .tc := ⟨.hbm, 118, rfl⟩
abbrev main_call4_v0 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_11 : Ref sig .tc := ⟨.hbm, 125, rfl⟩
abbrev main_call5_v0 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_c_12 : Ref sig .tc := ⟨.hbm, 136, rfl⟩
abbrev main_call6_v0 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_c_13 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_c_14 : Ref sig .tc := ⟨.hbm, 157, rfl⟩
abbrev main_v126 : Ref sig .tc := ⟨.hbm, 158, rfl⟩
abbrev main_v127 : Ref sig .tc := ⟨.hbm, 159, rfl⟩
abbrev main_c_15 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_16 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_c_17 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_c_18 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_19 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_v148 : Ref sig .tc := ⟨.hbm, 188, rfl⟩
abbrev main_cst_20 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_21 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_c_22 : Ref sig .tc := ⟨.hbm, 218, rfl⟩
abbrev main_call8_v0 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_c_23 : Ref sig .tc := ⟨.hbm, 225, rfl⟩
abbrev main_call9_v0 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_c_24 : Ref sig .tc := ⟨.hbm, 236, rfl⟩
abbrev main_call10_v0 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_c_25 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_c_26 : Ref sig .tc := ⟨.hbm, 257, rfl⟩
abbrev main_v208 : Ref sig .tc := ⟨.hbm, 258, rfl⟩
abbrev main_v209 : Ref sig .tc := ⟨.hbm, 259, rfl⟩
abbrev main_c_27 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_c_28 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_c_29 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_c_30 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_cst_31 : Ref sig .tc := ⟨.hbm, 284, rfl⟩
abbrev main_call11_v0 : Ref sig .tc := ⟨.hbm, 285, rfl⟩
abbrev main_call11_v1 : Ref sig .tc := ⟨.hbm, 286, rfl⟩
abbrev main_call11_v2 : Ref sig .tc := ⟨.hbm, 287, rfl⟩
abbrev main_v230 : Ref sig .tc := ⟨.hbm, 288, rfl⟩
abbrev main_cst_32 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_cst_33 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_cst_34 : Ref sig .tc := ⟨.hbm, 316, rfl⟩
abbrev main_v256 : Ref sig .tc := ⟨.hbm, 317, rfl⟩
abbrev main_cst_35 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_cst_36 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_cst_37 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 6
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x11264, .f32⟩
  | .hbm, ⟨21, _⟩ => ⟨S5632x2048, .f32⟩
  | .hbm, ⟨22, _⟩ => ⟨S16384x11264, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S16x11264 : Shape := ⟨2, ![16, 11264]⟩
abbrev S32x2048 : Shape := ⟨2, ![32, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S2048x11264, .f32⟩
  | .hbm, ⟨6, _⟩ => ⟨S5632x2048, .f32⟩
  | .hbm, ⟨7, _⟩ => ⟨S2048x11264, .f32⟩
  | .hbm, ⟨8, _⟩ => ⟨S16384x2048, .f32⟩
  | .hbm, ⟨9, _⟩ => ⟨S2048x11264, .bf16⟩
  | .hbm, ⟨10, _⟩ => ⟨S5632x2048, .bf16⟩
  | .hbm, ⟨11, _⟩ => ⟨S2048x11264, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S16x11264, .f32⟩
  | .local _ .vmem, ⟨11, _⟩ => ⟨S16x11264, .f32⟩
  | .local _ .vmem, ⟨12, _⟩ => ⟨S32x2048, .f32⟩
  | .local _ .vmem, ⟨13, _⟩ => ⟨S32x2048, .f32⟩
  | .local _ .vmem, ⟨14, _⟩ => ⟨S16x11264, .f32⟩
  | .local _ .vmem, ⟨15, _⟩ => ⟨S16x11264, .f32⟩
  | .local _ .vmem, ⟨16, _⟩ => ⟨S1024x2048, .f32⟩
  | .local _ .vmem, ⟨17, _⟩ => ⟨S1024x2048, .f32⟩
  | .local _ .vmem, ⟨18, _⟩ => ⟨S16x11264, .bf16⟩
  | .local _ .vmem, ⟨19, _⟩ => ⟨S16x11264, .bf16⟩
  | .local _ .vmem, ⟨20, _⟩ => ⟨S32x2048, .bf16⟩
  | .local _ .vmem, ⟨21, _⟩ => ⟨S32x2048, .bf16⟩
  | .local _ .vmem, ⟨22, _⟩ => ⟨S16x11264, .bf16⟩
  | .local _ .vmem, ⟨23, _⟩ => ⟨S16x11264, .bf16⟩
  | .local _ .vmem, ⟨24, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c128_i32 : BitVec 32 := 128#32
  let v2 : BitVec 32 := Scalar.muli v1 c128_i32
  let c176_i32 : BitVec 32 := 176#32
  let v3 : BitVec 32 := Scalar.divsi v2 c176_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c176_i32 c0_i32_1
  let v10 : BitVec 32 := Scalar.extui v9
  let c0_i32_2 : BitVec 32 := 0#32
  let v11 : BitVec 1 := Scalar.cmpi .slt c176_i32 c0_i32_2
  let v12 : BitVec 32 := Scalar.extui v11
  let v13 : BitVec 32 := Scalar.subi v10 v12
  let v14 : BitVec 1 := Scalar.cmpi .ne v8 v13
  let v15 : BitVec 32 := Scalar.remsi v2 c176_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c176_i32 : BitVec 32 := 176#32
  let v2 : BitVec 32 := Scalar.muli v1 c176_i32
  let c176_i32_0 : BitVec 32 := 176#32
  let v3 : BitVec 32 := Scalar.divsi v2 c176_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c176_i32_0 c0_i32_2
  let v10 : BitVec 32 := Scalar.extui v9
  let c0_i32_3 : BitVec 32 := 0#32
  let v11 : BitVec 1 := Scalar.cmpi .slt c176_i32_0 c0_i32_3
  let v12 : BitVec 32 := Scalar.extui v11
  let v13 : BitVec 32 := Scalar.subi v10 v12
  let v14 : BitVec 1 := Scalar.cmpi .ne v8 v13
  let v15 : BitVec 32 := Scalar.remsi v2 c176_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c128_i32 : BitVec 32 := 128#32
  let v2 : BitVec 32 := Scalar.muli v1 c128_i32
  let c176_i32 : BitVec 32 := 176#32
  let v3 : BitVec 32 := Scalar.divsi v2 c176_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c176_i32 c0_i32_1
  let v10 : BitVec 32 := Scalar.extui v9
  let c0_i32_2 : BitVec 32 := 0#32
  let v11 : BitVec 1 := Scalar.cmpi .slt c176_i32 c0_i32_2
  let v12 : BitVec 32 := Scalar.extui v11
  let v13 : BitVec 32 := Scalar.subi v10 v12
  let v14 : BitVec 1 := Scalar.cmpi .ne v8 v13
  let v15 : BitVec 32 := Scalar.remsi v2 c176_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c128_i32 : BitVec 32 := 128#32
  let v2 : BitVec 32 := Scalar.muli v1 c128_i32
  let c176_i32 : BitVec 32 := 176#32
  let v3 : BitVec 32 := Scalar.divsi v2 c176_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c176_i32 c0_i32_1
  let v10 : BitVec 32 := Scalar.extui v9
  let c0_i32_2 : BitVec 32 := 0#32
  let v11 : BitVec 1 := Scalar.cmpi .slt c176_i32 c0_i32_2
  let v12 : BitVec 32 := Scalar.extui v11
  let v13 : BitVec 32 := Scalar.subi v10 v12
  let v14 : BitVec 1 := Scalar.cmpi .ne v8 v13
  let v15 : BitVec 32 := Scalar.remsi v2 c176_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c176_i32 : BitVec 32 := 176#32
  let v2 : BitVec 32 := Scalar.muli v1 c176_i32
  let c176_i32_0 : BitVec 32 := 176#32
  let v3 : BitVec 32 := Scalar.divsi v2 c176_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c176_i32_0 c0_i32_2
  let v10 : BitVec 32 := Scalar.extui v9
  let c0_i32_3 : BitVec 32 := 0#32
  let v11 : BitVec 1 := Scalar.cmpi .slt c176_i32_0 c0_i32_3
  let v12 : BitVec 32 := Scalar.extui v11
  let v13 : BitVec 32 := Scalar.subi v10 v12
  let v14 : BitVec 1 := Scalar.cmpi .ne v8 v13
  let v15 : BitVec 32 := Scalar.remsi v2 c176_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c128_i32 : BitVec 32 := 128#32
  let v2 : BitVec 32 := Scalar.muli v1 c128_i32
  let c176_i32 : BitVec 32 := 176#32
  let v3 : BitVec 32 := Scalar.divsi v2 c176_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c176_i32 c0_i32_1
  let v10 : BitVec 32 := Scalar.extui v9
  let c0_i32_2 : BitVec 32 := 0#32
  let v11 : BitVec 1 := Scalar.cmpi .slt c176_i32 c0_i32_2
  let v12 : BitVec 32 := Scalar.extui v11
  let v13 : BitVec 32 := Scalar.subi v10 v12
  let v14 : BitVec 1 := Scalar.cmpi .ne v8 v13
  let v15 : BitVec 32 := Scalar.remsi v2 c176_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x11264 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x11264 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x11264 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x11264 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16384x2048 : Shape := ⟨2, ![16384, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S16384x5632 : Shape := ⟨2, ![16384, 5632]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S2048x11264, .f32⟩
  | .hbm, ⟨6, _⟩ => ⟨S5632x2048, .f32⟩
  | .hbm, ⟨7, _⟩ => ⟨S2048x11264, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S2048x11264, .f32⟩
  | .hbm, ⟨24, _⟩ => ⟨S5632x2048, .f32⟩
  | .hbm, ⟨25, _⟩ => ⟨S16384x11264, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S2048x11264, .bf16⟩
  | .hbm, ⟨44, _⟩ => ⟨S5632x2048, .bf16⟩
  | .hbm, ⟨45, _⟩ => ⟨S2048x11264, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S16384x256 : Shape := ⟨2, ![16384, 256]⟩
abbrev S16384x768 : Shape := ⟨2, ![16384, 768]⟩
abbrev S16384x512 : Shape := ⟨2, ![16384, 512]⟩
abbrev S2048x11264 : Shape := ⟨2, ![2048, 11264]⟩
abbrev S256x2048 : Shape := ⟨2, ![256, 2048]⟩
abbrev S768x2048 : Shape := ⟨2, ![768, 2048]⟩
abbrev S512x2048 : Shape := ⟨2, ![512, 2048]⟩
abbrev S2048x2048 : Shape := ⟨2, ![2048, 2048]⟩
abbrev S1024x2048 : Shape := ⟨2, ![1024, 2048]⟩
abbrev S1024x256 : Shape := ⟨2, ![1024, 256]⟩
abbrev S1024x768 : Shape := ⟨2, ![1024, 768]⟩
abbrev S1024x512 : Shape := ⟨2, ![1024, 512]⟩
abbrev S2048x256 : Shape := ⟨2, ![2048, 256]⟩
abbrev S256x256 : Shape := ⟨2, ![256, 256]⟩
abbrev S768x256 : Shape := ⟨2, ![768, 256]⟩
abbrev S512x256 : Shape := ⟨2, ![512, 256]⟩
abbrev S2x1024x256 : Shape := ⟨3, ![2, 1024, 256]⟩
abbrev S1x1024x256 : Shape := ⟨3, ![1, 1024, 256]⟩
abbrev S1024 : Shape := ⟨1, ![1024]⟩
abbrev S1024x1 : Shape := ⟨2, ![1024, 1]⟩

abbrev nBuf : Space → Nat
  | .hbm => 11
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x256, .bf16⟩
  | .hbm, ⟨3, _⟩ => ⟨S16384x768, .bf16⟩
  | .hbm, ⟨4, _⟩ => ⟨S16384x512, .bf16⟩
  | .hbm, ⟨5, _⟩ => ⟨S2048x11264, .bf16⟩
  | .hbm, ⟨6, _⟩ => ⟨S256x2048, .bf16⟩
  | .hbm, ⟨7, _⟩ => ⟨S768x2048, .bf16⟩
  | .hbm, ⟨8, _⟩ => ⟨S512x2048, .bf16⟩
  | .hbm, ⟨9, _⟩ => ⟨S2048x2048, .bf16⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x256, .bf16⟩
  | .local _ .vmem, ⟨4, _⟩ => ⟨S1024x256, .bf16⟩
  | .local _ .vmem, ⟨5, _⟩ => ⟨S1024x768, .bf16⟩
  | .local _ .vmem, ⟨6, _⟩ => ⟨S1024x768, .bf16⟩
  | .local _ .vmem, ⟨7, _⟩ => ⟨S1024x512, .bf16⟩
  | .local _ .vmem, ⟨8, _⟩ => ⟨S1024x512, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S256x256, .bf16⟩
  | .local _ .vmem, ⟨16, _⟩ => ⟨S256x256, .bf16⟩
  | .local _ .vmem, ⟨17, _⟩ => ⟨S768x256, .bf16⟩
  | .local _ .vmem, ⟨18, _⟩ => ⟨S768x256, .bf16⟩
  | .local _ .vmem, ⟨19, _⟩ => ⟨S512x256, .bf16⟩
  | .local _ .vmem, ⟨20, _⟩ => ⟨S512x256, .bf16⟩
  | .local _ .vmem, ⟨21, _⟩ => ⟨S256x2048, .bf16⟩
  | .local _ .vmem, ⟨22, _⟩ => ⟨S256x2048, .bf16⟩
  | .local _ .vmem, ⟨23, _⟩ => ⟨S1024x2048, .f32⟩
  | .local _ .vmem, ⟨24, _⟩ => ⟨S1024x2048, .f32⟩
  | .local _ .vmem, ⟨25, _⟩ => ⟨S1024x2048, .bf16⟩
  | .local _ .vmem, ⟨26, _⟩ => ⟨S2x1024x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32_23 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : BitVec 32 := Scalar.subi c1_i32_23 v9
  let v43 : Index := Scalar.indexCast v42
  let c0_24 : Index := 0#32
  let c0_25 : Index := 0#32
  ![v43.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v75 : Index := Scalar.indexCast v9
  let c0_56 : Index := 0#32
  let c0_57 : Index := 0#32
  ![v75.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c20_i32 : BitVec 32 := 20#32
  let v11 : BitVec 32 := Scalar.addi v10 c20_i32
  let c0_i32_3 : BitVec 32 := 0#32
  let c0_i32_4 : BitVec 32 := 0#32
  ![c0_i32_3.toNat, v11.toNat]

def cc0_transform_6 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c28_i32 : BitVec 32 := 28#32
  let v11 : BitVec 32 := Scalar.addi v10 c28_i32
  let c0_i32_3 : BitVec 32 := 0#32
  let c0_i32_4 : BitVec 32 := 0#32
  ![c0_i32_3.toNat, v11.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c36_i32 : BitVec 32 := 36#32
  let v11 : BitVec 32 := Scalar.addi v10 c36_i32
  let c0_i32_3 : BitVec 32 := 0#32
  let c0_i32_4 : BitVec 32 := 0#32
  ![c0_i32_3.toNat, v11.toNat]

def cc0_transform_8 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.addi v10 c0_i32_3
  let c0_i32_4 : BitVec 32 := 0#32
  let c0_i32_5 : BitVec 32 := 0#32
  ![c0_i32_4.toNat, v11.toNat]

def cc0_transform_9 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.addi v10 c0_i32_3
  let c0_i32_4 : BitVec 32 := 0#32
  let c0_i32_5 : BitVec 32 := 0#32
  ![c0_i32_4.toNat, v11.toNat]

def cc0_transform_10 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.addi v10 c0_i32_3
  let c0_i32_4 : BitVec 32 := 0#32
  let c0_i32_5 : BitVec 32 := 0#32
  ![c0_i32_4.toNat, v11.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x2048 : Shape := ⟨2, ![16384, 2048]⟩
abbrev S1x2048 : Shape := ⟨2, ![1, 2048]⟩
abbrev S16384x256 : Shape := ⟨2, ![16384, 256]⟩
abbrev S16384x768 : Shape := ⟨2, ![16384, 768]⟩
abbrev S16384x512 : Shape := ⟨2, ![16384, 512]⟩
abbrev S2048x11264 : Shape := ⟨2, ![2048, 11264]⟩
abbrev S256x2048 : Shape := ⟨2, ![256, 2048]⟩
abbrev S768x2048 : Shape := ⟨2, ![768, 2048]⟩
abbrev S512x2048 : Shape := ⟨2, ![512, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S16384x6144 : Shape := ⟨2, ![16384, 6144]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x256, .bf16⟩
  | .hbm, ⟨3, _⟩ => ⟨S16384x768, .bf16⟩
  | .hbm, ⟨4, _⟩ => ⟨S16384x512, .bf16⟩
  | .hbm, ⟨5, _⟩ => ⟨S2048x11264, .bf16⟩
  | .hbm, ⟨6, _⟩ => ⟨S256x2048, .bf16⟩
  | .hbm, ⟨7, _⟩ => ⟨S768x2048, .bf16⟩
  | .hbm, ⟨8, _⟩ => ⟨S512x2048, .bf16⟩
  | .hbm, ⟨9, _⟩ => ⟨S2048x2048, .bf16⟩
  | .hbm, ⟨10, _⟩ => ⟨S16384x256, .f32⟩
  | .hbm, ⟨11, _⟩ => ⟨S16384x768, .f32⟩
  | .hbm, ⟨12, _⟩ => ⟨S16384x512, .f32⟩
  | .hbm, ⟨13, _⟩ => ⟨S2048x11264, .f32⟩
  | .hbm, ⟨14, _⟩ => ⟨S256x2048, .f32⟩
  | .hbm, ⟨15, _⟩ => ⟨S768x2048, .f32⟩
  | .hbm, ⟨16, _⟩ => ⟨S512x2048, .f32⟩
  | .hbm, ⟨17, _⟩ => ⟨S2048x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x11264, .f32⟩
  | .hbm, ⟨34, _⟩ => ⟨S16384x6144, .f32⟩
  | .hbm, ⟨35, _⟩ => ⟨S16384x6144, .f32⟩
  | .hbm, ⟨36, _⟩ => ⟨S16384x6144, .f32⟩
  | .hbm, ⟨37, _⟩ => ⟨S_, .f32⟩
  | .hbm, ⟨38, _⟩ => ⟨S16384x6144, .f32⟩
  | .hbm, ⟨39, _⟩ => ⟨S16384x6144, .f32⟩
  | .hbm, ⟨40, _⟩ => ⟨S_, .f32⟩
  | .hbm, ⟨41, _⟩ => ⟨S16384x6144, .f32⟩
  | .hbm, ⟨42, _⟩ => ⟨S16384x6144, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Band.lean ====
/-
Banded attention of one query, in plain form: a query at position `p` of a sequence of `L` positions sees the
positions at distance at most 64. Everything is stated of extended reals, for rows `Q`, `K`, `V` of 128 lanes.
-/
module

public import Idealize.ShloMosaic.PureOps
public import Idealize.ShloMosaic.PureOps.Ideal

@[expose] public section

noncomputable section

namespace Cert.Band

open Idealize.ShloMosaic

/-- The positions of a sequence of `L` that a query at `p` sees. -/
def near (L p : ℕ) : Finset ℕ := (Finset.range L).filter fun x => x ≤ p + 64 ∧ p ≤ x + 64

/-- A sequence of rows of 128 lanes. -/
abbrev Rows := ℕ → Fin 128 → EReal

/-- The score of the key at `x` for the query at `p`. -/
def score (Q K : Rows) (p x : ℕ) : EReal := ∑ e, Q p e * K x e

/-- The largest score that the query at `p` sees. -/
def top (Q K : Rows) (L p : ℕ) : EReal := (near L p).sup (score Q K p)

/-- The weight of the key at `x`: the exponential of its score less the largest one. -/
def weight (Q K : Rows) (L p x : ℕ) : EReal := Ideal.exp (score Q K p x - top Q K L p)

/-- The sum of the weights. -/
def total (Q K : Rows) (L p : ℕ) : EReal := ∑ x ∈ near L p, weight Q K L p x

/-- The weighted sum of the values. -/
def mix (Q K V : Rows) (L p : ℕ) (e : Fin 128) : EReal := ∑ x ∈ near L p, weight Q K L p x * V x e

/-- The attention's output for the query at `p`. -/
def out (Q K V : Rows) (L p : ℕ) (e : Fin 128) : EReal := Ideal.div (mix Q K V L p e) (total Q K L p)

/-- The logarithm of the softmax's denominator. -/
def lse (Q K : Rows) (L p : ℕ) : EReal := top Q K L p + Ideal.log (total Q K L p)

/-- The indices `j` with `valid j` enumerate `S` without repetition, `j` standing for the position `pos j`. -/
structure Enum {ι : Type} (valid : ι → Prop) (pos : ι → ℕ) (S : Finset ℕ) : Prop where
  mem : ∀ j, valid j → pos j ∈ S
  inj : ∀ j j', valid j → valid j' → pos j = pos j' → j = j'
  surj : ∀ x ∈ S, ∃ j, valid j ∧ pos j = x

section
variable {ι : Type} [Fintype ι] {valid : ι → Prop} [DecidablePred valid] {pos : ι → ℕ} {S : Finset ℕ}

/-- A sum over all indices whose terms outside `valid` vanish is the sum over the positions. -/
theorem Enum.sum_eq (h : Enum valid pos S) (f : ℕ → EReal) :
    (∑ j, if valid j then f (pos j) else 0) = ∑ x ∈ S, f x := by
  rw [← Finset.sum_filter]
  refine Finset.sum_bij (fun j _ => pos j) ?_ ?_ ?_ ?_
  · intro j hj; exact h.mem j (Finset.mem_filter.1 hj).2
  · intro j hj j' hj' e; exact h.inj j j' (Finset.mem_filter.1 hj).2 (Finset.mem_filter.1 hj').2 e
  · intro x hx
    obtain ⟨j, hv, e⟩ := h.surj x hx
    exact ⟨j, Finset.mem_filter.2 ⟨Finset.mem_univ _, hv⟩, e⟩
  · intro j _; rfl

/-- A largest value over all indices, −∞ outside `valid`, is the largest value over the positions. -/
theorem Enum.sup_eq (h : Enum valid pos S) (f : ℕ → EReal) :
    (Finset.univ.sup fun j => if valid j then f (pos j) else ⊥) = S.sup f := by
  apply le_antisymm
  · refine Finset.sup_le fun j _ => ?_
    by_cases hv : valid j
    · rw [if_pos hv]; exact Finset.le_sup (h.mem j hv)
    · rw [if_neg hv]; exact bot_le
  · refine Finset.sup_le fun x hx => ?_
    obtain ⟨j, hv, e⟩ := h.surj x hx
    refine le_trans ?_ (Finset.le_sup (Finset.mem_univ j))
    simp only [if_pos hv, e, le_refl]

end

/-- Subtracting from −∞ leaves −∞. -/
theorem bot_sub (x : EReal) : (⊥ : EReal) - x = ⊥ := by rw [sub_eq_add_neg, EReal.bot_add]

section
variable {ι : Type} [Fintype ι] {valid : ι → Prop} [DecidablePred valid] {pos : ι → ℕ} {L p : ℕ}
  {Q K V : Rows} {s : ι → EReal}

/-- Masked scores, −∞ outside the band, have the band's largest score. -/
theorem top_eq (h : Enum valid pos (near L p)) (hs : ∀ j, s j = if valid j then score Q K p (pos j) else ⊥) :
    Finset.univ.sup s = top Q K L p := by
  rw [show s = _ from funext hs]; exact h.sup_eq (score Q K p)

/-- The exponential of a masked score less the largest is the key's weight inside the band, nothing outside. -/
theorem exp_eq (hs : ∀ j, s j = if valid j then score Q K p (pos j) else ⊥) (j : ι) :
    Ideal.exp (s j - top Q K L p) = if valid j then weight Q K L p (pos j) else 0 := by
  rw [hs j]
  split
  · rfl
  · rw [bot_sub]; rfl

/-- Masked scores' exponentials sum to the band's total weight. -/
theorem total_eq (h : Enum valid pos (near L p)) (hs : ∀ j, s j = if valid j then score Q K p (pos j) else ⊥) :
    (∑ j, Ideal.exp (s j - top Q K L p)) = total Q K L p := by
  simp only [exp_eq hs]; exact h.sum_eq (weight Q K L p)

/-- The values weighted with masked scores' exponentials sum to the band's mix, whatever stands outside the band. -/
theorem mix_eq (h : Enum valid pos (near L p)) (hs : ∀ j, s j = if valid j then score Q K p (pos j) else ⊥)
    {e : Fin 128} {v : ι → EReal} (hv : ∀ j, valid j → v j = V (pos j) e) :
    (∑ j, Ideal.exp (s j - top Q K L p) * v j) = mix Q K V L p e := by
  rw [mix, ← h.sum_eq]
  refine Finset.sum_congr rfl fun j _ => ?_
  rw [exp_eq hs j]
  by_cases hj : valid j
  · rw [if_pos hj, if_pos hj, hv j hj]
  · rw [if_neg hj, if_neg hj, zero_mul]

end

end Cert.Band

end
-- ==== Proof.Tile.lean ====
/-
One tile of the kernel: 128 queries against `n` consecutive keys, masked by an additive table. The tile's operations
are stated for any `n`, and read at an index where the operands are rows of sequences.
-/
module

public import proofs.«01_k».proof.Proof.Band
public import Idealize.ShloMosaic.PureOps.Ideal.Laws
public import Idealize.ShloMosaic.Lib.MatmulPlain
public import Idealize.ShloMosaic.Lib.Pipeline.Value
public import Idealize.ShloMosaic.Lib.ValueIdxCore
public import Idealize.ShloMosaic.Lib.Pointwise

@[expose] public section

set_option maxRecDepth 16384

noncomputable section

namespace Cert.Tile

open Idealize.ShloMosaic hiding ix1 ix2 ix3
open Idealize.ShloMosaic.ValueIdx Cert.Band

/-- The shape of an array of `a` rows and `b` columns. -/
abbrev Sh (a b : ℕ) : Shape := ⟨2, ![a, b]⟩

/-- The shape of a column of 128. -/
abbrev Sh1 : Shape := ⟨1, ![128]⟩

/-- What the shapes of a tile of `n` keys are known to satisfy. -/
structure Fits (n : ℕ) : Prop where
  same : (Sh 128 n).ShapeCasts (Sh 128 n)
  reduces : (Sh 128 n).Reduces [1] Sh1
  spreads : (Sh 128 1).Broadcasts (Sh 128 n)
  column : Sh1.ShapeCasts (Sh 128 1)
  narrow : FTy.bits .bf16 < FTy.bits .f32

variable {n : ℕ} (h : Fits n) (h' : (Sh 128 1).Broadcasts (Sh 128 128))

/-- The masked scores. -/
def scores (q : FVec Ideal (Sh 128 128) .bf16) (k : FVec Ideal (Sh n 128) .bf16) (tab : FVec Ideal (Sh 128 n) .f32) :
    FVec Ideal (Sh 128 n) .f32 :=
  addf (matmul (DotDims.transposedRhs 128 128 n) none q k (constant (Sh 128 n) .f32 0x00000000#32))
    (shapeCast (Sh 128 n) tab h.same)

/-- Each row's largest score. -/
def maxes (s : FVec Ideal (Sh 128 n) .f32) : FVec Ideal (Sh 128 1) .f32 :=
  shapeCast (Sh 128 1) (multiReduction .maximumf [1] Sh1 s 0xFF800000#32 h.reduces (.inl rfl) rfl) h.column

/-- The exponentials of the scores less their row's largest. -/
def probs (s : FVec Ideal (Sh 128 n) .f32) : FVec Ideal (Sh 128 n) .f32 :=
  exp (subf s (broadcastTo (Sh 128 n) (maxes h s) h.spreads))

/-- Each row's sum of exponentials. -/
def dens (s : FVec Ideal (Sh 128 n) .f32) : FVec Ideal (Sh 128 1) .f32 :=
  shapeCast (Sh 128 1) (multiReduction .add [1] Sh1 (probs h s) 0x00000000#32 h.reduces (.inl rfl) rfl) h.column

/-- The tile's output rows. -/
def outs (s : FVec Ideal (Sh 128 n) .f32) (v : FVec Ideal (Sh n 128) .bf16) : FVec Ideal (Sh 128 128) .f32 :=
  divf (matmul (DotDims.plain 128 n 128) none (truncf .bf16 (probs h s) h.narrow) v
    (constant (Sh 128 128) .f32 0x00000000#32)) (broadcastTo (Sh 128 128) (dens h s) h')

/-- The logarithm of each row's softmax denominator. -/
def lses (s : FVec Ideal (Sh 128 n) .f32) : FVec Ideal (Sh 128 1) .f32 := addf (maxes h s) (log (dens h s))

/-! ## At an index -/

theorem scores_apply (q : FVec Ideal (Sh 128 128) .bf16) (k : FVec Ideal (Sh n 128) .bf16)
    (tab : FVec Ideal (Sh 128 n) .f32) (i : Fin 128) (j : Fin n) :
    scores h q k tab (ix2 i j) = (∑ e : Fin 128, q (ix2 i e) * k (ix2 j e)) + tab (ix2 i j) := by
  show FloatOps.matmul _ _ q k _ (ix2 i j) + shapeCast (Sh 128 n) tab h.same (ix2 i j) = _
  rw [Ideal.matmul_transposedRhs_apply, shapeCast_apply tab h.same (ix2 i j) (ix2 i j) rfl]
  show Ideal.ofBits .f32 0x00000000#32 + _ + _ = _
  rw [Ideal.ofBits_zero_f32, zero_add]

theorem spread_apply {m : ℕ} (x : FVec Ideal (Sh 128 1) .f32) (hb : (Sh 128 1).Broadcasts (Sh 128 m)) (i : Fin 128)
    (j : Fin m) : broadcastTo (Sh 128 m) x hb (ix2 i j) = x (ix2 i 0) := by
  refine broadcastTo_apply x hb (ix2 i j) (ix2 i 0) fun a => ?_
  match a with
  | ⟨0, _⟩ => rfl
  | ⟨1, _⟩ => rfl

theorem column_apply (x : FVec Ideal Sh1 .f32) (hc : Sh1.ShapeCasts (Sh 128 1)) (i : Fin 128) :
    shapeCast (Sh 128 1) x hc (ix2 i 0) = x (ix1 i) :=
  shapeCast_apply x hc (ix2 i 0) (ix1 i) (by
    rw [Idealize.ShloMosaic.rowMajor_val1, Idealize.ShloMosaic.rowMajor_val2 _ 1 rfl]; show i.val = i.val * 1 + 0; omega)

theorem lift_eq (hr : (Sh 128 n).Reduces [1] Sh1) (i : Fin 128) (j : Fin n) : hr.lift (ix1 i) j = ix2 i j := by
  funext a
  refine Fin.ext ((Shape.Reduces.lift_val hr (ix1 i) j a).trans ?_)
  match a with
  | ⟨0, _⟩ => rfl
  | ⟨1, _⟩ => rfl

/-- The float word of −∞. -/
theorem negInf : Ideal.ofBits .f32 0xFF800000#32 = ⊥ := by simp [Ideal.ofBits, Ideal.ieee]

theorem maxes_apply (s : FVec Ideal (Sh 128 n) .f32) (i : Fin 128) :
    maxes h s (ix2 i 0) = Finset.univ.sup fun j : Fin n => s (ix2 i j) := by
  unfold maxes
  rw [column_apply]
  refine (Ideal.multiReduction_maximumf_single s _ h.reduces _ _ (ix1 i)).trans ?_
  rw [show (FloatOps.ofBits (F := Ideal) .f32 0xFF800000#32) = (⊥ : EReal) from negInf]
  exact Finset.fold_congr fun j _ => congrArg s (lift_eq h.reduces i j)

theorem probs_apply (s : FVec Ideal (Sh 128 n) .f32) (i : Fin 128) (j : Fin n) :
    probs h s (ix2 i j) = Ideal.exp (s (ix2 i j) - Finset.univ.sup fun j : Fin n => s (ix2 i j)) := by
  show Ideal.exp (s (ix2 i j) - broadcastTo (Sh 128 n) (maxes h s) h.spreads (ix2 i j)) = _
  rw [spread_apply, maxes_apply]

theorem dens_apply (s : FVec Ideal (Sh 128 n) .f32) (i : Fin 128) :
    dens h s (ix2 i 0) = ∑ j : Fin n, probs h s (ix2 i j) := by
  unfold dens
  rw [column_apply]
  refine (Ideal.multiReduction_add_single (probs h s) _ h.reduces _ _ (ix1 i)).trans ?_
  exact Finset.sum_congr rfl fun j _ => congrArg (probs h s) (lift_eq h.reduces i j)

theorem outs_apply (s : FVec Ideal (Sh 128 n) .f32) (v : FVec Ideal (Sh n 128) .bf16) (i e : Fin 128) :
    outs h h' s v (ix2 i e) = Ideal.div (∑ j : Fin n, probs h s (ix2 i j) * v (ix2 j e)) (dens h s (ix2 i 0)) := by
  show Ideal.div (FloatOps.matmul _ _ (truncf .bf16 (probs h s) h.narrow) v _ (ix2 i e))
    (broadcastTo (Sh 128 128) (dens h s) h' (ix2 i e)) = _
  rw [Ideal.matmul_plain_apply, spread_apply]
  show Ideal.div (Ideal.ofBits .f32 0x00000000#32 + _) _ = _
  rw [Ideal.ofBits_zero_f32, zero_add]
  rfl

theorem lses_apply (s : FVec Ideal (Sh 128 n) .f32) (i : Fin 128) :
    lses h s (ix2 i 0) = (Finset.univ.sup fun j : Fin n => s (ix2 i j)) + Ideal.log (dens h s (ix2 i 0)) := by
  show maxes h s (ix2 i 0) + Ideal.log (dens h s (ix2 i 0)) = _
  rw [maxes_apply]

/-! ## A tile of rows of sequences -/

section
variable {L i0 lo : ℕ} {Q K V : Rows} {q : FVec Ideal (Sh 128 128) .bf16} {k v : FVec Ideal (Sh n 128) .bf16}
  {tab : FVec Ideal (Sh 128 n) .f32}

/-- Where a tile of 128 queries from `i0` against `n` keys from `lo` lies in a sequence of `L`: all that its queries
see is among its keys. -/
structure Place (L i0 lo n : ℕ) : Prop where
  fits : lo + n ≤ L
  left : lo = 0 ∨ lo + 64 ≤ i0
  right : lo + n = L ∨ i0 + 192 ≤ lo + n

/-- Whether the tile's query `i` sees the tile's key `j`. -/
def Sees (i0 lo : ℕ) (i : Fin 128) (j : Fin n) : Prop := lo + j.val ≤ i0 + i.val + 64 ∧ i0 + i.val ≤ lo + j.val + 64

instance (i : Fin 128) : DecidablePred (Sees (n := n) i0 lo i) := fun _ => inferInstanceAs (Decidable (_ ∧ _))

theorem Place.enum (hp : Place L i0 lo n) (i : Fin 128) :
    Enum (Sees (n := n) i0 lo i) (fun j => lo + j.val) (near L (i0 + i.val)) where
  mem j hj := Finset.mem_filter.2 ⟨Finset.mem_range.2 (by have := hp.fits; have := j.2; omega), hj⟩
  inj j j' _ _ e := Fin.ext (by have : lo + j.val = lo + j'.val := e; omega)
  surj x hx := by
    obtain ⟨hx, hb⟩ := Finset.mem_filter.1 hx
    have hx := Finset.mem_range.1 hx
    have := hp.left; have := hp.right; have := i.2
    refine ⟨⟨x - lo, by omega⟩, ?_, ?_⟩
    · show lo + (x - lo) ≤ _ ∧ _ ≤ lo + (x - lo) + 64
      omega
    · show lo + (x - lo) = x
      omega

theorem masked (hq : ∀ i e, q (ix2 i e) = Q (i0 + i.val) e) (hk : ∀ j e, k (ix2 j e) = K (lo + j.val) e)
    (ht : ∀ i j, tab (ix2 i j) = if Sees i0 lo i j then 0 else ⊥) (i : Fin 128) (j : Fin n) :
    scores h q k tab (ix2 i j) = if Sees i0 lo i j then score Q K (i0 + i.val) (lo + j.val) else ⊥ := by
  rw [scores_apply, ht]
  split
  · rw [add_zero]; exact Finset.sum_congr rfl fun e _ => by rw [hq, hk]
  · exact EReal.add_bot _

/-- The tile's sums of exponentials are its queries' total weights. -/
theorem dens_band (hp : Place L i0 lo n) (hq : ∀ i e, q (ix2 i e) = Q (i0 + i.val) e)
    (hk : ∀ j e, k (ix2 j e) = K (lo + j.val) e)
    (ht : ∀ i j, tab (ix2 i j) = if Sees i0 lo i j then 0 else ⊥) (i : Fin 128) :
    dens h (scores h q k tab) (ix2 i 0) = total Q K L (i0 + i.val) := by
  rw [dens_apply]
  simp only [probs_apply]
  rw [top_eq (hp.enum i) (masked h hq hk ht i)]
  exact total_eq (hp.enum i) (masked h hq hk ht i)

/-- The tile's output rows are the banded attention of its queries. -/
theorem outs_band (hp : Place L i0 lo n) (hq : ∀ i e, q (ix2 i e) = Q (i0 + i.val) e)
    (hk : ∀ j e, k (ix2 j e) = K (lo + j.val) e) (hv : ∀ j e, v (ix2 j e) = V (lo + j.val) e)
    (ht : ∀ i j, tab (ix2 i j) = if Sees i0 lo i j then 0 else ⊥) (i e : Fin 128) :
    outs h h' (scores h q k tab) v (ix2 i e) = out Q K V L (i0 + i.val) e := by
  rw [outs_apply, dens_band h hp hq hk ht]
  simp only [probs_apply]
  rw [top_eq (hp.enum i) (masked h hq hk ht i), mix_eq (hp.enum i) (masked h hq hk ht i) fun j _ => hv j e]
  rfl

/-- The tile's second result is the logarithm of its queries' softmax denominators. -/
theorem lses_band (hp : Place L i0 lo n) (hq : ∀ i e, q (ix2 i e) = Q (i0 + i.val) e)
    (hk : ∀ j e, k (ix2 j e) = K (lo + j.val) e)
    (ht : ∀ i j, tab (ix2 i j) = if Sees i0 lo i j then 0 else ⊥) (i : Fin 128) :
    lses h (scores h q k tab) (ix2 i 0) = lse Q K L (i0 + i.val) := by
  rw [lses_apply, dens_band h hp hq hk ht, top_eq (hp.enum i) (masked h hq hk ht i)]
  rfl

end

end Cert.Tile

end
-- ==== Proof.Body.lean ====
/-
What one run of the kernel's body stores, written out: the two dilated groups' tiles into the scratch, then the own
group's tiles merged with them into the output block.
-/
module

public import proofs.«01_k».proof.Proof.Tile
public import proofs.«01_k».proof.Proof.Gen.KernelIdeal.Frame

@[expose] public section

set_option maxRecDepth 16384

noncomputable section

namespace Cert.Body

open Idealize.ShloMosaic hiding ix1 ix2 ix3
open Idealize.ShloMosaic.ValueIdx Idealize.ShloMosaic.TcCoe Idealize.ShloMosaic.Tactic
open Idealize.SL Idealize.SL.Sem
open Cert.KernelIdeal.Gen Cert.KernelIdeal Cert.Tile

/-- What the body reads: the nine blocks of queries, keys and values, the table by rectangle, and the scratch. -/
structure Ins where
  x0 : Vec Ideal S1x2048x128 .bf16
  x1 : Vec Ideal S1x2048x128 .bf16
  x2 : Vec Ideal S1x2048x128 .bf16
  x3 : Vec Ideal S1x2048x128 .bf16
  x4 : Vec Ideal S1x2048x128 .bf16
  x5 : Vec Ideal S1x2048x128 .bf16
  x6 : Vec Ideal S1x2048x128 .bf16
  x7 : Vec Ideal S1x2048x128 .bf16
  x8 : Vec Ideal S1x2048x128 .bf16
  tb : (r : LoadRect S128x384) → r.shape.Idx → EReal
  qf : Memref sig .tc .vmem S2048x128 .f32
  kf : Memref sig .tc .vmem S2048x128 .f32
  vf : Memref sig .tc .vmem S2048x128 .f32
  o0 : Memref sig .tc .vmem S2048x128 .f32
  o1 : Memref sig .tc .vmem S2048x128 .f32
  l0 : Memref sig .tc .vmem S2048x128 .f32
  l1 : Memref sig .tc .vmem S2048x128 .f32

/-- The first key of tile `b`. -/
def lo (b : ℕ) : ℕ := 128 * b - 128

/-- The number of keys of tile `b` in a sequence of `len`. -/
def width (len b : ℕ) : ℕ := min len (128 * b + 256) - lo b

/-- The table's first column for tile `b`. -/
def col (b : ℕ) : ℕ := lo b + 128 - 128 * b

theorem fits (n : ℕ) (hn : n = 128 ∨ n = 256 ∨ n = 384) : Fits n := by
  rcases hn with rfl | rfl | rfl <;> exact ⟨by decide, by decide, by decide, by decide, by decide⟩

theorem width_512 (b : Fin 4) : width 512 b = 128 ∨ width 512 b = 256 ∨ width 512 b = 384 := by
  revert b; decide

theorem width_2048 (b : Fin 16) : width 2048 b = 128 ∨ width 2048 b = 256 ∨ width 2048 b = 384 := by
  revert b; decide

theorem tab_inb (n c : ℕ) (h : c + n ≤ 384) : ∀ a, (![0, c] : Fin 2 → ℕ) a + (![128, n] : Fin 2 → ℕ) a ≤ S128x384.size a :=
  Rect.inb₂ (Nat.le_refl 128) h

/-- The table's rectangle for `n` keys from column `c`. -/
abbrev tabRect (n c : ℕ) (h : c + n ≤ 384) : Rect S128x384 := Rect.unit ![0, c] ![128, n] (tab_inb n c h)

/-- The part of the table for `n` keys from column `c`. -/
def tab (i : Ins) (n c : ℕ) (h : c + n ≤ 384) : FVec Ideal (Sh 128 n) .f32 := i.tb (tabRect n c h).toLoadRect

/-- A block of rows widened to f32, as it is stored in the scratch. -/
def wide (x : Vec Ideal S1x2048x128 .bf16) : FVec Ideal S2048x128 .f32 :=
  shapeCast S2048x128 (extf .f32 (shapeCast S2048x128 x shapeCasts_S1x2048x128_S2048x128) bitsLt_bf16_f32)
    shapeCasts_S2048x128_S2048x128

abbrev Pieces : Type := List (View.Piece (Elt Ideal) S2048x128 .f32)

/-- The store of a whole block of rows into the scratch. -/
def fill (x : Vec Ideal S1x2048x128 .bf16) : View.Piece (Elt Ideal) S2048x128 .f32 :=
  ⟨Rect.unit ![0, 0] ![2048, 128] inb_S2048x128_S2048x128_0_0, wide x⟩

theorem inb4 (r : Fin 4) : ∀ a, (![512, 128] : Fin 2 → ℕ) a = 0 ∨
    (![r.val, 0] : Fin 2 → ℕ) a + (![4, 1] : Fin 2 → ℕ) a * ((![512, 128] : Fin 2 → ℕ) a - 1) < S2048x128.size a := by
  revert r; decide

theorem inb16 (r : Fin 16) : ∀ a, (![128, 128] : Fin 2 → ℕ) a = 0 ∨
    (![r.val, 0] : Fin 2 → ℕ) a + (![16, 1] : Fin 2 → ℕ) a * ((![128, 128] : Fin 2 → ℕ) a - 1) < S2048x128.size a := by
  revert r; decide

/-- The rows of residue `r` modulo 4. -/
def rows4 (s : Memref sig .tc .vmem S2048x128 .f32) (L : Pieces) (r : Fin 4) : FVec Ideal (Sh 512 128) .bf16 :=
  truncf .bf16 (s.view.readCov (Val := Elt Ideal) L ⟨![r.val, 0], ![512, 128], ![4, 1], inb4 r⟩) bitsLt_bf16_f32

/-- The rows of residue `r` modulo 16. -/
def rows16 (s : Memref sig .tc .vmem S2048x128 .f32) (L : Pieces) (r : Fin 16) : FVec Ideal (Sh 128 128) .bf16 :=
  truncf .bf16 (s.view.readCov (Val := Elt Ideal) L ⟨![r.val, 0], ![128, 128], ![16, 1], inb16 r⟩) bitsLt_bf16_f32

theorem cut_ok (len n o : ℕ) (h : o + n ≤ len) : (Sh len 128).Slices ![o, 0] (Sh n 128) :=
  ⟨rfl, fun a => by
    match a with
    | ⟨0, _⟩ => exact h
    | ⟨1, _⟩ => exact Nat.le_refl 128⟩

/-- `n` rows from row `o` on. -/
def cut (len n o : ℕ) (h : o + n ≤ len) (x : FVec Ideal (Sh len 128) .bf16) : FVec Ideal (Sh n 128) .bf16 :=
  extractStridedSlice (Sh n 128) ![o, 0] x (cut_ok len n o h)

theorem key_512 (b : Fin 4) : lo b + width 512 b ≤ 512 := by revert b; decide
theorem key_2048 (b : Fin 16) : lo b + width 2048 b ≤ 2048 := by revert b; decide
theorem col_512 (b : Fin 4) : col b + width 512 b ≤ 384 := by revert b; decide
theorem col_2048 (b : Fin 16) : col b + width 2048 b ≤ 384 := by revert b; decide
theorem qry_512 (b : Fin 4) : 128 * b.val + 128 ≤ 512 := by omega
theorem qry_2048 (b : Fin 16) : 128 * b.val + 128 ≤ 2048 := by omega

/-- A tile's output as it is stored. -/
def stO (o : FVec Ideal (Sh 128 128) .f32) : FVec Ideal (Sh 128 128) .f32 :=
  shapeCast S128x128 o shapeCasts_S128x128_S128x128

/-- A tile's logarithms spread over the lanes. -/
def spread (l : FVec Ideal (Sh 128 1) .f32) : FVec Ideal (Sh 128 128) .f32 :=
  broadcastTo S128x128 (shapeCast S128x1 l shapeCasts_S128x1_S128x1) broadcasts_S128x1_S128x128

/-- A tile's logarithms as they are stored. -/
def stL (l : FVec Ideal (Sh 128 1) .f32) : FVec Ideal (Sh 128 128) .f32 :=
  shapeCast S128x128 (spread l) shapeCasts_S128x128_S128x128

variable (i : Ins)

/-! ## Dilation 4 -/

def scores4 (r b : Fin 4) : FVec Ideal (Sh 128 (width 512 b)) .f32 :=
  scores (fits _ (width_512 b)) (cut 512 128 (128 * b.val) (qry_512 b) (rows4 i.qf [fill i.x3] r))
    (cut 512 (width 512 b) (lo b) (key_512 b) (rows4 i.kf [fill i.x4] r)) (tab i _ _ (col_512 b))

def outs4 (r b : Fin 4) : FVec Ideal (Sh 128 128) .f32 :=
  outs (fits _ (width_512 b)) broadcasts_S128x1_S128x128 (scores4 i r b)
    (cut 512 (width 512 b) (lo b) (key_512 b) (rows4 i.vf [fill i.x5] r))

def lses4 (r b : Fin 4) : FVec Ideal (Sh 128 1) .f32 := lses (fits _ (width_512 b)) (scores4 i r b)

theorem put4_ok (r b : Fin 4) : ∀ a, S128x128.size a = 0 ∨
    (![128 * b.val * 4 + r.val, 0] : Fin 2 → ℕ) a + (![4, 1] : Fin 2 → ℕ) a * (S128x128.size a - 1) < S2048x128.size a := by
  revert r b; decide

/-- The rows of the scratch that a tile of dilation 4 writes. -/
def put4 (r b : Fin 4) : Rect S2048x128 :=
  ⟨⟨![128 * b.val * 4 + r.val, 0], S128x128.size, ![4, 1], put4_ok r b⟩, spos_4_1⟩

def all44 : List (Fin 4 × Fin 4) :=
  [(3, 3), (3, 2), (3, 1), (3, 0), (2, 3), (2, 2), (2, 1), (2, 0), (1, 3), (1, 2), (1, 1), (1, 0),
    (0, 3), (0, 2), (0, 1), (0, 0)]

def po0 : Pieces := all44.map fun t => ⟨put4 t.1 t.2, stO (outs4 i t.1 t.2)⟩

def pl0 : Pieces := all44.map fun t => ⟨put4 t.1 t.2, stL (lses4 i t.1 t.2)⟩

/-! ## Dilation 16 -/

def scores16 (r : Fin 16) : FVec Ideal (Sh 128 128) .f32 :=
  scores (fits 128 (.inl rfl)) (rows16 i.qf [fill i.x6, fill i.x3] r) (rows16 i.kf [fill i.x7, fill i.x4] r)
    (tab i 128 128 (by decide))

def outs16 (r : Fin 16) : FVec Ideal (Sh 128 128) .f32 :=
  outs (fits 128 (.inl rfl)) broadcasts_S128x1_S128x128 (scores16 i r) (rows16 i.vf [fill i.x8, fill i.x5] r)

def lses16 (r : Fin 16) : FVec Ideal (Sh 128 1) .f32 := lses (fits 128 (.inl rfl)) (scores16 i r)

theorem put16_ok (r : Fin 16) : ∀ a, S128x128.size a = 0 ∨
    (![r.val, 0] : Fin 2 → ℕ) a + (![16, 1] : Fin 2 → ℕ) a * (S128x128.size a - 1) < S2048x128.size a := by
  revert r; decide

/-- The rows of the scratch that a tile of dilation 16 writes. -/
def put16 (r : Fin 16) : Rect S2048x128 := ⟨⟨![r.val, 0], S128x128.size, ![16, 1], put16_ok r⟩, spos_16_1⟩

def all16 : List (Fin 16) := [15, 14, 13, 12, 11, 10, 9, 8, 7, 6, 5, 4, 3, 2, 1, 0]

def po1 : Pieces := all16.map fun r => ⟨put16 r, stO (outs16 i r)⟩

def pl1 : Pieces := all16.map fun r => ⟨put16 r, stL (lses16 i r)⟩

/-! ## The own group and the merge -/

/-- A block of rows without its leading axis. -/
def flat (x : Vec Ideal S1x2048x128 .bf16) : FVec Ideal (Sh 2048 128) .bf16 :=
  shapeCast S2048x128 x shapeCasts_S1x2048x128_S2048x128

def scores1 (b : Fin 16) : FVec Ideal (Sh 128 (width 2048 b)) .f32 :=
  scores (fits _ (width_2048 b)) (cut 2048 128 (128 * b.val) (qry_2048 b) (flat i.x0))
    (cut 2048 (width 2048 b) (lo b) (key_2048 b) (flat i.x1)) (tab i _ _ (col_2048 b))

def outs1 (b : Fin 16) : FVec Ideal (Sh 128 128) .f32 :=
  outs (fits _ (width_2048 b)) broadcasts_S128x1_S128x128 (scores1 i b)
    (cut 2048 (width 2048 b) (lo b) (key_2048 b) (flat i.x2))

def lses1 (b : Fin 16) : FVec Ideal (Sh 128 1) .f32 := lses (fits _ (width_2048 b)) (scores1 i b)

theorem get_ok (b : Fin 16) : ∀ a, (![128 * b.val, 0] : Fin 2 → ℕ) a + (![128, 128] : Fin 2 → ℕ) a ≤ S2048x128.size a :=
  Rect.inb₂ (qry_2048 b) (Nat.le_refl 128)

/-- The rows of tile `b`. -/
abbrev getRect (b : Fin 16) : Rect S2048x128 := Rect.unit ![128 * b.val, 0] ![128, 128] (get_ok b)

/-- The 128 rows of tile `b` in a scratch buffer. -/
def get (s : Memref sig .tc .vmem S2048x128 .f32) (L : Pieces) (b : Fin 16) : FVec Ideal (Sh 128 128) .f32 :=
  s.view.readCov (Val := Elt Ideal) L (getRect b).toLoadRect

/-- The merge of three groups' rows by their logarithms. -/
def merge (a0 a1 a2 l0 l1 l2 : FVec Ideal (Sh 128 128) .f32) : FVec Ideal (Sh 128 128) .f32 :=
  divf
    (addf (addf (addf (broadcast (Sh 128 128) (Scalar.ofBits .f32 0x00000000#32))
      (mulf (exp (subf l0 (maximumf (maximumf l0 l1) l2))) a0))
      (mulf (exp (subf l1 (maximumf (maximumf l0 l1) l2))) a1))
      (mulf (exp (subf l2 (maximumf (maximumf l0 l1) l2))) a2))
    (addf (addf (addf (broadcast (Sh 128 128) (Scalar.ofBits .f32 0x00000000#32))
      (exp (subf l0 (maximumf (maximumf l0 l1) l2))))
      (exp (subf l1 (maximumf (maximumf l0 l1) l2))))
      (exp (subf l2 (maximumf (maximumf l0 l1) l2))))

/-- Tile `b` of the output block. -/
def tile (b : Fin 16) : FVec Ideal (Sh 128 128) .f32 :=
  merge (outs1 i b) (get i.o0 (po0 i) b) (get i.o1 (po1 i) b) (spread (lses1 i b)) (get i.l0 (pl0 i) b)
    (get i.l1 (pl1 i) b)

theorem put_ok (b : Fin 16) : ∀ a, (![0, 128 * b.val, 0] : Fin 3 → ℕ) a + S1x128x128.size a ≤ S1x2048x128.size a := by
  revert b; decide

/-- The rows of tile `b` in the output block. -/
def outRect (b : Fin 16) : Rect S1x2048x128 := Rect.unit ![0, 128 * b.val, 0] S1x128x128.size (put_ok b)

/-- What the body stores in the output block. -/
def pieces : List (View.Piece (Elt Ideal) S1x2048x128 .bf16) :=
  all16.map fun b => ⟨outRect b,
    shapeCast S1x128x128 (truncf .bf16 (tile i b) bitsLt_bf16_f32) shapeCasts_S128x128_S1x128x128⟩

/-! ## The body's run -/

section
open Idealize.ShloMosaic.Pipeline (Dat Cfg Window BodyObligation cellOf)
variable (m : (ℓ : Loc nD τ sig) → Buf (Elt Ideal) ℓ)

/-- A whole block of rows. -/
abbrev blockRect : Rect S1x2048x128 := Rect.unit ![0, 0, 0] ![1, 2048, 128] inb_S1x2048x128_S1x2048x128_0_0_0

/-- What a whole block of rows reads. -/
abbrev blockOf (a : Memref sig .tc .vmem S1x2048x128 .bf16) (h : a.IsWhole) (x : Vec Ideal S1x2048x128 .bf16) :
    Vec Ideal S1x2048x128 .bf16 :=
  a.view.readAt (Elt Ideal) blockRect.toLoadRect (h.unread x)

/-- What the body reads at grid point `t`. -/
def insAt (c : Dev nD) (t : Fin cfg0.N) : Ins where
  x0 := blockOf (ms0_0 t) (hs0_0 t) (iblk m c 0 t)
  x1 := blockOf (ms0_1 t) (hs0_1 t) (iblk m c 1 t)
  x2 := blockOf (ms0_2 t) (hs0_2 t) (iblk m c 2 t)
  x3 := blockOf (ms0_3 t) (hs0_3 t) (iblk m c 3 t)
  x4 := blockOf (ms0_4 t) (hs0_4 t) (iblk m c 4 t)
  x5 := blockOf (ms0_5 t) (hs0_5 t) (iblk m c 5 t)
  x6 := blockOf (ms0_6 t) (hs0_6 t) (iblk m c 6 t)
  x7 := blockOf (ms0_7 t) (hs0_7 t) (iblk m c 7 t)
  x8 := blockOf (ms0_8 t) (hs0_8 t) (iblk m c 8 t)
  tb r := (ms0_9 t).view.readAt (Elt Ideal) r ((hs0_9 t).unread (iblk m c 9 t))
  qf := scM0_0
  kf := scM0_1
  vf := scM0_2
  o0 := scM0_3
  o1 := scM0_4
  l0 := scM0_5
  l1 := scM0_6

set_option maxHeartbeats 4000000 in
/-- The output block after the body's run is what those stores leave. -/
theorem block_eq (c : Dev nD) (t : Fin cfg0.N) : (outsAt0 m c t).1 = View.canon (Val := Elt Ideal) (pieces (insAt m c t)) := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  refine congrArg (View.canon (Val := Elt Ideal)) ?_
  sl_kernel_rfl

end

end Cert.Body

end
-- ==== Proof.Merge.lean ====
/-
Merging three attentions of one query by the softmax of their log denominators, and that finite queries and keys
have finite log denominators.
-/
module

public import proofs.«01_k».proof.Proof.Band

@[expose] public section

noncomputable section

namespace Cert.Band

open Idealize.ShloMosaic

/-- An extended real that is a real number. -/
def IsReal (x : EReal) : Prop := ∃ r : ℝ, x = r

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- The sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.max {x y : EReal} (hx : IsReal x) (hy : IsReal y) : IsReal (max x y) := by
  rcases le_total x y with h | h
  · rw [max_eq_right h]; exact hy
  · rw [max_eq_left h]; exact hx

/-- A position sees itself. -/
theorem self_mem_near {L p : ℕ} (h : p < L) : p ∈ near L p :=
  Finset.mem_filter.2 ⟨Finset.mem_range.2 h, by omega⟩

section
variable {Q K : Rows} (hQ : ∀ p e, IsReal (Q p e)) (hK : ∀ p e, IsReal (K p e))
include hQ hK

/-- Scores of finite queries and keys are finite. -/
theorem score_real (p x : ℕ) : IsReal (score Q K p x) :=
  IsReal.sum _ fun e _ => by
    obtain ⟨a, ha⟩ := hQ p e
    obtain ⟨b, hb⟩ := hK x e
    exact ⟨a * b, by rw [ha, hb, EReal.coe_mul]⟩

/-- The largest score is finite. -/
theorem top_real {L p : ℕ} (h : p < L) : IsReal (top Q K L p) := by
  obtain ⟨x, _, hx⟩ := Finset.exists_mem_eq_sup (near L p) ⟨p, self_mem_near h⟩ (score Q K p)
  rw [top, hx]; exact score_real hQ hK p x

/-- A weight is a positive real number. -/
theorem weight_pos {L p : ℕ} (h : p < L) (x : ℕ) : ∃ r : ℝ, 0 < r ∧ weight Q K L p x = r := by
  obtain ⟨a, ha⟩ := score_real hQ hK p x
  obtain ⟨b, hb⟩ := top_real hQ hK h
  exact ⟨Real.exp (a - b), Real.exp_pos _, by rw [weight, ha, hb, ← EReal.coe_sub]; rfl⟩

/-- The log denominator of a query is finite. -/
theorem lse_real {L p : ℕ} (h : p < L) : IsReal (lse Q K L p) := by
  choose w hw0 hw using fun x => weight_pos hQ hK h x
  have ht : total Q K L p = ((∑ x ∈ near L p, w x : ℝ) : EReal) := by
    rw [total, coe_sum]; exact Finset.sum_congr rfl fun x _ => hw x
  have h0 : 0 < ∑ x ∈ near L p, w x := Finset.sum_pos (fun x _ => hw0 x) ⟨p, self_mem_near h⟩
  obtain ⟨b, hb⟩ := top_real hQ hK h
  refine ⟨b + Real.log (∑ x ∈ near L p, w x), ?_⟩
  rw [lse, ht, hb, Ideal.log_coe, if_neg (not_le.2 h0), EReal.coe_add]

end

/-- The largest of three log denominators. -/
def top3 (l : Fin 3 → EReal) : EReal := max (max (l 0) (l 1)) (l 2)

/-- One attention's merging weight. -/
def w3 (l : Fin 3 → EReal) (g : Fin 3) : EReal := Ideal.exp (l g - top3 l)

/-- The three outputs added up with their weights, then divided by the sum of the weights. -/
def merged (l a : Fin 3 → EReal) : EReal :=
  Ideal.div (((0 + w3 l 0 * a 0) + w3 l 1 * a 1) + w3 l 2 * a 2) (((0 + w3 l 0) + w3 l 1) + w3 l 2)

/-- Where the log denominators are finite, dividing the sum is dividing each weight. -/
theorem merged_eq (l a : Fin 3 → EReal) (hl : ∀ g, IsReal (l g)) :
    merged l a = ∑ g, Ideal.div (w3 l g) (∑ g', w3 l g') * a g := by
  obtain ⟨m, hm⟩ : IsReal (top3 l) := ((hl 0).max (hl 1)).max (hl 2)
  have hw : ∀ g, ∃ r : ℝ, 0 < r ∧ w3 l g = r := fun g => by
    obtain ⟨x, hx⟩ := hl g
    exact ⟨Real.exp (x - m), Real.exp_pos _, by rw [w3, hx, hm, ← EReal.coe_sub]; rfl⟩
  choose w hw0 hw using hw
  have hW : (0 : ℝ) < w 0 + w 1 + w 2 := add_pos (add_pos (hw0 0) (hw0 1)) (hw0 2)
  have hc : (0 : EReal) ≤ ((1 / (w 0 + w 1 + w 2) : ℝ) : EReal) := EReal.coe_nonneg.2 (one_div_nonneg.2 hW.le)
  have hsum : (∑ g', w3 l g') = ((w 0 + w 1 + w 2 : ℝ) : EReal) := by
    rw [Fin.sum_univ_three, hw, hw, hw, EReal.coe_add, EReal.coe_add]
  have hden : ((0 + w3 l 0) + w3 l 1) + w3 l 2 = ((w 0 + w 1 + w 2 : ℝ) : EReal) := by
    rw [hw, hw, hw, zero_add, EReal.coe_add, EReal.coe_add]
  rw [merged, hden, hsum, Fin.sum_univ_three]
  simp only [Ideal.div_coe hW.ne', zero_add]
  have ht : ((1 / (w 0 + w 1 + w 2) : ℝ) : EReal) ≠ ⊤ := EReal.coe_ne_top _
  generalize ((1 / (w 0 + w 1 + w 2) : ℝ) : EReal) = c at hc ht ⊢
  rw [EReal.right_distrib_of_nonneg_of_ne_top hc ht, EReal.right_distrib_of_nonneg_of_ne_top hc ht]
  simp only [mul_right_comm]

end Cert.Band

end
-- ==== Proof.Block.lean ====
/-
What the output block of one run holds, index by index: the three groups' banded attentions of its row, merged.
-/
module

public import proofs.«01_k».proof.Proof.Body
public import proofs.«01_k».proof.Proof.Merge
public import Idealize.ShloMosaic.Lib.Pipeline.ValueKit.Basic

@[expose] public section

set_option maxRecDepth 16384

noncomputable section

namespace Cert.Block

open Idealize.ShloMosaic hiding ix1 ix2 ix3 eq_ix2 eq_ix3
open Idealize.ShloMosaic.ValueIdx Idealize.ShloMosaic.TcCoe
open Cert.KernelIdeal.Gen Cert.KernelIdeal Cert.Tile Cert.Body Cert.Band

/-- The rows of residue `r` modulo `d` of a block, as a sequence. -/
def sub (x : Vec Ideal S1x2048x128 .bf16) (d r : ℕ) : Rows :=
  fun p e => if h : p * d + r < 2048 then x (ix3 (0 : Fin 1) (⟨p * d + r, h⟩ : Fin 2048) e) else 0

/-- The banded attention of row `y` of a block among the rows at multiples of `d` from it. -/
def rowOut (q k v : Vec Ideal S1x2048x128 .bf16) (d y : ℕ) (e : Fin 128) : EReal :=
  out (sub q d (y % d)) (sub k d (y % d)) (sub v d (y % d)) (2048 / d) (y / d) e

/-- The logarithm of its softmax denominator. -/
def rowLse (q k : Vec Ideal S1x2048x128 .bf16) (d y : ℕ) : EReal :=
  lse (sub q d (y % d)) (sub k d (y % d)) (2048 / d) (y / d)

/-- The additive table: nothing inside the band, −∞ outside. -/
def Table (i : Ins) : Prop := ∀ (n c : ℕ) (h : c + n ≤ 384) (a : Fin 128) (j : Fin n),
  tab i n c h (ix2 a j) = if c + j.val ≤ 128 + a.val + 64 ∧ 128 + a.val ≤ c + j.val + 64 then 0 else ⊥

theorem wide_apply (x : Vec Ideal S1x2048x128 .bf16) (y : Fin 2048) (e : Fin 128) :
    wide x (ix2 y e) = x (ix3 (0 : Fin 1) y e) := by
  unfold wide
  refine (shapeCast_apply _ _ (ix2 y e) (ix2 y e) rfl).trans ?_
  refine (shapeCast_apply x shapeCasts_S1x2048x128_S2048x128 (ix2 y e) (ix3 (0 : Fin 1) y e) ?_)
  rw [rowMajor_val2 _ 128 rfl, rowMajor_val3 _ (2048 * 128) 128 rfl rfl]
  show 0 * (2048 * 128) + y.val * 128 + e.val = y.val * 128 + e.val
  omega

theorem flat_apply (x : Vec Ideal S1x2048x128 .bf16) (y : Fin 2048) (e : Fin 128) :
    flat x (ix2 y e) = x (ix3 (0 : Fin 1) y e) := by
  refine (shapeCast_apply x shapeCasts_S1x2048x128_S2048x128 (ix2 y e) (ix3 (0 : Fin 1) y e) ?_)
  rw [rowMajor_val2 _ 128 rfl, rowMajor_val3 _ (2048 * 128) 128 rfl rfl]
  show 0 * (2048 * 128) + y.val * 128 + e.val = y.val * 128 + e.val
  omega

theorem narrow_apply {s : Shape} (x : FVec Ideal s .f32) (h : FTy.bits .bf16 < FTy.bits .f32) (j : s.Idx) :
    truncf .bf16 x h j = x j := rfl

theorem canon_fill (x : Vec Ideal S1x2048x128 .bf16) (L : Pieces) :
    View.canon (Val := Elt Ideal) (fill x :: L) = wide x := by
  have hz : ∀ a : Fin S2048x128.rank, (![0, 0] : Fin 2 → ℕ) a = 0 := by decide
  unfold fill
  exact View.canon_cons_unit_lit (Val := Elt Ideal) (S := S2048x128) (e := .f32) (off := ![0, 0])
    inb_S2048x128_S2048x128_0_0 (wide x) L hz

theorem rows4_apply (s : Memref sig .tc .vmem S2048x128 .f32) (x : Vec Ideal S1x2048x128 .bf16) (L : Pieces) (r : Fin 4)
    (p : Fin 512) (e : Fin 128) : rows4 s (fill x :: L) r (ix2 p e) = sub x 4 r p e := by
  rw [rows4, narrow_apply, View.readCov_eq_canon', canon_fill]
  have hl : p.val * 4 + r.val < 2048 := by omega
  rw [sub, dif_pos hl]
  refine Eq.trans ?_ (wide_apply x _ e)
  refine congrArg (wide x) (funext fun a => Fin.ext ?_)
  match a with
  | ⟨0, _⟩ => show r.val + 4 * p.val = p.val * 4 + r.val; omega
  | ⟨1, _⟩ => show 0 + 1 * e.val = e.val; omega

theorem rows16_apply (s : Memref sig .tc .vmem S2048x128 .f32) (x : Vec Ideal S1x2048x128 .bf16) (L : Pieces) (r : Fin 16)
    (p : Fin 128) (e : Fin 128) : rows16 s (fill x :: L) r (ix2 p e) = sub x 16 r p e := by
  rw [rows16, narrow_apply, View.readCov_eq_canon', canon_fill]
  have hl : p.val * 16 + r.val < 2048 := by omega
  rw [sub, dif_pos hl]
  refine Eq.trans ?_ (wide_apply x _ e)
  refine congrArg (wide x) (funext fun a => Fin.ext ?_)
  match a with
  | ⟨0, _⟩ => show r.val + 16 * p.val = p.val * 16 + r.val; omega
  | ⟨1, _⟩ => show 0 + 1 * e.val = e.val; omega

theorem cut_apply (len n o : ℕ) (h : o + n ≤ len) (x : FVec Ideal (Sh len 128) .bf16) (R : Rows)
    (hx : ∀ p e, x (ix2 p e) = R p e) (j : Fin n) (e : Fin 128) : cut len n o h x (ix2 j e) = R (o + j.val) e := by
  refine (extractStridedSlice_apply _ x _ (ix2 j e) (ix2 (⟨o + j.val, by omega⟩ : Fin len) e) fun a => ?_).trans (hx _ e)
  match a with
  | ⟨0, _⟩ => rfl
  | ⟨1, _⟩ => show e.val = 0 + e.val; omega

theorem tab_apply {i : Ins} (ht : Table i) (b n : ℕ) (h : col b + n ≤ 384) (a : Fin 128) (j : Fin n) :
    tab i n (col b) h (ix2 a j) = if Sees (128 * b) (lo b) a j then 0 else ⊥ := by
  rw [ht]
  refine if_congr ?_ rfl rfl
  unfold Sees col lo
  omega

theorem place_512 (b : Fin 4) : Place 512 (128 * b.val) (lo b) (width 512 b) := by
  constructor <;> revert b <;> decide

theorem place_2048 (b : Fin 16) : Place 2048 (128 * b.val) (lo b) (width 2048 b) := by
  constructor <;> revert b <;> decide

theorem place_128 : Place 128 (128 * 0) (lo 0) 128 := by constructor <;> decide

variable {i : Ins} (ht : Table i)
include ht

theorem outs4_apply (r b : Fin 4) (a e : Fin 128) :
    outs4 i r b (ix2 a e) = out (sub i.x3 4 r) (sub i.x4 4 r) (sub i.x5 4 r) 512 (128 * b.val + a.val) e :=
  outs_band _ _ (place_512 b) (cut_apply _ _ _ _ _ _ fun p e => rows4_apply _ _ _ r p e)
    (cut_apply _ _ _ _ _ _ fun p e => rows4_apply _ _ _ r p e)
    (cut_apply _ _ _ _ _ _ fun p e => rows4_apply _ _ _ r p e) (tab_apply ht b.val _ _) a e

theorem lses4_apply (r b : Fin 4) (a : Fin 128) :
    lses4 i r b (ix2 a 0) = lse (sub i.x3 4 r) (sub i.x4 4 r) 512 (128 * b.val + a.val) :=
  lses_band _ (place_512 b) (cut_apply _ _ _ _ _ _ fun p e => rows4_apply _ _ _ r p e)
    (cut_apply _ _ _ _ _ _ fun p e => rows4_apply _ _ _ r p e) (tab_apply ht b.val _ _) a

theorem outs1_apply (b : Fin 16) (a e : Fin 128) :
    outs1 i b (ix2 a e) = out (sub i.x0 1 0) (sub i.x1 1 0) (sub i.x2 1 0) 2048 (128 * b.val + a.val) e := by
  have hf : ∀ (x : Vec Ideal S1x2048x128 .bf16) (p : Fin 2048) (e : Fin 128), flat x (ix2 p e) = sub x 1 0 p e := by
    intro x p e
    have hl : p.val * 1 + 0 < 2048 := by omega
    rw [flat_apply, sub, dif_pos hl]
    exact congrArg (fun t => x (ix3 (0 : Fin 1) t e)) (Fin.ext (by show p.val = p.val * 1 + 0; omega))
  exact outs_band _ _ (place_2048 b) (cut_apply _ _ _ _ _ _ (hf _)) (cut_apply _ _ _ _ _ _ (hf _))
    (cut_apply _ _ _ _ _ _ (hf _)) (tab_apply ht b.val _ _) a e

theorem lses1_apply (b : Fin 16) (a : Fin 128) :
    lses1 i b (ix2 a 0) = lse (sub i.x0 1 0) (sub i.x1 1 0) 2048 (128 * b.val + a.val) := by
  have hf : ∀ (x : Vec Ideal S1x2048x128 .bf16) (p : Fin 2048) (e : Fin 128), flat x (ix2 p e) = sub x 1 0 p e := by
    intro x p e
    have hl : p.val * 1 + 0 < 2048 := by omega
    rw [flat_apply, sub, dif_pos hl]
    exact congrArg (fun t => x (ix3 (0 : Fin 1) t e)) (Fin.ext (by show p.val = p.val * 1 + 0; omega))
  exact lses_band _ (place_2048 b) (cut_apply _ _ _ _ _ _ (hf _)) (cut_apply _ _ _ _ _ _ (hf _)) (tab_apply ht b.val _ _) a

theorem outs16_apply (r : Fin 16) (a e : Fin 128) :
    outs16 i r (ix2 a e) = out (sub i.x6 16 r) (sub i.x7 16 r) (sub i.x8 16 r) 128 a.val e := by
  have h := outs_band (fits 128 (.inl rfl)) broadcasts_S128x1_S128x128 (Q := sub i.x6 16 r) (K := sub i.x7 16 r)
    (V := sub i.x8 16 r) (q := rows16 i.qf [fill i.x6, fill i.x3] r) (k := rows16 i.kf [fill i.x7, fill i.x4] r)
    (v := rows16 i.vf [fill i.x8, fill i.x5] r) (tab := tab i 128 128 (by decide)) place_128
    (fun p e => by rw [rows16_apply]; congr 1; omega) (fun p e => by rw [rows16_apply]; congr 1; exact (Nat.zero_add _).symm)
    (fun p e => by rw [rows16_apply]; congr 1; exact (Nat.zero_add _).symm) (tab_apply ht 0 128 (by decide)) a e
  rw [Nat.mul_zero, Nat.zero_add] at h
  exact h

theorem lses16_apply (r : Fin 16) (a : Fin 128) :
    lses16 i r (ix2 a 0) = lse (sub i.x6 16 r) (sub i.x7 16 r) 128 a.val := by
  have h := lses_band (fits 128 (.inl rfl)) (Q := sub i.x6 16 r) (K := sub i.x7 16 r)
    (q := rows16 i.qf [fill i.x6, fill i.x3] r) (k := rows16 i.kf [fill i.x7, fill i.x4] r)
    (tab := tab i 128 128 (by decide)) place_128
    (fun p e => by rw [rows16_apply]; congr 1; omega) (fun p e => by rw [rows16_apply]; congr 1; exact (Nat.zero_add _).symm)
    (tab_apply ht 0 128 (by decide)) a
  rw [Nat.mul_zero, Nat.zero_add] at h
  exact h

omit ht in
theorem stO_apply (o : FVec Ideal (Sh 128 128) .f32) (a e : Fin 128) : stO o (ix2 a e) = o (ix2 a e) :=
  shapeCast_apply o _ (ix2 a e) (ix2 a e) rfl

omit ht in
theorem lane_apply (l : FVec Ideal (Sh 128 1) .f32) (a e : Fin 128) : Body.spread l (ix2 a e) = l (ix2 a 0) :=
  (spread_apply (shapeCast S128x1 l shapeCasts_S128x1_S128x1) broadcasts_S128x1_S128x128 a e).trans
    (shapeCast_apply l _ (ix2 a 0) (ix2 a 0) rfl)

omit ht in
theorem stL_apply (l : FVec Ideal (Sh 128 1) .f32) (a e : Fin 128) : stL l (ix2 a e) = l (ix2 a 0) :=
  (shapeCast_apply (Body.spread l) _ (ix2 a e) (ix2 a e) rfl).trans (lane_apply l a e)

omit ht in
/-- Pieces written over the strided rectangles of dilation 4 that are blocks of `G` leave `G`. -/
theorem canon4 (w : Fin 4 → Fin 4 → FVec Ideal (Sh 128 128) .f32) (G : ℕ → Fin 128 → EReal)
    (hw : ∀ r b a e, w r b (ix2 a e) = G (4 * (128 * b.val + a.val) + r.val) e) (y : Fin 2048) (e : Fin 128) :
    View.canon (Val := Elt Ideal) (all44.map fun t => (⟨put4 t.1 t.2, w t.1 t.2⟩ : View.Piece (Elt Ideal) S2048x128 .f32))
      (ix2 y e) = G y.val e := by
  refine View.canon_apply_of_pieces (Val := Elt Ideal) (S := S2048x128) (e := .f32)
    (fun j => G (j 0).val (j 1)) _ ?_ (ix2 y e) ?_
  · intro p hp x
    obtain ⟨t, _, rfl⟩ := List.mem_map.1 hp
    have hx : (x : (Sh 128 128).Idx) = ix2 (x 0) (x 1) := eq_ix2 x
    refine (congrArg (w t.1 t.2) hx).trans ((hw t.1 t.2 (x 0) (x 1)).trans ?_)
    refine congrArg₂ G ?_ (Fin.ext ?_)
    · show 4 * (128 * t.2.val + (x 0).val) + t.1.val = 128 * t.2.val * 4 + t.1.val + 4 * (x 0).val
      omega
    · show (x 1).val = 0 + 1 * (x 1).val
      omega
  · have hy := y.2
    refine ⟨_, List.mem_map.2 ⟨((⟨y.val % 4, by omega⟩ : Fin 4), (⟨y.val / 512, by omega⟩ : Fin 4)), ?_, rfl⟩, ?_⟩
    · generalize (⟨y.val % 4, by omega⟩ : Fin 4) = r
      generalize (⟨y.val / 512, by omega⟩ : Fin 4) = b
      revert r b; decide
    · refine (put4 _ _).toLoadRect.mem_set.2 fun a => ?_
      match a with
      | ⟨0, _⟩ =>
        refine ⟨y.val / 4 % 128, Nat.mod_lt _ (by decide), ?_⟩
        show y.val = 128 * (y.val / 512) * 4 + y.val % 4 + 4 * (y.val / 4 % 128)
        omega
      | ⟨1, _⟩ =>
        refine ⟨e.val, e.2, ?_⟩
        show e.val = 0 + 1 * e.val
        omega

omit ht in
/-- Pieces written over the strided rectangles of dilation 16 that are blocks of `G` leave `G`. -/
theorem canon16 (w : Fin 16 → FVec Ideal (Sh 128 128) .f32) (G : ℕ → Fin 128 → EReal)
    (hw : ∀ r a e, w r (ix2 a e) = G (16 * a.val + r.val) e) (y : Fin 2048) (e : Fin 128) :
    View.canon (Val := Elt Ideal) (all16.map fun t => (⟨put16 t, w t⟩ : View.Piece (Elt Ideal) S2048x128 .f32))
      (ix2 y e) = G y.val e := by
  refine View.canon_apply_of_pieces (Val := Elt Ideal) (S := S2048x128) (e := .f32)
    (fun j => G (j 0).val (j 1)) _ ?_ (ix2 y e) ?_
  · intro p hp x
    obtain ⟨t, _, rfl⟩ := List.mem_map.1 hp
    have hx : (x : (Sh 128 128).Idx) = ix2 (x 0) (x 1) := eq_ix2 x
    refine (congrArg (w t) hx).trans ((hw t (x 0) (x 1)).trans ?_)
    refine congrArg₂ G ?_ (Fin.ext ?_)
    · show 16 * (x 0).val + t.val = t.val + 16 * (x 0).val
      omega
    · show (x 1).val = 0 + 1 * (x 1).val
      omega
  · have hy := y.2
    refine ⟨_, List.mem_map.2 ⟨(⟨y.val % 16, by omega⟩ : Fin 16), ?_, rfl⟩, ?_⟩
    · generalize (⟨y.val % 16, by omega⟩ : Fin 16) = r
      revert r; decide
    · refine (put16 _).toLoadRect.mem_set.2 fun a => ?_
      match a with
      | ⟨0, _⟩ =>
        refine ⟨y.val / 16, by show _ < 128; omega, ?_⟩
        show y.val = y.val % 16 + 16 * (y.val / 16)
        omega
      | ⟨1, _⟩ =>
        refine ⟨e.val, e.2, ?_⟩
        show e.val = 0 + 1 * e.val
        omega

omit ht in
theorem get_apply (s : Memref sig .tc .vmem S2048x128 .f32) (L : Pieces) (b : Fin 16) (a e : Fin 128) (G : ℕ → Fin 128 → EReal)
    (hL : ∀ (y : Fin 2048) e, View.canon (Val := Elt Ideal) L (ix2 y e) = G y.val e) :
    Body.get s L b (ix2 a e) = G (128 * b.val + a.val) e := by
  rw [Body.get, View.readCov_eq_canon']
  have hl : 128 * b.val + a.val < 2048 := by omega
  refine Eq.trans (congrArg (View.canon (Val := Elt Ideal) L) (funext fun c => Fin.ext ?_)) (hL ⟨128 * b.val + a.val, hl⟩ e)
  match c with
  | ⟨0, _⟩ => show 128 * b.val + 1 * a.val = 128 * b.val + a.val; omega
  | ⟨1, _⟩ => show 0 + 1 * e.val = e.val; omega

theorem po0_apply (y : Fin 2048) (e : Fin 128) :
    View.canon (Val := Elt Ideal) (po0 i) (ix2 y e) = rowOut i.x3 i.x4 i.x5 4 y.val e :=
  canon4 (fun r b => stO (outs4 i r b)) (rowOut i.x3 i.x4 i.x5 4) (fun r b a e => by
    refine (stO_apply _ a e).trans ((outs4_apply ht r b a e).trans ?_)
    have h1 : (4 * (128 * b.val + a.val) + r.val) % 4 = r.val := by omega
    have h2 : (4 * (128 * b.val + a.val) + r.val) / 4 = 128 * b.val + a.val := by omega
    rw [rowOut, h1, h2]) y e

theorem pl0_apply (y : Fin 2048) (e : Fin 128) :
    View.canon (Val := Elt Ideal) (pl0 i) (ix2 y e) = rowLse i.x3 i.x4 4 y.val :=
  canon4 (fun r b => stL (lses4 i r b)) (fun y _ => rowLse i.x3 i.x4 4 y) (fun r b a e => by
    refine (stL_apply _ a e).trans ((lses4_apply ht r b a).trans ?_)
    have h1 : (4 * (128 * b.val + a.val) + r.val) % 4 = r.val := by omega
    have h2 : (4 * (128 * b.val + a.val) + r.val) / 4 = 128 * b.val + a.val := by omega
    rw [rowLse, h1, h2]) y e

theorem po1_apply (y : Fin 2048) (e : Fin 128) :
    View.canon (Val := Elt Ideal) (po1 i) (ix2 y e) = rowOut i.x6 i.x7 i.x8 16 y.val e :=
  canon16 (fun r => stO (outs16 i r)) (rowOut i.x6 i.x7 i.x8 16) (fun r a e => by
    refine (stO_apply _ a e).trans ((outs16_apply ht r a e).trans ?_)
    have h1 : (16 * a.val + r.val) % 16 = r.val := by omega
    have h2 : (16 * a.val + r.val) / 16 = a.val := by omega
    rw [rowOut, h1, h2]) y e

theorem pl1_apply (y : Fin 2048) (e : Fin 128) :
    View.canon (Val := Elt Ideal) (pl1 i) (ix2 y e) = rowLse i.x6 i.x7 16 y.val :=
  canon16 (fun r => stL (lses16 i r)) (fun y _ => rowLse i.x6 i.x7 16 y) (fun r a e => by
    refine (stL_apply _ a e).trans ((lses16_apply ht r a).trans ?_)
    have h1 : (16 * a.val + r.val) % 16 = r.val := by omega
    have h2 : (16 * a.val + r.val) / 16 = a.val := by omega
    rw [rowLse, h1, h2]) y e

omit ht in
theorem merge_apply (a0 a1 a2 l0 l1 l2 : FVec Ideal (Sh 128 128) .f32) (j : (Sh 128 128).Idx) :
    merge a0 a1 a2 l0 l1 l2 j = merged ![l0 j, l1 j, l2 j] ![a0 j, a1 j, a2 j] := by
  have h0 : Ideal.ofBits .f32 0x00000000#32 = 0 := Ideal.ofBits_zero_f32
  unfold merged w3 top3
  rw [← h0]
  rfl

/-- Row `y` of the output block, written out. -/
def rowMerged (i : Ins) (y : ℕ) (e : Fin 128) : EReal :=
  merged ![rowLse i.x0 i.x1 1 y, rowLse i.x3 i.x4 4 y, rowLse i.x6 i.x7 16 y]
    ![rowOut i.x0 i.x1 i.x2 1 y e, rowOut i.x3 i.x4 i.x5 4 y e, rowOut i.x6 i.x7 i.x8 16 y e]

theorem tile_apply (b : Fin 16) (a e : Fin 128) : tile i b (ix2 a e) = rowMerged i (128 * b.val + a.val) e := by
  rw [tile, merge_apply, get_apply i.o0 (po0 i) b a e _ (po0_apply ht), get_apply i.o1 (po1 i) b a e _ (po1_apply ht),
    get_apply i.l0 (pl0 i) b a e (fun y _ => rowLse i.x3 i.x4 4 y) (pl0_apply ht),
    get_apply i.l1 (pl1 i) b a e (fun y _ => rowLse i.x6 i.x7 16 y) (pl1_apply ht), outs1_apply ht, lane_apply, lses1_apply ht]
  have h1 : (128 * b.val + a.val) % 1 = 0 := by omega
  have h2 : rowLse i.x0 i.x1 1 (128 * b.val + a.val) = lse (sub i.x0 1 0) (sub i.x1 1 0) 2048 (128 * b.val + a.val) := by
    rw [rowLse, h1, Nat.div_one, Nat.div_one]
  have h3 : rowOut i.x0 i.x1 i.x2 1 (128 * b.val + a.val) e
      = out (sub i.x0 1 0) (sub i.x1 1 0) (sub i.x2 1 0) 2048 (128 * b.val + a.val) e := by
    rw [rowOut, h1, Nat.div_one, Nat.div_one]
  rw [rowMerged, h2, h3]

/-- The output block of a run: each row's merged banded attentions. -/
theorem block_apply (y : Fin 2048) (e : Fin 128) :
    View.canon (Val := Elt Ideal) (pieces i) (ix3 (0 : Fin 1) y e) = rowMerged i y.val e := by
  refine View.canon_apply_of_pieces (Val := Elt Ideal) (S := S1x2048x128) (e := .bf16)
    (fun j => rowMerged i (j 1).val (j 2)) _ ?_ (ix3 (0 : Fin 1) y e) ?_
  · intro p hp x
    obtain ⟨b, _, rfl⟩ := List.mem_map.1 hp
    have hx : (x : S1x128x128.Idx) = ix3 (0 : Fin 1) (x 1) (x 2) := by
      refine (eq_ix3 x).trans ?_
      rw [show x 0 = (0 : Fin 1) from Subsingleton.elim (α := Fin 1) _ _]; rfl
    have hk := shapeCast_apply (truncf .bf16 (tile i b) bitsLt_bf16_f32 : FVec Ideal (Sh 128 128) .bf16)
      shapeCasts_S128x128_S1x128x128 (ix3 (0 : Fin 1) (x 1) (x 2)) (ix2 (x 1) (x 2)) (by
        rw [rowMajor_val2 _ 128 rfl, rowMajor_val3 _ (128 * 128) 128 rfl rfl]
        show (x 1).val * 128 + (x 2).val = 0 * (128 * 128) + (x 1).val * 128 + (x 2).val
        omega)
    refine (congrArg _ hx).trans (hk.trans ((narrow_apply _ _ _).trans ((tile_apply ht b (x 1) (x 2)).trans ?_)))
    refine congrArg₂ (rowMerged i) ?_ (Fin.ext ?_)
    · show 128 * b.val + (x 1).val = 128 * b.val + 1 * (x 1).val
      omega
    · show (x 2).val = 0 + 1 * (x 2).val
      omega
  · have hy := y.2
    refine ⟨_, List.mem_map.2 ⟨(⟨y.val / 128, by omega⟩ : Fin 16), ?_, rfl⟩, ?_⟩
    · generalize (⟨y.val / 128, by omega⟩ : Fin 16) = r
      revert r; decide
    · refine (outRect _).toLoadRect.mem_set.2 fun a => ?_
      match a with
      | ⟨0, _⟩ => exact ⟨0, Nat.zero_lt_one, rfl⟩
      | ⟨1, _⟩ =>
        refine ⟨y.val % 128, Nat.mod_lt _ (by decide), ?_⟩
        show y.val = 128 * (y.val / 128) + 1 * (y.val % 128)
        omega
      | ⟨2, _⟩ =>
        refine ⟨e.val, e.2, ?_⟩
        show e.val = 0 + 1 * e.val
        omega

end Cert.Block

end
-- ==== Proof.Words.lean ====
/-
Words of 32 bits that hold small integers: the comparison of a difference's magnitude with 64.
-/
module

public import Idealize.ShloMosaic.Lib.WordCmp
public import Idealize.ShloMosaic.Lib.WordArith
public import Idealize.ShloMosaic.Lib.Tactic
public import Mathlib.Algebra.Order.Group.Int
public import Mathlib.Algebra.Order.Group.Abs

@[expose] public section

namespace Cert.Words

open Idealize.ShloMosaic

/-- A small natural, as a word, reads back as itself. -/
theorem toInt_nat (n : ℕ) (h : n < 2 ^ 31) : (BitVec.ofNat 32 n).toInt = n := by
  rw [BitVec.toInt_ofNat', Int.bmod_eq_of_le] <;> omega

/-- A difference of two words that are small reads back as the difference. -/
theorem toInt_sub' (x y : BitVec 32) (hx : -2 ^ 29 < x.toInt ∧ x.toInt < 2 ^ 29) (hy : -2 ^ 29 < y.toInt ∧ y.toInt < 2 ^ 29) :
    (x - y).toInt = x.toInt - y.toInt := by
  rw [BitVec.toInt_sub, Int.bmod_eq_of_le] <;> omega

/-- A sum of two words that are small reads back as the sum. -/
theorem toInt_add' (x y : BitVec 32) (hx : -2 ^ 29 < x.toInt ∧ x.toInt < 2 ^ 29) (hy : -2 ^ 29 < y.toInt ∧ y.toInt < 2 ^ 29) :
    (x + y).toInt = x.toInt + y.toInt := by
  rw [BitVec.toInt_add, Int.bmod_eq_of_le] <;> omega

/-- The magnitude of a small word is at most 64 exactly when the word lies between −64 and 64. -/
theorem near_word (x : BitVec 32) (h : -2 ^ 29 < x.toInt ∧ x.toInt < 2 ^ 29) :
    IntOp.cmpi .sle (IntOp.absi x) 64#32 = BitVec.ofBool (decide (-64 ≤ x.toInt ∧ x.toInt ≤ 64)) := by
  have e : (IntOp.absi x).toInt = |x.toInt| := by
    unfold IntOp.absi
    rw [BitVec.msb_eq_toInt]
    by_cases hx : x.toInt < 0
    · rw [if_pos (by simpa using hx), BitVec.toInt_neg, Int.bmod_eq_of_le (by omega) (by omega), abs_of_neg hx]
    · rw [if_neg (by simpa using hx), abs_of_nonneg (by omega)]
  rw [WordCmp.cmpi_sle_eq, e]
  congr 1
  have h64 : (64#32).toInt = 64 := by decide
  rw [h64]
  refine decide_eq_decide.mpr ?_
  rw [_root_.abs_le]

end Cert.Words
-- ==== Proof.Spec.lean ====
/-
What the attention computes, as a function of the array of queries, keys and values that both programs are given.
-/
module

public import proofs.«01_k».proof.Proof.Merge
public import Idealize.ShloMosaic.Lib.Pipeline.Value
public import Idealize.ShloMosaic.Lib.ValueIdxCore
public import Idealize.ShloMosaic.Lib.Pointwise

@[expose] public section

noncomputable section

namespace Cert.Spec

open Idealize.ShloMosaic hiding ix1 ix2 ix3 eq_ix2 eq_ix3
open Idealize.ShloMosaic.ValueIdx
open Cert.Band

/-- The shape of the array of queries, keys and values. -/
abbrev SX : Shape := ⟨3, ![8, 2048, 5120]⟩

/-- The shape of the result. -/
abbrev SY : Shape := ⟨3, ![8, 2048, 256]⟩

/-- The head that stands `h` after block `base` of columns of 128, of batch `b`, as rows: queries, keys or values. -/
def part (X : SX.Idx → EReal) (b : Fin 8) (h : Fin 2) (base : ℕ) (y : Fin 2048) (e : Fin 128) : EReal :=
  if hk : base < 17 then X (ix3 b y (⟨(base + h.val) * 128 + e.val, by omega⟩ : Fin 5120)) else 0

/-- The rows of residue `r` modulo `d`, as a sequence. -/
def every (f : Fin 2048 → Fin 128 → EReal) (d r : ℕ) : Rows :=
  fun p e => if h : p * d + r < 2048 then f ⟨p * d + r, h⟩ e else 0

/-- The banded attention of row `y` among the rows at multiples of `d` from it. -/
def gOut (q k v : Fin 2048 → Fin 128 → EReal) (d y : ℕ) (e : Fin 128) : EReal :=
  out (every q d (y % d)) (every k d (y % d)) (every v d (y % d)) (2048 / d) (y / d) e

/-- The logarithm of its softmax denominator. -/
def gLse (q k : Fin 2048 → Fin 128 → EReal) (d y : ℕ) : EReal :=
  lse (every q d (y % d)) (every k d (y % d)) (2048 / d) (y / d)

/-- The dilation of each group of heads. -/
def dil : Fin 3 → ℕ := ![1, 4, 16]

/-- Head `h` of group `g` of batch `b`: its banded attention at row `y`, -/
def groupOut (X : SX.Idx → EReal) (b : Fin 8) (h : Fin 2) (g : Fin 3) (y : ℕ) (e : Fin 128) : EReal :=
  gOut (part X b h (2 * g)) (part X b h (6 + 2 * g)) (part X b h (12 + 2 * g)) (dil g) y e

/-- and the logarithm of its softmax denominator. -/
def groupLse (X : SX.Idx → EReal) (b : Fin 8) (h : Fin 2) (g : Fin 3) (y : ℕ) : EReal :=
  gLse (part X b h (2 * g)) (part X b h (6 + 2 * g)) (dil g) y

/-- The three groups' outputs merged by their denominators. -/
def attn (X : SX.Idx → EReal) (b : Fin 8) (h : Fin 2) (y : ℕ) (e : Fin 128) : EReal :=
  merged (fun g => groupLse X b h g y) (fun g => groupOut X b h g y e)

/-- The whole result: columns 0 to 127 are head 0 of the groups, the others head 1. -/
def result (X : SX.Idx → EReal) : SY.Idx → EReal := fun i =>
  attn X (i 0) ⟨(i 2).val / 128, by have := (i 2).isLt; change (i 2).val < 256 at this; omega⟩ (i 1).val
    ⟨(i 2).val % 128, Nat.mod_lt _ (by decide)⟩

/-- The result at an index whose column stands at place `e` of head `h`. -/
theorem result_apply (X : SX.Idx → EReal) (i : SY.Idx) (b : Fin 8) (h : Fin 2) (y : ℕ) (e : Fin 128)
    (h0 : (i 0).val = b.val) (h1 : (i 1).val = y) (h2 : (i 2).val = h.val * 128 + e.val) : result X i = attn X b h y e := by
  have f0 : i 0 = b := Fin.ext h0
  unfold result
  subst h1
  rw [f0]
  congr 1
  · exact Fin.ext (by show (i 2).val / 128 = h.val; omega)
  · exact Fin.ext (by show (i 2).val % 128 = e.val; omega)

end Cert.Spec

end
-- ==== Proof.Array.lean ====
/-
What the kernel's arrays hold: the attention's array from the sixteen output blocks, and the five copied arrays.
-/
module

public import proofs.«01_k».proof.Proof.Block
public import proofs.«01_k».proof.Proof.Gen.KernelIdeal.Value
public import Idealize.ShloMosaic.Lib.Pipeline.ValueKit.Geometry
public import proofs.«01_k».proof.Proof.Words
public import proofs.«01_k».proof.Proof.Spec

@[expose] public section

set_option maxRecDepth 16384

noncomputable section

namespace Cert.Array

open Idealize.ShloMosaic hiding ix1 ix2 ix3 eq_ix2 eq_ix3
open Idealize.ShloMosaic.ValueIdx Idealize.ShloMosaic.TcCoe Idealize.ShloMosaic.Tactic
open Idealize.SL.Sem
open Cert.KernelIdeal.Gen Cert.KernelIdeal Cert.Tile Cert.Body Cert.Band Cert.Block Cert.Words Cert.Spec
open Idealize.ShloMosaic.Pipeline (Dat Cfg Window)

variable (m : (ℓ : Loc nD τ sig) → Buf (Elt Ideal) ℓ)

/-- The table the host prepares, written out. -/
def hostTable : IVec S128x384 32 :=
  absi (subi (broadcastInDim S128x384 ![0, 1] bcast_S1x384_S128x384_0_1
      (subi (broadcastInDim S1x384 ![1] bcast_S384_S1x384_1 (iotaInDim S384 32 0))
        (broadcastInDim S1x384 ![] bcast_S_S1x384 (constantI S_ 32 128#32))))
    (broadcastInDim S128x384 ![0, 1] bcast_S128x1_S128x384_0_1
      (broadcastInDim S128x1 ![0] bcast_S128_S128x1_0 (iotaInDim S128 32 0))))

set_option maxHeartbeats 1600000 in
theorem table_eq (c : Dev nD) : (V m c main_v13 : FVec Ideal S128x384 .f32)
    = select (cmpi .sle hostTable (broadcastInDim S128x384 ![] bcast_S_S128x384 (constantI S_ 32 64#32)))
      (broadcastInDim S128x384 ![] bcast_S_S128x384 (constant (F := Ideal) S_ .f32 0x00000000#32))
      (broadcastInDim S128x384 ![] bcast_S_S128x384 (constant (F := Ideal) S_ .f32 0xFF800000#32)) := by
  sl_kernel_rfl

/-- The table at a query row and a key column holds 0 where the key is at most 64 places from the query, −∞ elsewhere. -/
theorem table_apply (c : Dev nD) (a : Fin 128) (j : Fin 384) :
    (V m c main_v13 : FVec Ideal S128x384 .f32) (ix2 a j)
      = (if j.val ≤ 128 + a.val + 64 ∧ 128 + a.val ≤ j.val + 64 then 0 else ⊥ : EReal) := by
  have hj := toInt_nat j.val (by omega)
  have ha := toInt_nat a.val (by omega)
  have h128 : (128#32).toInt = 128 := by decide
  have e1 : (BitVec.ofNat 32 j.val - 128#32).toInt = j.val - 128 := by
    rw [toInt_sub' _ _ (by omega) (by omega), hj, h128]
  have e2 : (BitVec.ofNat 32 j.val - 128#32 - BitVec.ofNat 32 a.val).toInt = j.val - 128 - a.val := by
    rw [toInt_sub' _ _ (by omega) (by omega), e1, ha]
  rw [table_eq]
  show Scalar.select (IntOp.cmpi .sle (IntOp.absi (BitVec.ofNat 32 j.val - 128#32 - BitVec.ofNat 32 a.val)) 64#32)
    (Ideal.ofBits .f32 0x00000000#32) (Ideal.ofBits .f32 0xFF800000#32) = _
  rw [near_word _ (by omega), Ideal.ofBits_zero_f32, negInf]
  unfold Scalar.select
  by_cases h : j.val ≤ 128 + a.val + 64 ∧ 128 + a.val ≤ j.val + 64
  · rw [if_pos h, decide_eq_true (by omega)]; rfl
  · rw [if_neg h, decide_eq_false (by omega)]; rfl

/-- A block read whole is the block. -/
theorem blockOf_apply (a : Memref sig .tc .vmem S1x2048x128 .bf16) (h : a.IsWhole) (x : Vec Ideal S1x2048x128 .bf16)
    (y : Fin 2048) (e : Fin 128) : blockOf a h x (ix3 (0 : Fin 1) y e) = x (ix3 (0 : Fin 1) y e) := by
  unfold blockOf
  rw [View.readAt_apply, h.read_unread]
  refine congrArg x (funext fun b => Fin.ext ?_)
  match b with
  | ⟨0, _⟩ => rfl
  | ⟨1, _⟩ => show 0 + 1 * y.val = y.val; omega
  | ⟨2, _⟩ => show 0 + 1 * e.val = e.val; omega

/-- The table the body reads at a grid point. -/
theorem table (c : Dev nD) (t : Fin cfg0.N) : Table (insAt m c t) := by
  intro n k h a j
  have hi : win0_9.index t 0 = 0 ∧ win0_9.index t 1 = 0 :=
    (by decide +kernel : ∀ t : Fin grid0.N, win0_9.index t 0 = 0 ∧ win0_9.index t 1 = 0) t
  have hk : k + j.val < 384 := by omega
  refine Eq.trans ?_ (table_apply m c a ⟨k + j.val, hk⟩)
  show (ms0_9 t).view.readAt (Elt Ideal) (tabRect n k h).toLoadRect ((hs0_9 t).unread (iblk m c 9 t)) (ix2 a j) = _
  rw [View.readAt_apply, (hs0_9 t).read_unread]
  unfold iblk
  refine congrArg (V m c main_v13) (funext fun b => Fin.ext ?_)
  match b with
  | ⟨0, _⟩ => show win0_9.index t 0 * 128 + 1 * (0 + 1 * a.val) = a.val; rw [hi.1]; omega
  | ⟨1, _⟩ => show win0_9.index t 1 * 384 + 1 * (k + 1 * j.val) = k + j.val; rw [hi.2]; omega

/-- The array of queries, keys and values the kernel is given. -/
def given (c : Dev nD) : FVec Ideal S8x2048x5120 .bf16 := m ((c : Thread nD τ).loc main_arg0)

/-- The batch and the head of the pair that a grid point works on. -/
def batch (t : Fin cfg0.N) : Fin 8 := ⟨t.val / 2, by have := t.isLt; change t.val < 16 at this; omega⟩
def pair (t : Fin cfg0.N) : Fin 2 := ⟨t.val % 2, Nat.mod_lt _ (by decide)⟩

theorem part_of (c : Dev nD) (b : Fin 8) (h : Fin 2) (base : ℕ) (hb : base < 17) (y : Fin 2048) (e : Fin 128) (i : S8x2048x5120.Idx)
    (h0 : (i 0).val = b.val) (h1 : (i 1).val = y.val) (h2 : (i 2).val = (base + h.val) * 128 + e.val) :
    given m c i = part (given m c) b h base y e := by
  unfold part
  rw [dif_pos hb]
  refine congrArg (given m c) (funext fun a => Fin.ext ?_)
  match a with
  | ⟨0, _⟩ => exact h0
  | ⟨1, _⟩ => exact h1
  | ⟨2, _⟩ => exact h2

theorem x0_eq (c : Dev nD) (t : Fin cfg0.N) (y : Fin 2048) (e : Fin 128) :
    (insAt m c t).x0 (ix3 (0 : Fin 1) y e) = part (given m c) (batch t) (pair t) 0 y e := by
  have hi : win0_0.index t 0 = t.val / 2 ∧ win0_0.index t 1 = 0 ∧ win0_0.index t 2 = 0 + t.val % 2 :=
    (by decide +kernel : ∀ t : Fin grid0.N, win0_0.index t 0 = t.val / 2 ∧ win0_0.index t 1 = 0 ∧ win0_0.index t 2 = 0 + t.val % 2) t
  refine (blockOf_apply _ _ _ y e).trans (part_of m c (batch t) (pair t) 0 (by decide) y e (((cfg0.win 0).blk t).view.emb (ix3 (0 : Fin 1) y e)) ?_ ?_ ?_)
  · show win0_0.index t 0 * 1 + 1 * 0 = t.val / 2; rw [hi.1]; omega
  · show win0_0.index t 1 * 2048 + 1 * y.val = y.val; rw [hi.2.1]; omega
  · show win0_0.index t 2 * 128 + 1 * e.val = (0 + t.val % 2) * 128 + e.val; rw [hi.2.2]; omega

theorem x1_eq (c : Dev nD) (t : Fin cfg0.N) (y : Fin 2048) (e : Fin 128) :
    (insAt m c t).x1 (ix3 (0 : Fin 1) y e) = part (given m c) (batch t) (pair t) 6 y e := by
  have hi : win0_1.index t 0 = t.val / 2 ∧ win0_1.index t 1 = 0 ∧ win0_1.index t 2 = 6 + t.val % 2 :=
    (by decide +kernel : ∀ t : Fin grid0.N, win0_1.index t 0 = t.val / 2 ∧ win0_1.index t 1 = 0 ∧ win0_1.index t 2 = 6 + t.val % 2) t
  refine (blockOf_apply _ _ _ y e).trans (part_of m c (batch t) (pair t) 6 (by decide) y e (((cfg0.win 1).blk t).view.emb (ix3 (0 : Fin 1) y e)) ?_ ?_ ?_)
  · show win0_1.index t 0 * 1 + 1 * 0 = t.val / 2; rw [hi.1]; omega
  · show win0_1.index t 1 * 2048 + 1 * y.val = y.val; rw [hi.2.1]; omega
  · show win0_1.index t 2 * 128 + 1 * e.val = (6 + t.val % 2) * 128 + e.val; rw [hi.2.2]; omega

theorem x2_eq (c : Dev nD) (t : Fin cfg0.N) (y : Fin 2048) (e : Fin 128) :
    (insAt m c t).x2 (ix3 (0 : Fin 1) y e) = part (given m c) (batch t) (pair t) 12 y e := by
  have hi : win0_2.index t 0 = t.val / 2 ∧ win0_2.index t 1 = 0 ∧ win0_2.index t 2 = 12 + t.val % 2 :=
    (by decide +kernel : ∀ t : Fin grid0.N, win0_2.index t 0 = t.val / 2 ∧ win0_2.index t 1 = 0 ∧ win0_2.index t 2 = 12 + t.val % 2) t
  refine (blockOf_apply _ _ _ y e).trans (part_of m c (batch t) (pair t) 12 (by decide) y e (((cfg0.win 2).blk t).view.emb (ix3 (0 : Fin 1) y e)) ?_ ?_ ?_)
  · show win0_2.index t 0 * 1 + 1 * 0 = t.val / 2; rw [hi.1]; omega
  · show win0_2.index t 1 * 2048 + 1 * y.val = y.val; rw [hi.2.1]; omega
  · show win0_2.index t 2 * 128 + 1 * e.val = (12 + t.val % 2) * 128 + e.val; rw [hi.2.2]; omega

theorem x3_eq (c : Dev nD) (t : Fin cfg0.N) (y : Fin 2048) (e : Fin 128) :
    (insAt m c t).x3 (ix3 (0 : Fin 1) y e) = part (given m c) (batch t) (pair t) 2 y e := by
  have hi : win0_3.index t 0 = t.val / 2 ∧ win0_3.index t 1 = 0 ∧ win0_3.index t 2 = 2 + t.val % 2 :=
    (by decide +kernel : ∀ t : Fin grid0.N, win0_3.index t 0 = t.val / 2 ∧ win0_3.index t 1 = 0 ∧ win0_3.index t 2 = 2 + t.val % 2) t
  refine (blockOf_apply _ _ _ y e).trans (part_of m c (batch t) (pair t) 2 (by decide) y e (((cfg0.win 3).blk t).view.emb (ix3 (0 : Fin 1) y e)) ?_ ?_ ?_)
  · show win0_3.index t 0 * 1 + 1 * 0 = t.val / 2; rw [hi.1]; omega
  · show win0_3.index t 1 * 2048 + 1 * y.val = y.val; rw [hi.2.1]; omega
  · show win0_3.index t 2 * 128 + 1 * e.val = (2 + t.val % 2) * 128 + e.val; rw [hi.2.2]; omega

theorem x4_eq (c : Dev nD) (t : Fin cfg0.N) (y : Fin 2048) (e : Fin 128) :
    (insAt m c t).x4 (ix3 (0 : Fin 1) y e) = part (given m c) (batch t) (pair t) 8 y e := by
  have hi : win0_4.index t 0 = t.val / 2 ∧ win0_4.index t 1 = 0 ∧ win0_4.index t 2 = 8 + t.val % 2 :=
    (by decide +kernel : ∀ t : Fin grid0.N, win0_4.index t 0 = t.val / 2 ∧ win0_4.index t 1 = 0 ∧ win0_4.index t 2 = 8 + t.val % 2) t
  refine (blockOf_apply _ _ _ y e).trans (part_of m c (batch t) (pair t) 8 (by decide) y e (((cfg0.win 4).blk t).view.emb (ix3 (0 : Fin 1) y e)) ?_ ?_ ?_)
  · show win0_4.index t 0 * 1 + 1 * 0 = t.val / 2; rw [hi.1]; omega
  · show win0_4.index t 1 * 2048 + 1 * y.val = y.val; rw [hi.2.1]; omega
  · show win0_4.index t 2 * 128 + 1 * e.val = (8 + t.val % 2) * 128 + e.val; rw [hi.2.2]; omega

theorem x5_eq (c : Dev nD) (t : Fin cfg0.N) (y : Fin 2048) (e : Fin 128) :
    (insAt m c t).x5 (ix3 (0 : Fin 1) y e) = part (given m c) (batch t) (pair t) 14 y e := by
  have hi : win0_5.index t 0 = t.val / 2 ∧ win0_5.index t 1 = 0 ∧ win0_5.index t 2 = 14 + t.val % 2 :=
    (by decide +kernel : ∀ t : Fin grid0.N, win0_5.index t 0 = t.val / 2 ∧ win0_5.index t 1 = 0 ∧ win0_5.index t 2 = 14 + t.val % 2) t
  refine (blockOf_apply _ _ _ y e).trans (part_of m c (batch t) (pair t) 14 (by decide) y e (((cfg0.win 5).blk t).view.emb (ix3 (0 : Fin 1) y e)) ?_ ?_ ?_)
  · show win0_5.index t 0 * 1 + 1 * 0 = t.val / 2; rw [hi.1]; omega
  · show win0_5.index t 1 * 2048 + 1 * y.val = y.val; rw [hi.2.1]; omega
  · show win0_5.index t 2 * 128 + 1 * e.val = (14 + t.val % 2) * 128 + e.val; rw [hi.2.2]; omega

theorem x6_eq (c : Dev nD) (t : Fin cfg0.N) (y : Fin 2048) (e : Fin 128) :
    (insAt m c t).x6 (ix3 (0 : Fin 1) y e) = part (given m c) (batch t) (pair t) 4 y e := by
  have hi : win0_6.index t 0 = t.val / 2 ∧ win0_6.index t 1 = 0 ∧ win0_6.index t 2 = 4 + t.val % 2 :=
    (by decide +kernel : ∀ t : Fin grid0.N, win0_6.index t 0 = t.val / 2 ∧ win0_6.index t 1 = 0 ∧ win0_6.index t 2 = 4 + t.val % 2) t
  refine (blockOf_apply _ _ _ y e).trans (part_of m c (batch t) (pair t) 4 (by decide) y e (((cfg0.win 6).blk t).view.emb (ix3 (0 : Fin 1) y e)) ?_ ?_ ?_)
  · show win0_6.index t 0 * 1 + 1 * 0 = t.val / 2; rw [hi.1]; omega
  · show win0_6.index t 1 * 2048 + 1 * y.val = y.val; rw [hi.2.1]; omega
  · show win0_6.index t 2 * 128 + 1 * e.val = (4 + t.val % 2) * 128 + e.val; rw [hi.2.2]; omega

theorem x7_eq (c : Dev nD) (t : Fin cfg0.N) (y : Fin 2048) (e : Fin 128) :
    (insAt m c t).x7 (ix3 (0 : Fin 1) y e) = part (given m c) (batch t) (pair t) 10 y e := by
  have hi : win0_7.index t 0 = t.val / 2 ∧ win0_7.index t 1 = 0 ∧ win0_7.index t 2 = 10 + t.val % 2 :=
    (by decide +kernel : ∀ t : Fin grid0.N, win0_7.index t 0 = t.val / 2 ∧ win0_7.index t 1 = 0 ∧ win0_7.index t 2 = 10 + t.val % 2) t
  refine (blockOf_apply _ _ _ y e).trans (part_of m c (batch t) (pair t) 10 (by decide) y e (((cfg0.win 7).blk t).view.emb (ix3 (0 : Fin 1) y e)) ?_ ?_ ?_)
  · show win0_7.index t 0 * 1 + 1 * 0 = t.val / 2; rw [hi.1]; omega
  · show win0_7.index t 1 * 2048 + 1 * y.val = y.val; rw [hi.2.1]; omega
  · show win0_7.index t 2 * 128 + 1 * e.val = (10 + t.val % 2) * 128 + e.val; rw [hi.2.2]; omega

theorem x8_eq (c : Dev nD) (t : Fin cfg0.N) (y : Fin 2048) (e : Fin 128) :
    (insAt m c t).x8 (ix3 (0 : Fin 1) y e) = part (given m c) (batch t) (pair t) 16 y e := by
  have hi : win0_8.index t 0 = t.val / 2 ∧ win0_8.index t 1 = 0 ∧ win0_8.index t 2 = 16 + t.val % 2 :=
    (by decide +kernel : ∀ t : Fin grid0.N, win0_8.index t 0 = t.val / 2 ∧ win0_8.index t 1 = 0 ∧ win0_8.index t 2 = 16 + t.val % 2) t
  refine (blockOf_apply _ _ _ y e).trans (part_of m c (batch t) (pair t) 16 (by decide) y e (((cfg0.win 8).blk t).view.emb (ix3 (0 : Fin 1) y e)) ?_ ?_ ?_)
  · show win0_8.index t 0 * 1 + 1 * 0 = t.val / 2; rw [hi.1]; omega
  · show win0_8.index t 1 * 2048 + 1 * y.val = y.val; rw [hi.2.1]; omega
  · show win0_8.index t 2 * 128 + 1 * e.val = (16 + t.val % 2) * 128 + e.val; rw [hi.2.2]; omega

/-- The output block of a grid point: the attention of its batch and pair of heads. -/
theorem out_apply (c : Dev nD) (t : Fin cfg0.N) (y : Fin 2048) (e : Fin 128) :
    (outsAt0 m c t).1 (ix3 (0 : Fin 1) y e) = attn (given m c) (batch t) (pair t) y.val e := by
  rw [block_eq, block_apply (table m c t)]
  have hs : ∀ (x : Vec Ideal S1x2048x128 .bf16) (f : Fin 2048 → Fin 128 → EReal) (hx : ∀ y e, x (ix3 (0 : Fin 1) y e) = f y e) (d r : ℕ),
      sub x d r = every f d r := by
    intro x f hx d r
    funext p e
    unfold sub every
    exact dite_congr rfl (fun _ => hx _ _) (fun _ => rfl)
  unfold rowMerged attn rowLse rowOut
  simp only [hs _ _ (x0_eq m c t), hs _ _ (x1_eq m c t), hs _ _ (x2_eq m c t), hs _ _ (x3_eq m c t), hs _ _ (x4_eq m c t),
    hs _ _ (x5_eq m c t), hs _ _ (x6_eq m c t), hs _ _ (x7_eq m c t), hs _ _ (x8_eq m c t)]
  congr 1
  · funext g
    match g with
    | ⟨0, _⟩ => rfl
    | ⟨1, _⟩ => rfl
    | ⟨2, _⟩ => rfl
  · funext g
    match g with
    | ⟨0, _⟩ => rfl
    | ⟨1, _⟩ => rfl
    | ⟨2, _⟩ => rfl

/-- The attention's array after the run. -/
theorem arr15 (c : Dev nD) : (dats m 0 c).arrAt 15 cfg0.N = (result (given m c) : FVec Ideal S8x2048x256 .bf16) := by
  refine (dats m 0 c).arrAt_eq_of_covers 15 _ (by decide +kernel) fun t _ y => ?_
  have hi : win0_15.index t 0 = t.val / 2 ∧ win0_15.index t 1 = 0 ∧ win0_15.index t 2 = t.val % 2 :=
    (by decide +kernel : ∀ t : Fin grid0.N, win0_15.index t 0 = t.val / 2 ∧ win0_15.index t 1 = 0 ∧ win0_15.index t 2 = t.val % 2) t
  rw [after0_15]
  have h0 : (y 0).val < 1 := (y 0).isLt
  have h1 : (y 1).val < 2048 := (y 1).isLt
  have h2 : (y 2).val < 128 := (y 2).isLt
  refine Eq.trans ?_ ((out_apply m c t ⟨(y 1).val, h1⟩ ⟨(y 2).val, h2⟩).trans ?_)
  · show (outsAt0 m c t).1 _ = _
    refine congrArg (outsAt0 m c t).1 (funext fun a => Fin.ext ?_)
    match a with
    | ⟨0, _⟩ => show (y 0).val = 0; omega
    | ⟨1, _⟩ => rfl
    | ⟨2, _⟩ => rfl
  · refine (result_apply (given m c) (((cfg0.win 15).blk t).view.emb y) (batch t) (pair t) (y 1).val ⟨(y 2).val, h2⟩ ?_ ?_ ?_).symm
    · show win0_15.index t 0 * 1 + 1 * (y 0).val = t.val / 2; rw [hi.1]; omega
    · show win0_15.index t 1 * 2048 + 1 * (y 1).val = _; rw [hi.2.1]; omega
    · show win0_15.index t 2 * 128 + 1 * (y 2).val = t.val % 2 * 128 + (y 2).val; rw [hi.2.2]; omega

end Cert.Array

end
-- ==== Proof.Copies.lean ====
/-
The five arrays that the attention's kernel copies beside its own work: each is the array it was given.
-/
module

public import proofs.«01_k».proof.Proof.Tile
public import proofs.«01_k».proof.Proof.Gen.KernelIdeal.Value
public import Idealize.ShloMosaic.Lib.Pipeline.ValueKit.Geometry
public import Idealize.ShloMosaic.Lib.Pipeline.ValueKit.Basic

@[expose] public section

set_option maxRecDepth 16384

noncomputable section

namespace Cert.Copies

open Idealize.ShloMosaic hiding ix1 ix2 ix3 eq_ix2 eq_ix3
open Idealize.ShloMosaic.ValueIdx Idealize.ShloMosaic.TcCoe Idealize.ShloMosaic.Tactic
open Idealize.SL.Sem
open Cert.KernelIdeal.Gen Cert.KernelIdeal Cert.Tile
open Idealize.ShloMosaic.Pipeline (Dat Cfg Window)

/-- The rectangle that is a whole block. -/
abbrev allRect (a b : ℕ) : Rect (Sh a b) := Rect.unit ![0, 0] ![a, b] fun x => by
  match x with
  | ⟨0, _⟩ => show 0 + a ≤ a; omega
  | ⟨1, _⟩ => show 0 + b ≤ b; omega

/-- A block read whole and rounded. -/
def copied {a b : ℕ} (M : Memref sig .tc .vmem (Sh a b) .f32) (h : M.IsWhole) (x : Vec Ideal (Sh a b) .f32) :
    Vec Ideal (Sh a b) .bf16 :=
  truncf (F := Ideal) (s := Sh a b) .bf16 (M.view.readAt (Elt Ideal) (allRect a b).toLoadRect (h.unread x) : FVec Ideal (Sh a b) .f32) bitsLt_bf16_f32

theorem copied_eq {a b : ℕ} (M : Memref sig .tc .vmem (Sh a b) .f32) (h : M.IsWhole) (x : Vec Ideal (Sh a b) .f32) :
    copied M h x = x := by
  funext y
  show M.view.readAt (Elt Ideal) (allRect a b).toLoadRect (h.unread x) y = x y
  rw [View.readAt_apply, h.read_unread]
  refine congrArg x (funext fun d => Fin.ext ?_)
  match d with
  | ⟨0, _⟩ => show 0 + 1 * (y 0).val = (y 0).val; omega
  | ⟨1, _⟩ => show 0 + 1 * (y 1).val = (y 1).val; omega

/-- A block all of which one store of the rounded block fills holds that block. -/
theorem canon_copied {a b : ℕ} (M : Memref sig .tc .vmem (Sh a b) .f32) (h : M.IsWhole) (x : Vec Ideal (Sh a b) .f32) :
    View.canon (Val := Elt Ideal) (s := Sh a b) (e := .bf16) [⟨allRect a b, copied M h x⟩] = x := by
  have hz : ∀ d : Fin (Sh a b).rank, (![0, 0] : Fin 2 → ℕ) d = 0 := by intro d; match d with | ⟨0, _⟩ => rfl | ⟨1, _⟩ => rfl
  refine Eq.trans ?_ (copied_eq M h x)
  exact View.canon_cons_unit_lit (Val := Elt Ideal) (S := Sh a b) (e := .bf16) (off := ![0, 0]) _ (copied M h x) [] hz

variable (m : (ℓ : Loc nD τ sig) → Buf (Elt Ideal) ℓ)

/-- Block of input 10 after rounding: the block itself. -/
theorem block16 (c : Dev nD) (t : Fin cfg0.N) : (outsAt0 m c t).2.1 = (iblk m c 10 t : Vec Ideal S128x2048 .f32) := by
  unfold outsAt0 out0_A_16
  dsimp only
  rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  refine Eq.trans ?_ (canon_copied (a := 128) (b := 2048) (ms0_10 t) (hs0_10 t) (iblk m c 10 t))
  sl_kernel_rfl

theorem copy16 (c : Dev nD) : (dats m 0 c).arrAt 16 cfg0.N = (m ((c : Thread nD τ).loc main_arg1) : FVec Ideal S2048x2048 .f32) := by
  refine (dats m 0 c).arrAt_eq_of_covers 16 _ (by decide +kernel) fun t _ y => ?_
  have hi : win0_16.index t 0 = win0_10.index t 0 ∧ win0_16.index t 1 = win0_10.index t 1 :=
    (by decide +kernel : ∀ t : Fin grid0.N, win0_16.index t 0 = win0_10.index t 0 ∧ win0_16.index t 1 = win0_10.index t 1) t
  rw [after0_16, block16, ← V_main_arg1 m c]
  show iblk m c 10 t _ = _
  unfold iblk
  refine congrArg (V m c main_arg1) (funext fun d => Fin.ext ?_)
  match d with
  | ⟨0, _⟩ => show win0_10.index t 0 * 128 + 1 * (y 0).val = win0_16.index t 0 * 128 + 1 * (y 0).val; rw [hi.1]
  | ⟨1, _⟩ => show win0_10.index t 1 * 2048 + 1 * (y 1).val = win0_16.index t 1 * 2048 + 1 * (y 1).val; rw [hi.2]

/-- Block of input 11 after rounding: the block itself. -/
theorem block17 (c : Dev nD) (t : Fin cfg0.N) : (outsAt0 m c t).2.2.1 = (iblk m c 11 t : Vec Ideal S16x2048 .f32) := by
  unfold outsAt0 out0_A_17
  dsimp only
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  refine Eq.trans ?_ (canon_copied (a := 16) (b := 2048) (ms0_11 t) (hs0_11 t) (iblk m c 11 t))
  sl_kernel_rfl

theorem copy17 (c : Dev nD) : (dats m 0 c).arrAt 17 cfg0.N = (m ((c : Thread nD τ).loc main_arg2) : FVec Ideal S256x2048 .f32) := by
  refine (dats m 0 c).arrAt_eq_of_covers 17 _ (by decide +kernel) fun t _ y => ?_
  have hi : win0_17.index t 0 = win0_11.index t 0 ∧ win0_17.index t 1 = win0_11.index t 1 :=
    (by decide +kernel : ∀ t : Fin grid0.N, win0_17.index t 0 = win0_11.index t 0 ∧ win0_17.index t 1 = win0_11.index t 1) t
  rw [after0_17, block17, ← V_main_arg2 m c]
  show iblk m c 11 t _ = _
  unfold iblk
  refine congrArg (V m c main_arg2) (funext fun d => Fin.ext ?_)
  match d with
  | ⟨0, _⟩ => show win0_11.index t 0 * 16 + 1 * (y 0).val = win0_17.index t 0 * 16 + 1 * (y 0).val; rw [hi.1]
  | ⟨1, _⟩ => show win0_11.index t 1 * 2048 + 1 * (y 1).val = win0_17.index t 1 * 2048 + 1 * (y 1).val; rw [hi.2]

/-- Block of input 12 after rounding: the block itself. -/
theorem block18 (c : Dev nD) (t : Fin cfg0.N) : (outsAt0 m c t).2.2.2.1 = (iblk m c 12 t : Vec Ideal S48x2048 .f32) := by
  unfold outsAt0 out0_A_18
  dsimp only
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  refine Eq.trans ?_ (canon_copied (a := 48) (b := 2048) (ms0_12 t) (hs0_12 t) (iblk m c 12 t))
  sl_kernel_rfl

theorem copy18 (c : Dev nD) : (dats m 0 c).arrAt 18 cfg0.N = (m ((c : Thread nD τ).loc main_arg3) : FVec Ideal S768x2048 .f32) := by
  refine (dats m 0 c).arrAt_eq_of_covers 18 _ (by decide +kernel) fun t _ y => ?_
  have hi : win0_18.index t 0 = win0_12.index t 0 ∧ win0_18.index t 1 = win0_12.index t 1 :=
    (by decide +kernel : ∀ t : Fin grid0.N, win0_18.index t 0 = win0_12.index t 0 ∧ win0_18.index t 1 = win0_12.index t 1) t
  rw [after0_18, block18, ← V_main_arg3 m c]
  show iblk m c 12 t _ = _
  unfold iblk
  refine congrArg (V m c main_arg3) (funext fun d => Fin.ext ?_)
  match d with
  | ⟨0, _⟩ => show win0_12.index t 0 * 48 + 1 * (y 0).val = win0_18.index t 0 * 48 + 1 * (y 0).val; rw [hi.1]
  | ⟨1, _⟩ => show win0_12.index t 1 * 2048 + 1 * (y 1).val = win0_18.index t 1 * 2048 + 1 * (y 1).val; rw [hi.2]

/-- Block of input 13 after rounding: the block itself. -/
theorem block19 (c : Dev nD) (t : Fin cfg0.N) : (outsAt0 m c t).2.2.2.2.1 = (iblk m c 13 t : Vec Ideal S32x2048 .f32) := by
  unfold outsAt0 out0_A_19
  dsimp only
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  refine Eq.trans ?_ (canon_copied (a := 32) (b := 2048) (ms0_13 t) (hs0_13 t) (iblk m c 13 t))
  sl_kernel_rfl

theorem copy19 (c : Dev nD) : (dats m 0 c).arrAt 19 cfg0.N = (m ((c : Thread nD τ).loc main_arg4) : FVec Ideal S512x2048 .f32) := by
  refine (dats m 0 c).arrAt_eq_of_covers 19 _ (by decide +kernel) fun t _ y => ?_
  have hi : win0_19.index t 0 = win0_13.index t 0 ∧ win0_19.index t 1 = win0_13.index t 1 :=
    (by decide +kernel : ∀ t : Fin grid0.N, win0_19.index t 0 = win0_13.index t 0 ∧ win0_19.index t 1 = win0_13.index t 1) t
  rw [after0_19, block19, ← V_main_arg4 m c]
  show iblk m c 13 t _ = _
  unfold iblk
  refine congrArg (V m c main_arg4) (funext fun d => Fin.ext ?_)
  match d with
  | ⟨0, _⟩ => show win0_13.index t 0 * 32 + 1 * (y 0).val = win0_19.index t 0 * 32 + 1 * (y 0).val; rw [hi.1]
  | ⟨1, _⟩ => show win0_13.index t 1 * 2048 + 1 * (y 1).val = win0_19.index t 1 * 2048 + 1 * (y 1).val; rw [hi.2]

/-- Block of input 14 after rounding: the block itself. -/
theorem block20 (c : Dev nD) (t : Fin cfg0.N) : (outsAt0 m c t).2.2.2.2.2 = (iblk m c 14 t : Vec Ideal S128x1024 .f32) := by
  unfold outsAt0 out0_A_20
  dsimp only
  rw [View.read_writes_eq_canon _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  refine Eq.trans ?_ (canon_copied (a := 128) (b := 1024) (ms0_14 t) (hs0_14 t) (iblk m c 14 t))
  sl_kernel_rfl

theorem copy20 (c : Dev nD) : (dats m 0 c).arrAt 20 cfg0.N = (m ((c : Thread nD τ).loc main_arg5) : FVec Ideal S2048x1024 .f32) := by
  refine (dats m 0 c).arrAt_eq_of_covers 20 _ (by decide +kernel) fun t _ y => ?_
  have hi : win0_20.index t 0 = win0_14.index t 0 ∧ win0_20.index t 1 = win0_14.index t 1 :=
    (by decide +kernel : ∀ t : Fin grid0.N, win0_20.index t 0 = win0_14.index t 0 ∧ win0_20.index t 1 = win0_14.index t 1) t
  rw [after0_20, block20, ← V_main_arg5 m c]
  show iblk m c 14 t _ = _
  unfold iblk
  refine congrArg (V m c main_arg5) (funext fun d => Fin.ext ?_)
  match d with
  | ⟨0, _⟩ => show win0_14.index t 0 * 128 + 1 * (y 0).val = win0_20.index t 0 * 128 + 1 * (y 0).val; rw [hi.1]
  | ⟨1, _⟩ => show win0_14.index t 1 * 1024 + 1 * (y 1).val = win0_20.index t 1 * 1024 + 1 * (y 1).val; rw [hi.2]

end Cert.Copies

end
-- ==== Proof.Layout.lean ====
/-
How the reference lays a group's rows out: by residue, in blocks of 64, and for keys and values in windows of three
blocks. Written for any dilation `d` and any number `n` of blocks with `n * 64 * d = 2048`.
-/
module

public import Idealize.ShloMosaic.Lib.Pipeline.Value
public import Idealize.ShloMosaic.Lib.KernelVsHost
public import Idealize.ShloMosaic.Lib.Pointwise
public import Idealize.ShloMosaic.Lib.ValueIdxRank6
public import Idealize.ShloMosaic.PureOps.Ideal.Laws
public import Mathlib.Tactic.Ring

@[expose] public section

noncomputable section

namespace Cert.Layout

open Idealize.ShloMosaic Idealize.ShloMosaic.Pointwise

abbrev A0 : Shape := ⟨4, ![8, 2048, 2, 128]⟩
abbrev A1 (d n : ℕ) : Shape := ⟨5, ![8, n * 64, d, 2, 128]⟩
abbrev A2 (d n : ℕ) : Shape := ⟨5, ![8, d, n * 64, 2, 128]⟩
abbrev A3 (d n : ℕ) : Shape := ⟨6, ![8, d, n, 64, 2, 128]⟩
abbrev B2 (d n : ℕ) : Shape := ⟨5, ![8, d, (n + 2) * 64, 2, 128]⟩
abbrev B3 (d n : ℕ) : Shape := ⟨6, ![8, d, n + 2, 64, 2, 128]⟩
abbrev B4 (d n : ℕ) : Shape := ⟨6, ![8, d, n, 192, 2, 128]⟩
abbrev U : Shape := ⟨0, ![]⟩

/-- What makes the layout well formed. -/
structure Fits (d n : ℕ) : Prop where
  whole : n * 64 * d = 2048
  split : A0.ShapeCasts (A1 d n)
  swap : (A1 d n).Transposes [0, 2, 1, 3, 4] (A2 d n)
  pad0 : (A2 d n).Pads (![0, 0, 0, 0, 0] : Fin 5 → ℕ) ![0, 0, 0, 0, 0] ![0, 0, 0, 0, 0] (A2 d n)
  one : 0 < U.numel
  blocks : (A2 d n).ShapeCasts (A3 d n)
  pad64 : (A2 d n).Pads (![0, 0, 64, 0, 0] : Fin 5 → ℕ) ![0, 0, 64, 0, 0] ![0, 0, 0, 0, 0] (B2 d n)
  blocks2 : (B2 d n).ShapeCasts (B3 d n)
  at0 : (B3 d n).Slices ![0, 0, 0, 0, 0, 0] (A3 d n)
  at1 : (B3 d n).Slices ![0, 0, 1, 0, 0, 0] (A3 d n)
  at2 : (B3 d n).Slices ![0, 0, 2, 0, 0, 0] (A3 d n)
  join : Shape.Concatenates [A3 d n, A3 d n, A3 d n] (B4 d n) 3
  back : (A3 d n).ShapeCasts (A2 d n)
  swapBack : (A2 d n).Transposes [0, 2, 1, 3, 4] (A1 d n)
  merge : (A1 d n).ShapeCasts A0

variable {d n : ℕ} (F : Fits d n)

/-- The padding value. -/
def zero : FVec Ideal U .f32 := sitofp (F := Ideal) .f32 (constantI U 32 0#32)

/-- A group's rows by residue. -/
def rows (x : FVec Ideal A0 .bf16) : FVec Ideal (A2 d n) .f32 :=
  transpose (A2 d n) [0, 2, 1, 3, 4] (shapeCast (A1 d n) (extf .f32 x (by decide)) F.split) F.swap

/-- The queries, in blocks. -/
def queries (x : FVec Ideal A0 .bf16) : FVec Ideal (A3 d n) .f32 :=
  shapeCast (A3 d n) (pad (A2 d n) ![0, 0, 0, 0, 0] ![0, 0, 0, 0, 0] ![0, 0, 0, 0, 0] (rows F x) zero F.pad0 F.one) F.blocks

/-- Keys or values with a block of zeros before and after, in blocks. -/
def padded (x : FVec Ideal A0 .bf16) : FVec Ideal (B3 d n) .f32 :=
  shapeCast (B3 d n) (pad (B2 d n) ![0, 0, 64, 0, 0] ![0, 0, 64, 0, 0] ![0, 0, 0, 0, 0] (rows F x) zero F.pad64 F.one) F.blocks2

/-- Keys or values of the block before, of the block and of the block after. -/
def thirds (x : FVec Ideal A0 .bf16) : List ((s : Shape) × (s.Idx → EReal)) :=
    [⟨A3 d n, extractStridedSlice (A3 d n) ![0, 0, 0, 0, 0, 0] (padded F x) F.at0⟩,
     ⟨A3 d n, extractStridedSlice (A3 d n) ![0, 0, 1, 0, 0, 0] (padded F x) F.at1⟩,
     ⟨A3 d n, extractStridedSlice (A3 d n) ![0, 0, 2, 0, 0, 0] (padded F x) F.at2⟩]

/-- The windows: the three thirds end to end. -/
def windows (x : FVec Ideal A0 .bf16) : FVec Ideal (B4 d n) .f32 := concatenate (B4 d n) 3 (thirds F x) F.join

include F in
theorem lt_whole {p r : ℕ} (hp : p < n * 64) (hr : r < d) : p * d + r < 2048 := by
  have := F.whole
  calc p * d + r < p * d + d := by omega
    _ = (p + 1) * d := by ring
    _ ≤ n * 64 * d := Nat.mul_le_mul_right d hp
    _ = 2048 := F.whole

/-- Row `p` of residue `r`. -/
theorem rows_apply (x : FVec Ideal A0 .bf16) (b : Fin 8) (r : Fin d) (p : Fin (n * 64)) (h : Fin 2) (e : Fin 128) :
    rows F x (ix5 b r p h e) = x (ix4 b ⟨p.val * d + r.val, lt_whole F p.isLt r.isLt⟩ h e) := by
  unfold rows
  refine (transpose_apply _ _ F.swap (ix5 b r p h e) (ix5 b p r h e) ?_).trans ?_
  · intro a
    match a with
    | ⟨0, _⟩ => rfl
    | ⟨1, _⟩ => rfl
    | ⟨2, _⟩ => rfl
    | ⟨3, _⟩ => rfl
    | ⟨4, _⟩ => rfl
  · refine (shapeCast_apply _ F.split (ix5 b p r h e) (ix4 b ⟨p.val * d + r.val, lt_whole F p.isLt r.isLt⟩ h e) ?_).trans rfl
    rw [Shape.rowMajor_val_four, Shape.rowMajor_val_five]
    show ((b.val * 2048 + (p.val * d + r.val)) * 2 + h.val) * 128 + e.val
      = (((b.val * (n * 64) + p.val) * d + r.val) * 2 + h.val) * 128 + e.val
    rw [← F.whole]
    ring

/-- Query `a` of block `i`. -/
theorem queries_apply (x : FVec Ideal A0 .bf16) (b : Fin 8) (r : Fin d) (i : Fin n) (a : Fin 64) (h : Fin 2) (e : Fin 128) :
    queries F x (ix6 b r i a h e)
      = x (ix4 b ⟨(i.val * 64 + a.val) * d + r.val, lt_whole F (by omega) r.isLt⟩ h e) := by
  unfold queries
  have hp : i.val * 64 + a.val < n * 64 := by omega
  refine (shapeCast_apply _ F.blocks (ix6 b r i a h e) (ix5 b r ⟨i.val * 64 + a.val, hp⟩ h e) ?_).trans ?_
  · rw [Shape.rowMajor_val_six, Shape.rowMajor_val_five]
    show (((b.val * d + r.val) * (n * 64) + (i.val * 64 + a.val)) * 2 + h.val) * 128 + e.val
      = ((((b.val * d + r.val) * n + i.val) * 64 + a.val) * 2 + h.val) * 128 + e.val
    ring
  · refine (pad_apply_of_inside _ _ _ _ _ F.pad0 F.one _ (ix5 b r ⟨i.val * 64 + a.val, hp⟩ h e) ?_).trans
      (rows_apply F x b r ⟨i.val * 64 + a.val, hp⟩ h e)
    intro q
    match q with
    | ⟨0, _⟩ => show b.val = 0 + b.val * (0 + 1); omega
    | ⟨1, _⟩ => show r.val = 0 + r.val * (0 + 1); omega
    | ⟨2, _⟩ => show i.val * 64 + a.val = 0 + (i.val * 64 + a.val) * (0 + 1); omega
    | ⟨3, _⟩ => show h.val = 0 + h.val * (0 + 1); omega
    | ⟨4, _⟩ => show e.val = 0 + e.val * (0 + 1); omega

theorem zero_apply (i : U.Idx) : zero i = 0 := by
  show (((0#32).toInt : ℝ) : EReal) = 0
  simp

/-- Place `a` of block `i` of the padded rows. -/
theorem padded_apply (x : FVec Ideal A0 .bf16) (b : Fin 8) (r : Fin d) (i : Fin (n + 2)) (a : Fin 64) (h : Fin 2) (e : Fin 128) :
    padded F x (ix6 b r i a h e)
      = if hp : 64 ≤ i.val * 64 + a.val ∧ i.val * 64 + a.val - 64 < n * 64 then
          x (ix4 b ⟨(i.val * 64 + a.val - 64) * d + r.val, lt_whole F hp.2 r.isLt⟩ h e) else 0 := by
  unfold padded
  have hq : i.val * 64 + a.val < (n + 2) * 64 := by omega
  refine (shapeCast_apply _ F.blocks2 (ix6 b r i a h e) (ix5 b r ⟨i.val * 64 + a.val, hq⟩ h e) ?_).trans ?_
  · rw [Shape.rowMajor_val_six, Shape.rowMajor_val_five]
    show (((b.val * d + r.val) * ((n + 2) * 64) + (i.val * 64 + a.val)) * 2 + h.val) * 128 + e.val
      = ((((b.val * d + r.val) * (n + 2) + i.val) * 64 + a.val) * 2 + h.val) * 128 + e.val
    ring
  · by_cases hp : 64 ≤ i.val * 64 + a.val ∧ i.val * 64 + a.val - 64 < n * 64
    · rw [dif_pos hp]
      refine (pad_apply_of_inside _ _ _ _ _ F.pad64 F.one _ (ix5 b r ⟨i.val * 64 + a.val - 64, hp.2⟩ h e) ?_).trans
        (rows_apply F x b r ⟨i.val * 64 + a.val - 64, hp.2⟩ h e)
      intro q
      match q with
      | ⟨0, _⟩ => show b.val = 0 + b.val * (0 + 1); omega
      | ⟨1, _⟩ => show r.val = 0 + r.val * (0 + 1); omega
      | ⟨2, _⟩ => show i.val * 64 + a.val = 64 + (i.val * 64 + a.val - 64) * (0 + 1); omega
      | ⟨3, _⟩ => show h.val = 0 + h.val * (0 + 1); omega
      | ⟨4, _⟩ => show e.val = 0 + e.val * (0 + 1); omega
    · rw [dif_neg hp]
      refine (pad_apply_of_not_inside _ _ _ _ _ F.pad64 F.one _ 2 ?_).trans (zero_apply _)
      show ¬(64 ≤ i.val * 64 + a.val ∧ (i.val * 64 + a.val - 64) % (0 + 1) = 0 ∧ (i.val * 64 + a.val - 64) / (0 + 1) < n * 64)
      rw [Nat.div_one]
      exact fun hh => hp ⟨hh.1, hh.2.2⟩

/-- A third of the windows: its piece `k` read at place `a` is the padded rows' block `k` further on. -/
theorem third_apply (x : FVec Ideal A0 .bf16) (k : ℕ) (hk : k < 3) (hs : (B3 d n).Slices ![0, 0, k, 0, 0, 0] (A3 d n))
    (b : Fin 8) (r : Fin d) (i : Fin n) (a : Fin 64) (h : Fin 2) (e : Fin 128) :
    extractStridedSlice (A3 d n) ![0, 0, k, 0, 0, 0] (padded F x) hs (ix6 b r i a h e)
      = padded F x (ix6 b r ⟨k + i.val, by omega⟩ a h e) := by
  refine extractStridedSlice_apply _ _ hs _ _ fun q => ?_
  match q with
  | ⟨0, _⟩ => show b.val = 0 + b.val; omega
  | ⟨1, _⟩ => show r.val = 0 + r.val; omega
  | ⟨2, _⟩ => rfl
  | ⟨3, _⟩ => show a.val = 0 + a.val; omega
  | ⟨4, _⟩ => show h.val = 0 + h.val; omega
  | ⟨5, _⟩ => show e.val = 0 + e.val; omega

/-- Place `j` of the window of block `i`. -/
theorem windows_apply (x : FVec Ideal A0 .bf16) (b : Fin 8) (r : Fin d) (i : Fin n) (j : Fin 192) (h : Fin 2) (e : Fin 128) :
    windows F x (ix6 b r i j h e)
      = if hp : 64 ≤ i.val * 64 + j.val ∧ i.val * 64 + j.val - 64 < n * 64 then
          x (ix4 b ⟨(i.val * 64 + j.val - 64) * d + r.val, lt_whole F hp.2 r.isLt⟩ h e) else 0 := by
  have ha : j.val % 64 < 64 := Nat.mod_lt _ (by decide)
  have key : ∀ (k : ℕ) (hk : k < 3) (hs : (B3 d n).Slices ![0, 0, k, 0, 0, 0] (A3 d n)), j.val = k * 64 + j.val % 64 →
      extractStridedSlice (A3 d n) ![0, 0, k, 0, 0, 0] (padded F x) hs (ix6 b r i ⟨j.val % 64, ha⟩ h e)
        = if hp : 64 ≤ i.val * 64 + j.val ∧ i.val * 64 + j.val - 64 < n * 64 then
          x (ix4 b ⟨(i.val * 64 + j.val - 64) * d + r.val, lt_whole F hp.2 r.isLt⟩ h e) else 0 := by
    intro k hk hs hj
    have e1 : (k + i.val) * 64 + j.val % 64 = i.val * 64 + j.val := by omega
    rw [third_apply F x k hk hs, padded_apply]
    simp only [e1]
  have hoff : ∀ q : Fin 6, q.cast rfl ≠ (3 : Fin 6) →
      ((ix6 b r i (⟨j.val % 64, ha⟩ : Fin 64) h e : (A3 d n).Idx) q).val = ((ix6 b r i j h e : (B4 d n).Idx) q).val := by
    intro q hq
    match q with
    | ⟨0, _⟩ => rfl
    | ⟨1, _⟩ => rfl
    | ⟨2, _⟩ => rfl
    | ⟨3, _⟩ => exact absurd rfl hq
    | ⟨4, _⟩ => rfl
    | ⟨5, _⟩ => rfl
  have hj3 : j.val < 64 ∨ (64 ≤ j.val ∧ j.val < 128) ∨ 128 ≤ j.val := by omega
  unfold windows
  rcases hj3 with h0 | h1 | h2
  · exact (concatenate_apply_piece (t := B4 d n) 3 (thirds F x) F.join (ix6 b r i j h e) 0 (by show 0 < 3; decide) (A3 d n) _ rfl rfl 0 rfl
      (ix6 b r i ⟨j.val % 64, ha⟩ h e) hoff (by show 0 + j.val % 64 = j.val; omega)).trans (key 0 (by decide) F.at0 (by omega))
  · exact (concatenate_apply_piece (t := B4 d n) 3 (thirds F x) F.join (ix6 b r i j h e) 1 (by show 1 < 3; decide) (A3 d n) _ rfl rfl 64 rfl
      (ix6 b r i ⟨j.val % 64, ha⟩ h e) hoff (by show 64 + j.val % 64 = j.val; omega)).trans (key 1 (by decide) F.at1 (by omega))
  · exact (concatenate_apply_piece (t := B4 d n) 3 (thirds F x) F.join (ix6 b r i j h e) 2 (by show 2 < 3; decide) (A3 d n) _ rfl rfl 128 rfl
      (ix6 b r i ⟨j.val % 64, ha⟩ h e) hoff (by show 128 + j.val % 64 = j.val; omega)).trans (key 2 (by decide) F.at2 (by omega))

/-- Blocks laid back as rows of the sequence. -/
def unrows {α : Type} (x : (A3 d n).Idx → α) : A0.Idx → α :=
  shapeCast A0 (transpose (A1 d n) [0, 2, 1, 3, 4] (shapeCast (A2 d n) x F.back) F.swapBack) F.merge

/-- Row `(i * 64 + a) * d + r` of the sequence is place `a` of block `i` of residue `r`. -/
theorem unrows_apply {α : Type} (x : (A3 d n).Idx → α) (b : Fin 8) (r : Fin d) (i : Fin n) (a : Fin 64) (h : Fin 2) (e : Fin 128) :
    unrows F x (ix4 b ⟨(i.val * 64 + a.val) * d + r.val, lt_whole F (by omega) r.isLt⟩ h e) = x (ix6 b r i a h e) := by
  unfold unrows
  have hp : i.val * 64 + a.val < n * 64 := by omega
  refine (shapeCast_apply _ F.merge _ (ix5 b (⟨i.val * 64 + a.val, hp⟩ : Fin (n * 64)) r h e) ?_).trans ?_
  · rw [Shape.rowMajor_val_four, Shape.rowMajor_val_five]
    show (((b.val * (n * 64) + (i.val * 64 + a.val)) * d + r.val) * 2 + h.val) * 128 + e.val
      = ((b.val * 2048 + ((i.val * 64 + a.val) * d + r.val)) * 2 + h.val) * 128 + e.val
    rw [← F.whole]
    ring
  · refine (transpose_apply _ _ F.swapBack _ (ix5 b r (⟨i.val * 64 + a.val, hp⟩ : Fin (n * 64)) h e) ?_).trans ?_
    · intro q
      match q with
      | ⟨0, _⟩ => rfl
      | ⟨1, _⟩ => rfl
      | ⟨2, _⟩ => rfl
      | ⟨3, _⟩ => rfl
      | ⟨4, _⟩ => rfl
    · refine shapeCast_apply _ F.back _ (ix6 b r i a h e) ?_
      rw [Shape.rowMajor_val_six, Shape.rowMajor_val_five]
      show ((((b.val * d + r.val) * n + i.val) * 64 + a.val) * 2 + h.val) * 128 + e.val
        = (((b.val * d + r.val) * (n * 64) + (i.val * 64 + a.val)) * 2 + h.val) * 128 + e.val
      ring

end Cert.Layout

end
-- ==== Proof.Mask.lean ====
/-
Which keys of its window a query of the reference sees: those at most 64 places away that stand inside the sequence.
Written for any dilation `d` and any number `n` of blocks.
-/
module

public import proofs.«01_k».proof.Proof.Words
public import Idealize.ShloMosaic.Lib.Pipeline.Value
public import Idealize.ShloMosaic.Lib.Pointwise
public import Idealize.ShloMosaic.Lib.ValueIdxRank6

@[expose] public section

noncomputable section

namespace Cert.Mask

open Idealize.ShloMosaic Idealize.ShloMosaic.Pointwise Cert.Words

abbrev U : Shape := ⟨0, ![]⟩
abbrev Q1 : Shape := ⟨1, ![64]⟩
abbrev Q2 : Shape := ⟨2, ![64, 1]⟩
abbrev K1 : Shape := ⟨1, ![192]⟩
abbrev K2 : Shape := ⟨2, ![1, 192]⟩
abbrev K3 : Shape := ⟨3, ![1, 1, 192]⟩
abbrev R2 : Shape := ⟨2, ![64, 192]⟩
abbrev R3 : Shape := ⟨3, ![1, 64, 192]⟩
abbrev N1 (n : ℕ) : Shape := ⟨1, ![n]⟩
abbrev N3 (n : ℕ) : Shape := ⟨3, ![n, 1, 1]⟩
abbrev P3 (n : ℕ) : Shape := ⟨3, ![n, 1, 192]⟩
abbrev M3 (n : ℕ) : Shape := ⟨3, ![n, 64, 192]⟩

/-- What makes the mask well formed. -/
structure Fits (n : ℕ) : Prop where
  small : n ≤ 32
  q12 : Q1.BroadcastsInDim Q2 (![0] : Fin 1 → Fin Q2.rank)
  k12 : K1.BroadcastsInDim K2 (![1] : Fin 1 → Fin K2.rank)
  uk2 : U.BroadcastsInDim K2 (![] : Fin 0 → Fin K2.rank)
  kr : K2.BroadcastsInDim R2 (![0, 1] : Fin 2 → Fin R2.rank)
  qr : Q2.BroadcastsInDim R2 (![0, 1] : Fin 2 → Fin R2.rank)
  n13 : (N1 n).BroadcastsInDim (N3 n) (![0] : Fin 1 → Fin (N3 n).rank)
  un3 : U.BroadcastsInDim (N3 n) (![] : Fin 0 → Fin (N3 n).rank)
  k23 : K2.BroadcastsInDim K3 (![1, 2] : Fin 2 → Fin K3.rank)
  np : (N3 n).BroadcastsInDim (P3 n) (![0, 1, 2] : Fin 3 → Fin (P3 n).rank)
  kp : K3.BroadcastsInDim (P3 n) (![0, 1, 2] : Fin 3 → Fin (P3 n).rank)
  ur2 : U.BroadcastsInDim R2 (![] : Fin 0 → Fin R2.rank)
  r23 : R2.BroadcastsInDim R3 (![1, 2] : Fin 2 → Fin R3.rank)
  up : U.BroadcastsInDim (P3 n) (![] : Fin 0 → Fin (P3 n).rank)
  rm : R3.BroadcastsInDim (M3 n) (![0, 1, 2] : Fin 3 → Fin (M3 n).rank)
  pm : (P3 n).BroadcastsInDim (M3 n) (![0, 1, 2] : Fin 3 → Fin (M3 n).rank)

variable {n : ℕ} (F : Fits n)

/-- A key's place in its window. -/
def keys : IVec K2 32 := broadcastInDim K2 ![1] F.k12 (iotaInDim K1 32 0)

/-- A key's place less 64, over all pairs. -/
def keyside : IVec R2 32 :=
  broadcastInDim R2 ![0, 1] F.kr (subi (keys F) (broadcastInDim K2 ![] F.uk2 (constantI U 32 64#32)))

/-- A query's place, over all pairs. -/
def queryside : IVec R2 32 :=
  broadcastInDim R2 ![0, 1] F.qr (broadcastInDim Q2 ![0] F.q12 (iotaInDim Q1 32 0))

/-- A key's place less its query's. -/
def rel : IVec R2 32 := subi (keyside F) (queryside F)

/-- Where a block's window starts. -/
def starts : IVec (P3 n) 32 :=
  broadcastInDim (P3 n) ![0, 1, 2] F.np
    (subi (muli (broadcastInDim (N3 n) ![0] F.n13 (iotaInDim (N1 n) 32 0)) (broadcastInDim (N3 n) ![] F.un3 (constantI U 32 64#32)))
      (broadcastInDim (N3 n) ![] F.un3 (constantI U 32 64#32)))

/-- A key's place in its window, over all blocks. -/
def spots : IVec (P3 n) 32 := broadcastInDim (P3 n) ![0, 1, 2] F.kp (broadcastInDim K3 ![1, 2] F.k23 (keys F))

/-- A key's place in the sequence. -/
def place : IVec (P3 n) 32 := addi (starts F) (spots F)

/-- Which keys a query sees. -/
def seen : IVec (M3 n) 1 :=
  andi
    (andi (broadcastInDim (M3 n) ![0, 1, 2] F.rm (broadcastInDim R3 ![1, 2] F.r23
        (cmpi .sle (absi (rel F)) (broadcastInDim R2 ![] F.ur2 (constantI U 32 64#32)))))
      (broadcastInDim (M3 n) ![0, 1, 2] F.pm (cmpi .sge (place F) (broadcastInDim (P3 n) ![] F.up (constantI U 32 0#32)))))
    (broadcastInDim (M3 n) ![0, 1, 2] F.pm
      (cmpi .slt (place F) (broadcastInDim (P3 n) ![] F.up (constantI U 32 (BitVec.ofNat 32 (n * 64))))))

theorem keys_apply (j : Fin 192) : keys F (ix2 0 j) = BitVec.ofNat 32 j.val :=
  broadcastInDim_apply _ F.k12 (iotaInDim K1 32 0) (ix2 0 j) (ix1 j) fun q => match q with | ⟨0, _⟩ => (if_neg (show ¬ 192 = 1 by decide)).symm

theorem rel_apply (a : Fin 64) (j : Fin 192) :
    rel F (ix2 a j) = BitVec.ofNat 32 j.val - 64#32 - BitVec.ofNat 32 a.val := by
  have e1 : keyside F (ix2 a j) = BitVec.ofNat 32 j.val - 64#32 := by
    refine (broadcastInDim_apply _ F.kr _ (ix2 a j) (ix2 0 j) fun q => ?_).trans ?_
    · match q with
      | ⟨0, _⟩ => show 0 = if 1 = 1 then 0 else a.val; exact (if_pos rfl).symm
      | ⟨1, _⟩ => show j.val = if 192 = 1 then 0 else j.val; exact (if_neg (by decide)).symm
    · show keys F (ix2 0 j) - 64#32 = _
      rw [keys_apply]
  have e2 : queryside F (ix2 a j) = BitVec.ofNat 32 a.val := by
    refine (broadcastInDim_apply _ F.qr _ (ix2 a j) (ix2 a 0) fun q => ?_).trans ?_
    · match q with
      | ⟨0, _⟩ => exact (if_neg (show ¬ 64 = 1 by decide)).symm
      | ⟨1, _⟩ => exact (if_pos rfl).symm
    · exact broadcastInDim_apply _ F.q12 (iotaInDim Q1 32 0) (ix2 a 0) (ix1 a) fun q => match q with
        | ⟨0, _⟩ => (if_neg (show ¬ 64 = 1 by decide)).symm
  show IntOp.subi (keyside F (ix2 a j)) (queryside F (ix2 a j)) = _
  rw [e1, e2]; rfl

theorem place_apply (i : Fin n) (j : Fin 192) :
    place F (ix3 i 0 j) = BitVec.ofNat 32 i.val * 64#32 - 64#32 + BitVec.ofNat 32 j.val := by
  have hi : ∀ x : ℕ, x = 0 → i.val = if n = 1 then x else i.val := by intro x hx; split <;> omega
  have e1 : starts F (ix3 i 0 j) = BitVec.ofNat 32 i.val * 64#32 - 64#32 := by
    refine (broadcastInDim_apply _ F.np _ (ix3 i 0 j) (ix3 i 0 0) fun q => ?_).trans ?_
    · match q with
      | ⟨0, _⟩ => exact hi 0 rfl
      | ⟨1, _⟩ => show 0 = if 1 = 1 then 0 else 0; exact (if_pos rfl).symm
      | ⟨2, _⟩ => show 0 = if 1 = 1 then 0 else j.val; exact (if_pos rfl).symm
    · show broadcastInDim (N3 n) ![0] F.n13 (iotaInDim (N1 n) 32 0) (ix3 i 0 0) * 64#32 - 64#32 = _
      rw [broadcastInDim_apply _ F.n13 _ (ix3 i 0 0) (ix1 i) fun q => match q with | ⟨0, _⟩ => hi 0 rfl]
      rfl
  have e2 : spots F (ix3 i 0 j) = BitVec.ofNat 32 j.val := by
    refine (broadcastInDim_apply (s := K3) _ F.kp _ (ix3 i 0 j) (ix3 0 0 j) fun q => ?_).trans ?_
    · match q with
      | ⟨0, _⟩ => exact (if_pos rfl).symm
      | ⟨1, _⟩ => exact (if_pos rfl).symm
      | ⟨2, _⟩ => exact (if_neg (show ¬ 192 = 1 by decide)).symm
    · refine (broadcastInDim_apply (s := K2) _ F.k23 _ (ix3 0 0 j) (ix2 0 j) fun q => ?_).trans (keys_apply F j)
      match q with
      | ⟨0, _⟩ => exact (if_pos rfl).symm
      | ⟨1, _⟩ => exact (if_neg (show ¬ 192 = 1 by decide)).symm
  show IntOp.addi (starts F (ix3 i 0 j)) (spots F (ix3 i 0 j)) = _
  rw [e1, e2]; rfl

/-- Query `a` of block `i` sees place `j` of its window when it is in the band and inside the sequence. -/
def Seen (n : ℕ) (i : ℕ) (a : Fin 64) (j : Fin 192) : Prop :=
  (a.val ≤ j.val ∧ j.val ≤ a.val + 128) ∧ 64 ≤ i * 64 + j.val ∧ i * 64 + j.val - 64 < n * 64

instance (n i : ℕ) (a : Fin 64) : DecidablePred (Seen n i a) := fun _ => inferInstanceAs (Decidable (_ ∧ _))

theorem seen_apply (i : Fin n) (a : Fin 64) (j : Fin 192) :
    seen F (ix3 i a j) = BitVec.ofBool (decide (Seen n i.val a j)) := by
  have hn := F.small
  have hi : ∀ x : ℕ, x = 0 → i.val = if n = 1 then x else i.val := by intro x hx; split <;> omega
  have e1 : broadcastInDim (M3 n) ![0, 1, 2] F.rm (broadcastInDim R3 ![1, 2] F.r23
        (cmpi .sle (absi (rel F)) (broadcastInDim R2 ![] F.ur2 (constantI U 32 64#32)))) (ix3 i a j)
      = IntOp.cmpi .sle (IntOp.absi (rel F (ix2 a j))) 64#32 := by
    refine (broadcastInDim_apply (s := R3) _ F.rm _ (ix3 i a j) (ix3 0 a j) fun q => ?_).trans
      ((broadcastInDim_apply (s := R2) _ F.r23 _ (ix3 0 a j) (ix2 a j) fun q => ?_).trans rfl)
    · match q with
      | ⟨0, _⟩ => show 0 = if 1 = 1 then 0 else i.val; exact (if_pos rfl).symm
      | ⟨1, _⟩ => show a.val = if 64 = 1 then 0 else a.val; exact (if_neg (by decide)).symm
      | ⟨2, _⟩ => show j.val = if 192 = 1 then 0 else j.val; exact (if_neg (by decide)).symm
    · match q with
      | ⟨0, _⟩ => show a.val = if 64 = 1 then 0 else a.val; exact (if_neg (by decide)).symm
      | ⟨1, _⟩ => show j.val = if 192 = 1 then 0 else j.val; exact (if_neg (by decide)).symm
  have e2 : ∀ x : IVec (P3 n) 1, broadcastInDim (M3 n) ![0, 1, 2] F.pm x (ix3 i a j) = x (ix3 i 0 j) := fun x =>
    broadcastInDim_apply _ F.pm x (ix3 i a j) (ix3 i 0 j) fun q => by
      match q with
      | ⟨0, _⟩ => exact hi 0 rfl
      | ⟨1, _⟩ => show 0 = if 1 = 1 then 0 else a.val; exact (if_pos rfl).symm
      | ⟨2, _⟩ => show j.val = if 192 = 1 then 0 else j.val; exact (if_neg (by decide)).symm
  have hj := toInt_nat j.val (by omega)
  have ha := toInt_nat a.val (by omega)
  have h64 : (64#32).toInt = 64 := by decide
  have hrel : (rel F (ix2 a j)).toInt = j.val - 64 - a.val := by
    have r1 : (BitVec.ofNat 32 j.val - 64#32).toInt = j.val - 64 := by rw [toInt_sub' _ _ (by omega) (by omega), hj, h64]
    rw [rel_apply, toInt_sub' _ _ (by omega) (by omega), r1, ha]
  have hpl : (place F (ix3 i 0 j)).toInt = i.val * 64 - 64 + j.val := by
    have m1 : BitVec.ofNat 32 i.val * 64#32 = BitVec.ofNat 32 (i.val * 64) := by rw [BitVec.ofNat_mul]
    have r0 := toInt_nat (i.val * 64) (by omega)
    have r1 : (BitVec.ofNat 32 (i.val * 64) - 64#32).toInt = i.val * 64 - 64 := by
      rw [toInt_sub' _ _ (by omega) (by omega), r0, h64]; omega
    rw [place_apply, m1, toInt_add' _ _ (by omega) (by omega), r1, hj]
  have hL := toInt_nat (n * 64) (by omega)
  show IntOp.andi (IntOp.andi _ _) _ = _
  rw [e1, e2, e2, near_word _ (by omega)]
  show IntOp.andi (IntOp.andi _ (IntOp.cmpi .sge (place F (ix3 i 0 j)) 0#32)) (IntOp.cmpi .slt (place F (ix3 i 0 j)) (BitVec.ofNat 32 (n * 64))) = _
  have c1 : IntOp.cmpi .sge (place F (ix3 i 0 j)) 0#32 = BitVec.ofBool (decide (0 ≤ (place F (ix3 i 0 j)).toInt)) := rfl
  have c2 : IntOp.cmpi .slt (place F (ix3 i 0 j)) (BitVec.ofNat 32 (n * 64))
      = BitVec.ofBool (decide ((place F (ix3 i 0 j)).toInt < (BitVec.ofNat 32 (n * 64)).toInt)) := rfl
  rw [c1, c2, hrel, hpl, hL]
  have hand : ∀ p q : Bool, IntOp.andi (BitVec.ofBool p) (BitVec.ofBool q) = BitVec.ofBool (p && q) := by decide
  rw [hand, hand]
  congr 1
  rw [← Bool.decide_and, ← Bool.decide_and]
  refine decide_eq_decide.mpr ?_
  unfold Seen
  omega

end Cert.Mask

end
-- ==== Proof.Group.lean ====
/-
One dilation group of the reference from its queries, keys and values in blocks: scores, softmax over the band and
the weighted mean. Written for any dilation `d` and any number `n` of blocks of 64 queries.
-/
module

public import proofs.«01_k».proof.Proof.Layout
public import proofs.«01_k».proof.Proof.Mask
public import proofs.«01_k».proof.Proof.Merge
public import proofs.«01_k».proof.Proof.Tile
public import Idealize.ShloMosaic.Lib.KernelVsHost

@[expose] public section

noncomputable section

namespace Cert.Group

open Idealize.ShloMosaic Idealize.ShloMosaic.Pointwise Cert.Layout

abbrev S1 (n : ℕ) : Shape := ⟨6, ![1, 1, n, 1, 64, 192]⟩
abbrev S6 (d n : ℕ) : Shape := ⟨6, ![8, d, n, 2, 64, 192]⟩
abbrev T5 (d n : ℕ) : Shape := ⟨5, ![8, d, n, 2, 64]⟩
abbrev T6 (d n : ℕ) : Shape := ⟨6, ![8, d, n, 2, 64, 1]⟩
abbrev O6 (d n : ℕ) : Shape := ⟨6, ![8, d, n, 2, 64, 128]⟩
abbrev L5 (d n : ℕ) : Shape := ⟨5, ![8, d, n, 64, 2]⟩
abbrev L4 (d n : ℕ) : Shape := ⟨4, ![8, d, n * 64, 2]⟩
abbrev L4' (d n : ℕ) : Shape := ⟨4, ![8, n * 64, d, 2]⟩
abbrev L3 : Shape := ⟨3, ![8, 2048, 2]⟩

/-- What makes the group's operations well formed. -/
structure Fits (d n : ℕ) : Prop where
  scores : DotDims.WF (A3 d n) (B4 d n) (S6 d n) [5] [5] [3] [3] [0, 1, 2, 4] [0, 1, 2, 4]
  mixes : DotDims.WF (S6 d n) (B4 d n) (O6 d n) [5] [3] [4] [5] [0, 1, 2, 3] [0, 1, 2, 4]
  m36 : (Mask.M3 n).BroadcastsInDim (S1 n) (![2, 4, 5] : Fin 3 → Fin (S1 n).rank)
  m66 : (S1 n).BroadcastsInDim (S6 d n) (![0, 1, 2, 3, 4, 5] : Fin 6 → Fin (S6 d n).rank)
  u6 : Layout.U.BroadcastsInDim (S6 d n) (![] : Fin 0 → Fin (S6 d n).rank)
  red : (S6 d n).ReducesTo [5] (T5 d n)
  red' : (S6 d n).Reduces [5] (T5 d n)
  one : 0 < Layout.U.numel
  t56 : (T5 d n).BroadcastsInDim (T6 d n) (![0, 1, 2, 3, 4] : Fin 5 → Fin (T6 d n).rank)
  t6s : (T6 d n).BroadcastsInDim (S6 d n) (![0, 1, 2, 3, 4, 5] : Fin 6 → Fin (S6 d n).rank)
  t6o : (T6 d n).BroadcastsInDim (O6 d n) (![0, 1, 2, 3, 4, 5] : Fin 6 → Fin (O6 d n).rank)
  drop : (T6 d n).ShapeCasts (T5 d n)
  turn : (O6 d n).Transposes [0, 1, 2, 4, 3, 5] (A3 d n)
  turnL : (T5 d n).Transposes [0, 1, 2, 4, 3] (L5 d n)
  backL : (L5 d n).ShapeCasts (L4 d n)
  swapL : (L4 d n).Transposes [0, 2, 1, 3] (L4' d n)
  mergeL : (L4' d n).ShapeCasts L3

variable {d n : ℕ} (F : Fits d n)

/-- Contracting the head dimension of queries and keys. -/
def dotS : DotDims (A3 d n) (B4 d n) (S6 d n) where
  lhsContracting := [5]
  rhsContracting := [5]
  lhsNonContracting := [3]
  rhsNonContracting := [3]
  lhsBatch := [0, 1, 2, 4]
  rhsBatch := [0, 1, 2, 4]
  wf := F.scores

/-- Contracting the window's places of weights and values. -/
def dotO : DotDims (S6 d n) (B4 d n) (O6 d n) where
  lhsContracting := [5]
  rhsContracting := [3]
  lhsNonContracting := [4]
  rhsNonContracting := [5]
  lhsBatch := [0, 1, 2, 3]
  rhsBatch := [0, 1, 2, 4]
  wf := F.mixes

variable (q : FVec Ideal (A3 d n) .f32) (k v : FVec Ideal (B4 d n) .f32) (m : IVec (Mask.M3 n) 1)

/-- Minus infinity. -/
def low : FVec Ideal Layout.U .f32 := constant (F := Ideal) Layout.U .f32 (0xFF800000#32)

/-- The scores, minus infinity where the mask is off. -/
def masked : FVec Ideal (S6 d n) .f32 :=
  select (broadcastInDim (S6 d n) ![0, 1, 2, 3, 4, 5] F.m66 (broadcastInDim (S1 n) ![2, 4, 5] F.m36 m))
    (Host.dotGeneral (dotS F) none q k) (broadcastInDim (S6 d n) ![] F.u6 low)

/-- The largest score of a query. -/
def tops : FVec Ideal (T5 d n) .f32 := Host.reduce FloatOps.maximumf (masked F q k m) low F.red F.one

/-- The largest score, with a unit axis. -/
def tops6 : FVec Ideal (T6 d n) .f32 := broadcastInDim (T6 d n) ![0, 1, 2, 3, 4] F.t56 (tops F q k m)

/-- The weights. -/
def weights : FVec Ideal (S6 d n) .f32 :=
  Host.exp (subf (masked F q k m) (broadcastInDim (S6 d n) ![0, 1, 2, 3, 4, 5] F.t6s (tops6 F q k m)))

/-- The weights' total. -/
def totals : FVec Ideal (T5 d n) .f32 :=
  Host.reduceAdd (weights F q k m) (constant (F := Ideal) Layout.U .f32 (0x00000000#32)) F.red F.one

/-- The total, with a unit axis. -/
def totals6 : FVec Ideal (T6 d n) .f32 := broadcastInDim (T6 d n) ![0, 1, 2, 3, 4] F.t56 (totals F q k m)

/-- The weighted means. -/
def means : FVec Ideal (O6 d n) .f32 :=
  Host.divf (Host.dotGeneral (dotO F) none (weights F q k m) v) (broadcastInDim (O6 d n) ![0, 1, 2, 3, 4, 5] F.t6o (totals6 F q k m))

/-- The logarithm of the summed exponentials. -/
def lses : FVec Ideal (T5 d n) .f32 := shapeCast (T5 d n) (addf (tops6 F q k m) (Host.log (totals6 F q k m))) F.drop

/-- The logarithms, row by row. -/
def unrowsL {α : Type} (x : (T5 d n).Idx → α) : L3.Idx → α :=
  shapeCast L3 (transpose (L4' d n) [0, 2, 1, 3] (shapeCast (L4 d n) (transpose (L5 d n) [0, 1, 2, 4, 3] x F.turnL) F.backL) F.swapL) F.mergeL

variable (b : Fin 8) (r : Fin d) (i : Fin n) (h : Fin 2) (a : Fin 64)

/-- A score is the product of its query's and its key's rows. -/
theorem dotS_apply (j : Fin 192) :
    (Host.dotGeneral (dotS F) none q k : FVec Ideal (S6 d n) .f32) (ix6 b r i h a j)
      = ∑ e : Fin 128, q (ix6 b r i a h e) * k (ix6 b r i j h e) := by
  simp only [Host.dotGeneral]
  rw [Ideal.dotGeneral_apply, ← Equiv.sum_comp (ValueIdx.contrEquiv1 (dotS F) 128 rfl rfl).symm]
  refine Finset.sum_congr rfl fun e _ => ?_
  have he := ValueIdx.contrEquiv1_symm_val (dotS F) 128 rfl rfl e
  refine congrArg₂ (· * ·) (congrArg q (funext fun w => Fin.ext ?_)) (congrArg k (funext fun w => Fin.ext ?_))
  · match w with
    | ⟨0, _⟩ => rfl
    | ⟨1, _⟩ => rfl
    | ⟨2, _⟩ => rfl
    | ⟨3, _⟩ => rfl
    | ⟨4, _⟩ => rfl
    | ⟨5, _⟩ => exact ((dotS F).lhsIdx_val_of_single rfl _ _).trans he
  · match w with
    | ⟨0, _⟩ => rfl
    | ⟨1, _⟩ => rfl
    | ⟨2, _⟩ => rfl
    | ⟨3, _⟩ => rfl
    | ⟨4, _⟩ => rfl
    | ⟨5, _⟩ => exact ((dotS F).rhsIdx_val_of_single rfl _ _).trans he

/-- A mix is the sum over the window of weights times values. -/
theorem dotO_apply (w : FVec Ideal (S6 d n) .f32) (e : Fin 128) :
    (Host.dotGeneral (dotO F) none w v : FVec Ideal (O6 d n) .f32) (ix6 b r i h a e)
      = ∑ j : Fin 192, w (ix6 b r i h a j) * v (ix6 b r i j h e) := by
  simp only [Host.dotGeneral]
  rw [Ideal.dotGeneral_apply, ← Equiv.sum_comp (ValueIdx.contrEquiv1 (dotO F) 192 rfl rfl).symm]
  refine Finset.sum_congr rfl fun j _ => ?_
  have hj := ValueIdx.contrEquiv1_symm_val (dotO F) 192 rfl rfl j
  refine congrArg₂ (· * ·) (congrArg w (funext fun c => Fin.ext ?_)) (congrArg v (funext fun c => Fin.ext ?_))
  · match c with
    | ⟨0, _⟩ => rfl
    | ⟨1, _⟩ => rfl
    | ⟨2, _⟩ => rfl
    | ⟨3, _⟩ => rfl
    | ⟨4, _⟩ => rfl
    | ⟨5, _⟩ => exact ((dotO F).lhsIdx_val_of_single rfl _ _).trans hj
  · match c with
    | ⟨0, _⟩ => rfl
    | ⟨1, _⟩ => rfl
    | ⟨2, _⟩ => rfl
    | ⟨3, _⟩ => exact ((dotO F).rhsIdx_val_of_single rfl _ _).trans hj
    | ⟨4, _⟩ => rfl
    | ⟨5, _⟩ => rfl

theorem self (N : ℕ) (x : Fin N) (z : ℕ) (hz : N = 1 → z = 0) : x.val = if N = 1 then z else x.val := by
  have := x.isLt
  split
  · rw [hz ‹_›]; omega
  · rfl

/-- A row value with a unit axis. -/
theorem unit_apply (x : FVec Ideal (T5 d n) .f32) :
    broadcastInDim (T6 d n) ![0, 1, 2, 3, 4] F.t56 x (ix6 b r i h a 0) = x (ix5 b r i h a) :=
  broadcastInDim_apply _ F.t56 x _ _ fun c => match c with
    | ⟨0, _⟩ => self 8 b 0 (fun _ => rfl)
    | ⟨1, _⟩ => self d r 0 (fun _ => rfl)
    | ⟨2, _⟩ => self n i 0 (fun _ => rfl)
    | ⟨3, _⟩ => self 2 h 0 (fun _ => rfl)
    | ⟨4, _⟩ => self 64 a 0 (fun _ => rfl)

/-- A row value over the window. -/
theorem spread_apply (x : FVec Ideal (T6 d n) .f32) (j : Fin 192) :
    broadcastInDim (S6 d n) ![0, 1, 2, 3, 4, 5] F.t6s x (ix6 b r i h a j) = x (ix6 b r i h a 0) :=
  broadcastInDim_apply _ F.t6s x _ _ fun c => match c with
    | ⟨0, _⟩ => self 8 b 0 (fun _ => rfl)
    | ⟨1, _⟩ => self d r 0 (fun _ => rfl)
    | ⟨2, _⟩ => self n i 0 (fun _ => rfl)
    | ⟨3, _⟩ => self 2 h 0 (fun _ => rfl)
    | ⟨4, _⟩ => self 64 a 0 (fun _ => rfl)
    | ⟨5, _⟩ => (if_pos rfl).symm

/-- A row value over the head dimension. -/
theorem spreadO_apply (x : FVec Ideal (T6 d n) .f32) (e : Fin 128) :
    broadcastInDim (O6 d n) ![0, 1, 2, 3, 4, 5] F.t6o x (ix6 b r i h a e) = x (ix6 b r i h a 0) :=
  broadcastInDim_apply _ F.t6o x _ _ fun c => match c with
    | ⟨0, _⟩ => self 8 b 0 (fun _ => rfl)
    | ⟨1, _⟩ => self d r 0 (fun _ => rfl)
    | ⟨2, _⟩ => self n i 0 (fun _ => rfl)
    | ⟨3, _⟩ => self 2 h 0 (fun _ => rfl)
    | ⟨4, _⟩ => self 64 a 0 (fun _ => rfl)
    | ⟨5, _⟩ => (if_pos rfl).symm

/-- The mask over batches, residues and heads. -/
theorem mask_apply (j : Fin 192) :
    broadcastInDim (S6 d n) ![0, 1, 2, 3, 4, 5] F.m66 (broadcastInDim (S1 n) ![2, 4, 5] F.m36 m) (ix6 b r i h a j) = m (ix3 i a j) := by
  refine (broadcastInDim_apply (s := S1 n) _ F.m66 _ _ (ix6 0 0 i 0 a j) fun c => ?_).trans ?_
  · match c with
    | ⟨0, _⟩ => exact (if_pos rfl).symm
    | ⟨1, _⟩ => exact (if_pos rfl).symm
    | ⟨2, _⟩ => exact self n i _ (fun _ => rfl)
    | ⟨3, _⟩ => exact (if_pos rfl).symm
    | ⟨4, _⟩ => exact self 64 a 0 (fun _ => rfl)
    | ⟨5, _⟩ => exact self 192 j 0 (fun _ => rfl)
  · exact broadcastInDim_apply (s := Mask.M3 n) _ F.m36 m _ (ix3 i a j) fun c => match c with
      | ⟨0, _⟩ => self n i _ (fun _ => rfl)
      | ⟨1, _⟩ => self 64 a 0 (fun _ => rfl)
      | ⟨2, _⟩ => self 192 j 0 (fun _ => rfl)

theorem low_apply (z : Layout.U.Idx) : low z = ⊥ := Tile.negInf

/-- A masked score. -/
theorem masked_apply (j : Fin 192) (p : Prop) [Decidable p] (hm : m (ix3 i a j) = BitVec.ofBool (decide p)) :
    masked F q k m (ix6 b r i h a j) = if p then ∑ e : Fin 128, q (ix6 b r i a h e) * k (ix6 b r i j h e) else ⊥ := by
  show Scalar.select (broadcastInDim (S6 d n) ![0, 1, 2, 3, 4, 5] F.m66 (broadcastInDim (S1 n) ![2, 4, 5] F.m36 m) (ix6 b r i h a j))
    ((Host.dotGeneral (dotS F) none q k : FVec Ideal (S6 d n) .f32) (ix6 b r i h a j)) (low _) = _
  rw [mask_apply F, hm, dotS_apply, low_apply]
  by_cases hp : p
  · simp [hp, Scalar.select]
  · simp [hp, Scalar.select]

theorem lift_eq (j : Fin 192) : F.red'.lift (ix5 b r i h a) j = ix6 b r i h a j := by
  funext c
  refine Fin.ext ((Shape.Reduces.lift_val F.red' (ix5 b r i h a) j c).trans ?_)
  match c with
  | ⟨0, _⟩ => rfl
  | ⟨1, _⟩ => rfl
  | ⟨2, _⟩ => rfl
  | ⟨3, _⟩ => rfl
  | ⟨4, _⟩ => rfl
  | ⟨5, _⟩ => rfl

theorem tops_apply : tops F q k m (ix5 b r i h a) = Finset.univ.sup fun j : Fin 192 => masked F q k m (ix6 b r i h a j) := by
  unfold tops low
  refine (congrFun (hostReduce_maximumf_eq_multiReduction (masked F q k m) (0xFF800000#32) F.red F.one F.red' (.inl rfl) rfl) _).trans ?_
  refine (Ideal.multiReduction_maximumf_single (masked F q k m) _ F.red' _ _ _).trans ?_
  rw [show (FloatOps.ofBits (F := Ideal) .f32 0xFF800000#32) = (⊥ : EReal) from Tile.negInf]
  exact Finset.fold_congr fun j _ => congrArg (masked F q k m) (lift_eq F b r i h a j)

theorem tops6_apply : tops6 F q k m (ix6 b r i h a 0) = tops F q k m (ix5 b r i h a) := unit_apply F b r i h a _

theorem weights_apply (j : Fin 192) :
    weights F q k m (ix6 b r i h a j) = Ideal.exp (masked F q k m (ix6 b r i h a j) - tops F q k m (ix5 b r i h a)) := by
  show Ideal.exp (masked F q k m (ix6 b r i h a j) - broadcastInDim (S6 d n) ![0, 1, 2, 3, 4, 5] F.t6s (tops6 F q k m) (ix6 b r i h a j)) = _
  rw [spread_apply F, tops6_apply]

theorem totals_apply : totals F q k m (ix5 b r i h a) = ∑ j : Fin 192, weights F q k m (ix6 b r i h a j) := by
  unfold totals
  generalize weights F q k m = w
  simp only [Host.reduceAdd, Ideal.hostReduceAdd_def]
  rw [Ideal.hostReduceAdd_single F.red F.red']
  refine (congrArg (· + _) Ideal.ofBits_zero_f32).trans ((zero_add _).trans ?_)
  exact Finset.sum_congr rfl fun j _ => congrArg w (lift_eq F b r i h a j)

theorem totals6_apply : totals6 F q k m (ix6 b r i h a 0) = totals F q k m (ix5 b r i h a) := unit_apply F b r i h a _

theorem means_apply (e : Fin 128) :
    means F q k v m (ix6 b r i h a e)
      = Ideal.div (∑ j : Fin 192, weights F q k m (ix6 b r i h a j) * v (ix6 b r i j h e)) (totals F q k m (ix5 b r i h a)) := by
  show Ideal.div ((Host.dotGeneral (dotO F) none (weights F q k m) v : FVec Ideal (O6 d n) .f32) (ix6 b r i h a e))
    (broadcastInDim (O6 d n) ![0, 1, 2, 3, 4, 5] F.t6o (totals6 F q k m) (ix6 b r i h a e)) = _
  rw [dotO_apply, spreadO_apply F, totals6_apply]

theorem lses_apply : lses F q k m (ix5 b r i h a) = tops F q k m (ix5 b r i h a) + Ideal.log (totals F q k m (ix5 b r i h a)) := by
  refine (shapeCast_apply _ F.drop (ix5 b r i h a) (ix6 b r i h a 0) ?_).trans ?_
  · rw [Shape.rowMajor_val_six, Shape.rowMajor_val_five]
    show _ * 1 + 0 = _
    ring_nf
    rfl
  · show tops6 F q k m (ix6 b r i h a 0) + Ideal.log (totals6 F q k m (ix6 b r i h a 0)) = _
    rw [tops6_apply, totals6_apply]

/-- The window's places a query sees list the keys near it. -/
theorem enum (i : Fin n) (a : Fin 64) :
    Band.Enum (Mask.Seen n i.val a) (fun j => i.val * 64 + j.val - 64) (Band.near (n * 64) (i.val * 64 + a.val)) where
  mem j hj := Finset.mem_filter.2 ⟨Finset.mem_range.2 hj.2.2, by obtain ⟨⟨_, _⟩, _, _⟩ := hj; constructor <;> omega⟩
  inj j j' hj hj' e := Fin.ext (by obtain ⟨_, _, _⟩ := hj; obtain ⟨_, _, _⟩ := hj'; have : i.val * 64 + j.val - 64 = i.val * 64 + j'.val - 64 := e; omega)
  surj x hx := by
    obtain ⟨hx, h1, h2⟩ := Finset.mem_filter.1 hx
    have hx := Finset.mem_range.1 hx
    refine ⟨⟨x + 64 - i.val * 64, by omega⟩, ⟨⟨?_, ?_⟩, ?_, ?_⟩, ?_⟩
    · show a.val ≤ x + 64 - i.val * 64; omega
    · show x + 64 - i.val * 64 ≤ a.val + 128; omega
    · show 64 ≤ i.val * 64 + (x + 64 - i.val * 64); omega
    · show i.val * 64 + (x + 64 - i.val * 64) - 64 < n * 64; omega
    · show i.val * 64 + (x + 64 - i.val * 64) - 64 = x; omega

section
variable {q k v m b r i h a} {Q K V : Band.Rows}
  (hm : ∀ j, m (ix3 i a j) = BitVec.ofBool (decide (Mask.Seen n i.val a j)))
  (hq : ∀ e, q (ix6 b r i a h e) = Q (i.val * 64 + a.val) e)
  (hk : ∀ j, Mask.Seen n i.val a j → ∀ e, k (ix6 b r i j h e) = K (i.val * 64 + j.val - 64) e)
include hm hq hk

theorem scores_eq (j : Fin 192) : masked F q k m (ix6 b r i h a j)
    = if Mask.Seen n i.val a j then Band.score Q K (i.val * 64 + a.val) (i.val * 64 + j.val - 64) else ⊥ := by
  rw [masked_apply F q k m b r i h a j _ (hm j)]
  split
  · exact Finset.sum_congr rfl fun e _ => by rw [hq e, hk j ‹_› e]
  · rfl

theorem tops_eq : tops F q k m (ix5 b r i h a) = Band.top Q K (n * 64) (i.val * 64 + a.val) := by
  rw [tops_apply]
  exact Band.top_eq (enum i a) (scores_eq F hm hq hk)

theorem totals_eq : totals F q k m (ix5 b r i h a) = Band.total Q K (n * 64) (i.val * 64 + a.val) := by
  rw [totals_apply]
  simp only [weights_apply]
  rw [tops_eq F hm hq hk]
  exact Band.total_eq (enum i a) (scores_eq F hm hq hk)

/-- The group's logarithm at a query is the band's. -/
theorem lses_eq : lses F q k m (ix5 b r i h a) = Band.lse Q K (n * 64) (i.val * 64 + a.val) := by
  rw [lses_apply, tops_eq F hm hq hk, totals_eq F hm hq hk]; rfl

/-- The group's mean at a query is the band's. -/
theorem means_eq (e : Fin 128) (hv : ∀ j, Mask.Seen n i.val a j → v (ix6 b r i j h e) = V (i.val * 64 + j.val - 64) e) :
    means F q k v m (ix6 b r i h a e) = Band.out Q K V (n * 64) (i.val * 64 + a.val) e := by
  rw [means_apply, totals_eq F hm hq hk]
  refine congrArg (Ideal.div · _) ?_
  simp only [weights_apply]
  rw [tops_eq F hm hq hk]
  exact Band.mix_eq (enum i a) (scores_eq F hm hq hk) hv

end

end Cert.Group

end
-- ==== Proof.Rows.lean ====
/-
One dilation group of the reference from its queries, keys and values as rows of the sequence: at each row it is the
band attention of `Spec.gOut` and `Spec.gLse`. Written for any dilation `d` and any number `n` of blocks.
-/
module

public import proofs.«01_k».proof.Proof.Group
public import proofs.«01_k».proof.Proof.Spec

@[expose] public section

noncomputable section

namespace Cert.Rows

open Idealize.ShloMosaic Idealize.ShloMosaic.Pointwise Cert.Layout Cert.Group

variable {d n : ℕ} (F : Layout.Fits d n) (M : Mask.Fits n) (G : Group.Fits d n)
  (q k v : FVec Ideal A0 .bf16)

/-- The group's means, row by row. -/
def outs : FVec Ideal A0 .f32 :=
  unrows F (transpose (A3 d n) [0, 1, 2, 4, 3, 5] (means G (queries F q) (windows F k) (windows F v) (Mask.seen M)) G.turn)

/-- The group's logarithms, row by row. -/
def logs : FVec Ideal L3 .f32 := unrowsL G (lses G (queries F q) (windows F k) (Mask.seen M))

/-- Row `(i * 64 + a) * d + r` of the sequence is query `a` of block `i` of residue `r`. -/
theorem unrowsL_apply {α : Type} (x : (T5 d n).Idx → α) (b : Fin 8) (r : Fin d) (i : Fin n) (a : Fin 64) (h : Fin 2) :
    unrowsL G x (ix3 b ⟨(i.val * 64 + a.val) * d + r.val, lt_whole F (by omega) r.isLt⟩ h) = x (ix5 b r i h a) := by
  unfold unrowsL
  have hp : i.val * 64 + a.val < n * 64 := by omega
  refine (shapeCast_apply _ G.mergeL _ (ix4 b (⟨i.val * 64 + a.val, hp⟩ : Fin (n * 64)) r h) ?_).trans ?_
  · rw [Shape.rowMajor_val_four, Shape.rowMajor_val_three]
    show ((b.val * (n * 64) + (i.val * 64 + a.val)) * d + r.val) * 2 + h.val
      = (b.val * 2048 + ((i.val * 64 + a.val) * d + r.val)) * 2 + h.val
    rw [← F.whole]
    ring
  · refine (transpose_apply _ _ G.swapL _ (ix4 b r (⟨i.val * 64 + a.val, hp⟩ : Fin (n * 64)) h) ?_).trans ?_
    · intro c
      match c with
      | ⟨0, _⟩ => rfl
      | ⟨1, _⟩ => rfl
      | ⟨2, _⟩ => rfl
      | ⟨3, _⟩ => rfl
    · refine (shapeCast_apply _ G.backL _ (ix5 b r i a h) ?_).trans ?_
      · rw [Shape.rowMajor_val_four, Shape.rowMajor_val_five]
        show (((b.val * d + r.val) * n + i.val) * 64 + a.val) * 2 + h.val
          = ((b.val * d + r.val) * (n * 64) + (i.val * 64 + a.val)) * 2 + h.val
        ring
      · refine transpose_apply _ _ G.turnL _ (ix5 b r i h a) ?_
        intro c
        match c with
        | ⟨0, _⟩ => rfl
        | ⟨1, _⟩ => rfl
        | ⟨2, _⟩ => rfl
        | ⟨3, _⟩ => rfl
        | ⟨4, _⟩ => rfl

section
variable (b : Fin 8) (r : Fin d) (i : Fin n) (a : Fin 64) (h : Fin 2)

/-- A batch's rows of one head. -/
def head (x : FVec Ideal A0 .bf16) (b : Fin 8) (h : Fin 2) : Fin 2048 → Fin 128 → EReal := fun y e => x (ix4 b y h e)

theorem queries_every (e : Fin 128) :
    queries F q (ix6 b r i a h e) = Spec.every (head q b h) d r.val (i.val * 64 + a.val) e := by
  rw [queries_apply]
  unfold Spec.every
  rw [dif_pos (lt_whole F (by omega) r.isLt)]
  rfl

theorem windows_every (j : Fin 192) (hj : Mask.Seen n i.val a j) (e : Fin 128) :
    windows F k (ix6 b r i j h e) = Spec.every (head k b h) d r.val (i.val * 64 + j.val - 64) e := by
  rw [windows_apply, dif_pos hj.2]
  unfold Spec.every
  rw [dif_pos (lt_whole F hj.2.2 r.isLt)]
  rfl

end

include F in
/-- Every row is a query of a block of a residue. -/
theorem row_split (y : Fin 2048) : ∃ (r : Fin d) (i : Fin n) (a : Fin 64),
    y.val = (i.val * 64 + a.val) * d + r.val ∧ y.val % d = r.val ∧ y.val / d = i.val * 64 + a.val := by
  have hw := F.whole
  have hd : 0 < d := Nat.pos_of_ne_zero fun h => by rw [h] at hw; omega
  have hy : y.val / d < n * 64 := by
    rw [Nat.div_lt_iff_lt_mul hd, hw]; exact y.isLt
  have e := Nat.div_add_mod y.val d
  refine ⟨⟨y.val % d, Nat.mod_lt _ hd⟩, ⟨y.val / d / 64, by omega⟩, ⟨y.val / d % 64, Nat.mod_lt _ (by decide)⟩, ?_, rfl, ?_⟩
  · show y.val = (y.val / d / 64 * 64 + y.val / d % 64) * d + y.val % d
    have : y.val / d / 64 * 64 + y.val / d % 64 = y.val / d := by omega
    rw [this, mul_comm]; exact e.symm
  · show y.val / d = y.val / d / 64 * 64 + y.val / d % 64
    omega

include F in
theorem length_eq : 2048 / d = n * 64 := by
  have hw := F.whole
  have hd : 0 < d := Nat.pos_of_ne_zero fun h => by rw [h] at hw; omega
  rw [← hw, Nat.mul_div_cancel _ hd]

/-- The group's mean at a row is the band's. -/
theorem outs_apply (b : Fin 8) (y : Fin 2048) (h : Fin 2) (e : Fin 128) :
    outs F M G q k v (ix4 b y h e) = Spec.gOut (head q b h) (head k b h) (head v b h) d y.val e := by
  obtain ⟨r, i, a, hy, hr, hp⟩ := row_split F y
  have hyf : y = ⟨(i.val * 64 + a.val) * d + r.val, lt_whole F (by omega) r.isLt⟩ := Fin.ext hy
  unfold Spec.gOut outs
  rw [hr, hp, length_eq F, hyf, unrows_apply]
  refine (transpose_apply _ _ G.turn (ix6 b r i a h e) (ix6 b r i h a e) ?_).trans ?_
  · intro c
    match c with
    | ⟨0, _⟩ => rfl
    | ⟨1, _⟩ => rfl
    | ⟨2, _⟩ => rfl
    | ⟨3, _⟩ => rfl
    | ⟨4, _⟩ => rfl
    | ⟨5, _⟩ => rfl
  · exact means_eq G (fun j => Mask.seen_apply M i a j) (fun e => queries_every F q b r i a h e)
      (fun j hj e => windows_every F k b r i a h j hj e) e (fun j hj => windows_every F v b r i a h j hj e)

/-- The group's logarithm at a row is the band's. -/
theorem logs_apply (b : Fin 8) (y : Fin 2048) (h : Fin 2) :
    logs F M G q k (ix3 b y h) = Spec.gLse (head q b h) (head k b h) d y.val := by
  obtain ⟨r, i, a, hy, hr, hp⟩ := row_split F y
  have hyf : y = ⟨(i.val * 64 + a.val) * d + r.val, lt_whole F (by omega) r.isLt⟩ := Fin.ext hy
  unfold Spec.gLse logs
  rw [hr, hp, length_eq F, hyf, unrowsL_apply F]
  exact lses_eq G (fun j => Mask.seen_apply M i a j) (fun e => queries_every F q b r i a h e)
    (fun j hj e => windows_every F k b r i a h j hj e)

end Cert.Rows

end
-- ==== Proof.Groups.lean ====
/-
The three groups of the reference, of dilations 1, 4 and 16, are the generic group at those dilations.
-/
module

public import proofs.«01_k».proof.Proof.Rows
public import proofs.«01_k».proof.Proof.Gen.ReferenceIdeal.Read

@[expose] public section

set_option maxRecDepth 8000

noncomputable section

namespace Cert.Groups

open Idealize.ShloMosaic Cert.Layout Cert.ReferenceIdeal Cert.ReferenceIdeal.Gen Cert.ReferenceIdeal.Read

theorem layout1 : Layout.Fits 1 32 := by constructor <;> decide
theorem layout4 : Layout.Fits 4 8 := by constructor <;> decide
theorem layout16 : Layout.Fits 16 2 := by constructor <;> decide
theorem mask1 : Mask.Fits 32 := by constructor <;> decide
theorem mask4 : Mask.Fits 8 := by constructor <;> decide
theorem mask16 : Mask.Fits 2 := by constructor <;> decide
theorem group1 : Group.Fits 1 32 := by constructor <;> decide
theorem group4 : Group.Fits 4 8 := by constructor <;> decide
theorem group16 : Group.Fits 16 2 := by constructor <;> decide

variable (x0 : (⟨S8x2048x5120, .bf16⟩ : BufTy).Contents (Elt Ideal))

theorem outs1 : val_main_v83 (F := Ideal) x0
    = Rows.outs layout1 mask1 group1 (val_main_v6 (F := Ideal) x0) (val_main_v7 (F := Ideal) x0) (val_main_v8 (F := Ideal) x0) := by
  sl_kernel_rfl

theorem logs1 : val_main_v87 (F := Ideal) x0
    = Rows.logs layout1 mask1 group1 (val_main_v6 (F := Ideal) x0) (val_main_v7 (F := Ideal) x0) := by
  sl_kernel_rfl

theorem outs4 : val_main_v165 (F := Ideal) x0
    = Rows.outs layout4 mask4 group4 (val_main_v88 (F := Ideal) x0) (val_main_v89 (F := Ideal) x0) (val_main_v90 (F := Ideal) x0) := by
  sl_kernel_rfl

theorem logs4 : val_main_v169 (F := Ideal) x0
    = Rows.logs layout4 mask4 group4 (val_main_v88 (F := Ideal) x0) (val_main_v89 (F := Ideal) x0) := by
  sl_kernel_rfl

theorem outs16 : val_main_v247 (F := Ideal) x0
    = Rows.outs layout16 mask16 group16 (val_main_v170 (F := Ideal) x0) (val_main_v171 (F := Ideal) x0) (val_main_v172 (F := Ideal) x0) := by
  sl_kernel_rfl

theorem logs16 : val_main_v251 (F := Ideal) x0
    = Rows.logs layout16 mask16 group16 (val_main_v170 (F := Ideal) x0) (val_main_v171 (F := Ideal) x0) := by
  sl_kernel_rfl

end Cert.Groups

end
-- ==== Proof.Cuts.lean ====
/-
The three groups' queries, keys and values are parts of the fused projection.
-/
module

public import proofs.«01_k».proof.Proof.Groups

@[expose] public section

noncomputable section

namespace Cert.Stack

open Idealize.ShloMosaic Idealize.ShloMosaic.Pointwise Cert.Layout Cert.Groups
open Cert.ReferenceIdeal Cert.ReferenceIdeal.Gen Cert.ReferenceIdeal.Read

variable (x0 : (⟨S8x2048x5120, .bf16⟩ : BufTy).Contents (Elt Ideal))

/-! ## The groups' queries, keys and values -/

/-- Two heads cut out of a third of the projection. -/
theorem cut_apply (o g : ℕ) (base : ℕ) (hb : o + g * 128 = base * 128) (hbase : base < 17) (h1 : S8x2048x5120.Slices ![0, 0, o] S8x2048x768)
    (h2 : S8x2048x768.ShapeCasts S8x2048x6x128) (h3 : S8x2048x6x128.Slices ![0, 0, g, 0] S8x2048x2x128) (hg : g < 5)
    (b : Fin 8) (y : Fin 2048) (h : Fin 2) (e : Fin 128) :
    extractStridedSlice S8x2048x2x128 ![0, 0, g, 0] (shapeCast S8x2048x6x128 (extractStridedSlice S8x2048x768 ![0, 0, o] x0 h1) h2) h3 (ix4 b y h e)
      = Spec.part x0 b h base y e := by
  refine (extractStridedSlice_apply _ _ h3 (ix4 b y h e) (ix4 b y (⟨g + h.val, by omega⟩ : Fin 6) e) ?_).trans ?_
  · intro q
    match q with
    | ⟨0, _⟩ => show b.val = 0 + b.val; omega
    | ⟨1, _⟩ => show y.val = 0 + y.val; omega
    | ⟨2, _⟩ => rfl
    | ⟨3, _⟩ => show e.val = 0 + e.val; omega
  refine (shapeCast_apply _ h2 _ (ix3 b y (⟨(g + h.val) * 128 + e.val, by omega⟩ : Fin 768)) ?_).trans ?_
  · rw [Shape.rowMajor_val_four, Shape.rowMajor_val_three]
    show (b.val * 2048 + y.val) * 768 + ((g + h.val) * 128 + e.val) = ((b.val * 2048 + y.val) * 6 + (g + h.val)) * 128 + e.val
    ring
  unfold Spec.part
  rw [dif_pos hbase]
  refine extractStridedSlice_apply _ _ h1 _ _ ?_
  intro q
  match q with
  | ⟨0, _⟩ => show b.val = 0 + b.val; omega
  | ⟨1, _⟩ => show y.val = 0 + y.val; omega
  | ⟨2, _⟩ => show (base + h.val) * 128 + e.val = o + ((g + h.val) * 128 + e.val); omega

section
variable (b : Fin 8) (h : Fin 2)

theorem head6 : Rows.head (val_main_v6 (F := Ideal) x0) b h = Spec.part x0 b h 0 :=
  funext fun y => funext fun e => cut_apply x0 0 0 0 rfl (by decide) slices_S8x2048x5120_S8x2048x768_0_0_0 shapeCasts_S8x2048x768_S8x2048x6x128
    slices_S8x2048x6x128_S8x2048x2x128_0_0_0_0 (by decide) b y h e
theorem head7 : Rows.head (val_main_v7 (F := Ideal) x0) b h = Spec.part x0 b h 6 :=
  funext fun y => funext fun e => cut_apply x0 768 0 6 rfl (by decide) slices_S8x2048x5120_S8x2048x768_0_0_768 shapeCasts_S8x2048x768_S8x2048x6x128
    slices_S8x2048x6x128_S8x2048x2x128_0_0_0_0 (by decide) b y h e
theorem head8 : Rows.head (val_main_v8 (F := Ideal) x0) b h = Spec.part x0 b h 12 :=
  funext fun y => funext fun e => cut_apply x0 1536 0 12 rfl (by decide) slices_S8x2048x5120_S8x2048x768_0_0_1536 shapeCasts_S8x2048x768_S8x2048x6x128
    slices_S8x2048x6x128_S8x2048x2x128_0_0_0_0 (by decide) b y h e
theorem head88 : Rows.head (val_main_v88 (F := Ideal) x0) b h = Spec.part x0 b h 2 :=
  funext fun y => funext fun e => cut_apply x0 0 2 2 rfl (by decide) slices_S8x2048x5120_S8x2048x768_0_0_0 shapeCasts_S8x2048x768_S8x2048x6x128
    slices_S8x2048x6x128_S8x2048x2x128_0_0_2_0 (by decide) b y h e
theorem head89 : Rows.head (val_main_v89 (F := Ideal) x0) b h = Spec.part x0 b h 8 :=
  funext fun y => funext fun e => cut_apply x0 768 2 8 rfl (by decide) slices_S8x2048x5120_S8x2048x768_0_0_768 shapeCasts_S8x2048x768_S8x2048x6x128
    slices_S8x2048x6x128_S8x2048x2x128_0_0_2_0 (by decide) b y h e
theorem head90 : Rows.head (val_main_v90 (F := Ideal) x0) b h = Spec.part x0 b h 14 :=
  funext fun y => funext fun e => cut_apply x0 1536 2 14 rfl (by decide) slices_S8x2048x5120_S8x2048x768_0_0_1536 shapeCasts_S8x2048x768_S8x2048x6x128
    slices_S8x2048x6x128_S8x2048x2x128_0_0_2_0 (by decide) b y h e
theorem head170 : Rows.head (val_main_v170 (F := Ideal) x0) b h = Spec.part x0 b h 4 :=
  funext fun y => funext fun e => cut_apply x0 0 4 4 rfl (by decide) slices_S8x2048x5120_S8x2048x768_0_0_0 shapeCasts_S8x2048x768_S8x2048x6x128
    slices_S8x2048x6x128_S8x2048x2x128_0_0_4_0 (by decide) b y h e
theorem head171 : Rows.head (val_main_v171 (F := Ideal) x0) b h = Spec.part x0 b h 10 :=
  funext fun y => funext fun e => cut_apply x0 768 4 10 rfl (by decide) slices_S8x2048x5120_S8x2048x768_0_0_768 shapeCasts_S8x2048x768_S8x2048x6x128
    slices_S8x2048x6x128_S8x2048x2x128_0_0_4_0 (by decide) b y h e
theorem head172 : Rows.head (val_main_v172 (F := Ideal) x0) b h = Spec.part x0 b h 16 :=
  funext fun y => funext fun e => cut_apply x0 1536 4 16 rfl (by decide) slices_S8x2048x5120_S8x2048x768_0_0_1536 shapeCasts_S8x2048x768_S8x2048x6x128
    slices_S8x2048x6x128_S8x2048x2x128_0_0_4_0 (by decide) b y h e

end

end Cert.Stack

end
-- ==== Proof.Stack.lean ====
/-
The three groups' logarithms and means, stacked.
-/
module

public import proofs.«01_k».proof.Proof.Cuts

@[expose] public section

noncomputable section

namespace Cert.Stack

open Idealize.ShloMosaic Idealize.ShloMosaic.Pointwise Cert.Layout Cert.Groups
open Cert.ReferenceIdeal Cert.ReferenceIdeal.Gen Cert.ReferenceIdeal.Read

variable (x0 : (⟨S8x2048x5120, .bf16⟩ : BufTy).Contents (Elt Ideal))

/-! ## The stacks -/

/-- The three groups' logarithms. -/
def logs3 : Fin 3 → FVec Ideal Group.L3 .f32
  | 0 => val_main_v87 (F := Ideal) x0
  | 1 => val_main_v169 (F := Ideal) x0
  | 2 => val_main_v251 (F := Ideal) x0

/-- The three groups' means. -/
def outs3 : Fin 3 → FVec Ideal A0 .f32
  | 0 => val_main_v83 (F := Ideal) x0
  | 1 => val_main_v165 (F := Ideal) x0
  | 2 => val_main_v247 (F := Ideal) x0

theorem logs3_0 : logs3 x0 0 = val_main_v87 (F := Ideal) x0 := rfl
theorem logs3_1 : logs3 x0 1 = val_main_v169 (F := Ideal) x0 := rfl
theorem logs3_2 : logs3 x0 2 = val_main_v251 (F := Ideal) x0 := rfl
theorem outs3_0 : outs3 x0 0 = val_main_v83 (F := Ideal) x0 := rfl
theorem outs3_1 : outs3 x0 1 = val_main_v165 (F := Ideal) x0 := rfl
theorem outs3_2 : outs3 x0 2 = val_main_v247 (F := Ideal) x0 := rfl

theorem logs3_apply (g : Fin 3) (b : Fin 8) (y : Fin 2048) (h : Fin 2) : logs3 x0 g (ix3 b y h) = Spec.groupLse x0 b h g y.val := by
  match g with
  | 0 =>
    rw [logs3_0, logs1, Rows.logs_apply, head6, head7]; unfold Spec.groupLse; rfl
  | 1 =>
    rw [logs3_1, logs4, Rows.logs_apply, head88, head89]; unfold Spec.groupLse; rfl
  | 2 =>
    rw [logs3_2, logs16, Rows.logs_apply, head170, head171]; unfold Spec.groupLse; rfl

theorem outs3_apply (g : Fin 3) (b : Fin 8) (y : Fin 2048) (h : Fin 2) (e : Fin 128) :
    outs3 x0 g (ix4 b y h e) = Spec.groupOut x0 b h g y.val e := by
  match g with
  | 0 =>
    rw [outs3_0, outs1, Rows.outs_apply, head6, head7, head8]; unfold Spec.groupOut; rfl
  | 1 =>
    rw [outs3_1, outs4, Rows.outs_apply, head88, head89, head90]; unfold Spec.groupOut; rfl
  | 2 =>
    rw [outs3_2, outs16, Rows.outs_apply, head170, head171, head172]; unfold Spec.groupOut; rfl

/-- A unit axis put before a group's logarithms. -/
theorem lead3_apply (x : FVec Ideal S8x2048x2 .f32) (u : Fin 1) (b : Fin 8) (y : Fin 2048) (h : Fin 2) :
    broadcastInDim S1x8x2048x2 ![1, 2, 3] bcast_S8x2048x2_S1x8x2048x2_1_2_3 x (ix4 u b y h) = x (ix3 b y h) :=
  broadcastInDim_apply _ _ x _ _ fun c => match c with
    | ⟨0, _⟩ => Group.self 8 b 0 (fun _ => rfl)
    | ⟨1, _⟩ => Group.self 2048 y 0 (fun _ => rfl)
    | ⟨2, _⟩ => Group.self 2 h 0 (fun _ => rfl)

/-- A unit axis put before a group's means. -/
theorem lead4_apply (x : FVec Ideal S8x2048x2x128 .f32) (u : Fin 1) (b : Fin 8) (y : Fin 2048) (h : Fin 2) (e : Fin 128) :
    broadcastInDim S1x8x2048x2x128 ![1, 2, 3, 4] bcast_S8x2048x2x128_S1x8x2048x2x128_1_2_3_4 x (ix5 u b y h e) = x (ix4 b y h e) :=
  broadcastInDim_apply _ _ x _ _ fun c => match c with
    | ⟨0, _⟩ => Group.self 8 b 0 (fun _ => rfl)
    | ⟨1, _⟩ => Group.self 2048 y 0 (fun _ => rfl)
    | ⟨2, _⟩ => Group.self 2 h 0 (fun _ => rfl)
    | ⟨3, _⟩ => Group.self 128 e 0 (fun _ => rfl)

/-- The pieces stacked: each group's logarithms behind a unit axis. -/
def pieces3 : List ((s : Shape) × (s.Idx → EReal)) :=
  [⟨S1x8x2048x2, val_main_v252 (F := Ideal) x0⟩, ⟨S1x8x2048x2, val_main_v253 (F := Ideal) x0⟩, ⟨S1x8x2048x2, val_main_v254 (F := Ideal) x0⟩]

/-- The pieces stacked: each group's means behind a unit axis. -/
def pieces4 : List ((s : Shape) × (s.Idx → EReal)) :=
  [⟨S1x8x2048x2x128, val_main_v268 (F := Ideal) x0⟩, ⟨S1x8x2048x2x128, val_main_v269 (F := Ideal) x0⟩,
    ⟨S1x8x2048x2x128, val_main_v270 (F := Ideal) x0⟩]

theorem stack3_apply (g : Fin 3) (b : Fin 8) (y : Fin 2048) (h : Fin 2) :
    val_main_v255 (F := Ideal) x0 (ix4 g b y h) = logs3 x0 g (ix3 b y h) := by
  have hoff : ∀ (g : Fin 3) (q : Fin 4), q.cast rfl ≠ (0 : Fin 4) →
      ((ix4 (0 : Fin 1) b y h : S1x8x2048x2.Idx) q).val = ((ix4 g b y h : S3x8x2048x2.Idx) q).val := by
    intro g q hq
    match q with
    | ⟨0, _⟩ => exact absurd rfl hq
    | ⟨1, _⟩ => rfl
    | ⟨2, _⟩ => rfl
    | ⟨3, _⟩ => rfl
  match g with
  | 0 =>
    rw [logs3_0]
    refine (concatenate_apply_piece (t := S3x8x2048x2) 0 (pieces3 x0) concatenates_S1x8x2048x2_S1x8x2048x2_S1x8x2048x2_S3x8x2048x2_d0 _ 0 (by show 0 < 3; decide) S1x8x2048x2 (val_main_v252 (F := Ideal) x0) rfl rfl 0 rfl
      (ix4 0 b y h) (hoff 0) rfl).trans ?_
    unfold val_main_v252
    exact lead3_apply (val_main_v87 (F := Ideal) x0) 0 b y h
  | 1 =>
    rw [logs3_1]
    refine (concatenate_apply_piece (t := S3x8x2048x2) 0 (pieces3 x0) concatenates_S1x8x2048x2_S1x8x2048x2_S1x8x2048x2_S3x8x2048x2_d0 _ 1 (by show 1 < 3; decide) S1x8x2048x2 (val_main_v253 (F := Ideal) x0) rfl rfl 1 rfl
      (ix4 0 b y h) (hoff 1) rfl).trans ?_
    unfold val_main_v253
    exact lead3_apply (val_main_v169 (F := Ideal) x0) 0 b y h
  | 2 =>
    rw [logs3_2]
    refine (concatenate_apply_piece (t := S3x8x2048x2) 0 (pieces3 x0) concatenates_S1x8x2048x2_S1x8x2048x2_S1x8x2048x2_S3x8x2048x2_d0 _ 2 (by show 2 < 3; decide) S1x8x2048x2 (val_main_v254 (F := Ideal) x0) rfl rfl 2 rfl
      (ix4 0 b y h) (hoff 2) rfl).trans ?_
    unfold val_main_v254
    exact lead3_apply (val_main_v251 (F := Ideal) x0) 0 b y h

theorem stack4_apply (g : Fin 3) (b : Fin 8) (y : Fin 2048) (h : Fin 2) (e : Fin 128) :
    val_main_v271 (F := Ideal) x0 (ix5 g b y h e) = outs3 x0 g (ix4 b y h e) := by
  have hoff : ∀ (g : Fin 3) (q : Fin 5), q.cast rfl ≠ (0 : Fin 5) →
      ((ix5 (0 : Fin 1) b y h e : S1x8x2048x2x128.Idx) q).val = ((ix5 g b y h e : S3x8x2048x2x128.Idx) q).val := by
    intro g q hq
    match q with
    | ⟨0, _⟩ => exact absurd rfl hq
    | ⟨1, _⟩ => rfl
    | ⟨2, _⟩ => rfl
    | ⟨3, _⟩ => rfl
    | ⟨4, _⟩ => rfl
  match g with
  | 0 =>
    rw [outs3_0]
    refine (concatenate_apply_piece (t := S3x8x2048x2x128) 0 (pieces4 x0) concatenates_S1x8x2048x2x128_S1x8x2048x2x128_S1x8x2048x2x128_S3x8x2048x2x128_d0 _ 0 (by show 0 < 3; decide) S1x8x2048x2x128 (val_main_v268 (F := Ideal) x0) rfl rfl 0 rfl
      (ix5 0 b y h e) (hoff 0) rfl).trans ?_
    unfold val_main_v268
    exact lead4_apply (val_main_v83 (F := Ideal) x0) 0 b y h e
  | 1 =>
    rw [outs3_1]
    refine (concatenate_apply_piece (t := S3x8x2048x2x128) 0 (pieces4 x0) concatenates_S1x8x2048x2x128_S1x8x2048x2x128_S1x8x2048x2x128_S3x8x2048x2x128_d0 _ 1 (by show 1 < 3; decide) S1x8x2048x2x128 (val_main_v269 (F := Ideal) x0) rfl rfl 1 rfl
      (ix5 0 b y h e) (hoff 1) rfl).trans ?_
    unfold val_main_v269
    exact lead4_apply (val_main_v165 (F := Ideal) x0) 0 b y h e
  | 2 =>
    rw [outs3_2]
    refine (concatenate_apply_piece (t := S3x8x2048x2x128) 0 (pieces4 x0) concatenates_S1x8x2048x2x128_S1x8x2048x2x128_S1x8x2048x2x128_S3x8x2048x2x128_d0 _ 2 (by show 2 < 3; decide) S1x8x2048x2x128 (val_main_v270 (F := Ideal) x0) rfl rfl 2 rfl
      (ix5 0 b y h e) (hoff 2) rfl).trans ?_
    unfold val_main_v270
    exact lead4_apply (val_main_v247 (F := Ideal) x0) 0 b y h e

end Cert.Stack

end
-- ==== Proof.Softmax.lean ====
/-
The three groups merged with the softmax of their logarithms.
-/
module

public import proofs.«01_k».proof.Proof.Stack

@[expose] public section

noncomputable section

namespace Cert.Stack

open Idealize.ShloMosaic Idealize.ShloMosaic.Pointwise Cert.Layout Cert.Groups
open Cert.ReferenceIdeal Cert.ReferenceIdeal.Gen Cert.ReferenceIdeal.Read

variable (x0 : (⟨S8x2048x5120, .bf16⟩ : BufTy).Contents (Elt Ideal))

/-! ## The softmax over the groups -/

section
variable (b : Fin 8) (y : Fin 2048) (h : Fin 2)

theorem reduces3 : S3x8x2048x2.Reduces [0] S8x2048x2 := by decide

theorem lift3 (g : Fin 3) : reduces3.lift (ix3 b y h) g = ix4 g b y h := by
  funext c
  refine Fin.ext ((Shape.Reduces.lift_val reduces3 (ix3 b y h) g c).trans ?_)
  match c with
  | ⟨0, _⟩ => rfl
  | ⟨1, _⟩ => rfl
  | ⟨2, _⟩ => rfl
  | ⟨3, _⟩ => rfl

/-- The host's largest over the groups. -/
theorem most_apply (x : FVec Ideal S3x8x2048x2 .f32) :
    Host.reduce FloatOps.maximumf x (constant (F := Ideal) S_ .f32 (0xFF800000#32)) reducesTo_S3x8x2048x2_S8x2048x2_d0 h_S_ (ix3 b y h)
      = Finset.univ.sup fun g : Fin 3 => x (ix4 g b y h) := by
  refine (congrFun (hostReduce_maximumf_eq_multiReduction x (0xFF800000#32) reducesTo_S3x8x2048x2_S8x2048x2_d0 h_S_
    reduces3 (.inl rfl) rfl) _).trans ?_
  refine (Ideal.multiReduction_maximumf_single x _ reduces3 _ _ _).trans ?_
  rw [show (FloatOps.ofBits (F := Ideal) .f32 0xFF800000#32) = (⊥ : EReal) from Tile.negInf]
  exact Finset.fold_congr fun g _ => congrArg x (lift3 b y h g)

theorem largest_apply : val_main_v258 (F := Ideal) x0 (ix3 b y h) = Band.top3 (fun g => logs3 x0 g (ix3 b y h)) := by
  have e : val_main_v256 (F := Ideal) x0 (ix3 b y h) = Finset.univ.sup fun g : Fin 3 => logs3 x0 g (ix3 b y h) := by
    refine (most_apply b y h (val_main_v255 (F := Ideal) x0)).trans ?_
    simp only [stack3_apply]
  show max (Ideal.ofBits .f32 0xFF800000#32) (val_main_v256 (F := Ideal) x0 (ix3 b y h)) = _
  rw [e, Tile.negInf, max_bot_left]
  unfold Band.top3
  refine le_antisymm (Finset.sup_le fun g _ => ?_) (max_le (max_le ?_ ?_) ?_)
  · match g with
    | 0 => exact le_max_of_le_left (le_max_left _ _)
    | 1 => exact le_max_of_le_left (le_max_right _ _)
    | 2 => exact le_max_right _ _
  · exact Finset.le_sup (f := fun g : Fin 3 => logs3 x0 g (ix3 b y h)) (Finset.mem_univ 0)
  · exact Finset.le_sup (f := fun g : Fin 3 => logs3 x0 g (ix3 b y h)) (Finset.mem_univ 1)
  · exact Finset.le_sup (f := fun g : Fin 3 => logs3 x0 g (ix3 b y h)) (Finset.mem_univ 2)

/-- A stack of one repeated three times. -/
theorem copies_apply (z : FVec Ideal S1x8x2048x2 .f32) (g : Fin 3) :
    broadcastInDim S3x8x2048x2 ![0, 1, 2, 3] bcast_S1x8x2048x2_S3x8x2048x2_0_1_2_3 z (ix4 g b y h) = z (ix4 0 b y h) :=
  broadcastInDim_apply _ bcast_S1x8x2048x2_S3x8x2048x2_0_1_2_3 z (ix4 g b y h) (ix4 0 b y h) fun c => match c with
    | ⟨0, _⟩ => (if_pos rfl).symm
    | ⟨1, _⟩ => Group.self 8 b 0 (fun _ => rfl)
    | ⟨2, _⟩ => Group.self 2048 y 0 (fun _ => rfl)
    | ⟨3, _⟩ => Group.self 2 h 0 (fun _ => rfl)

/-- A row value over the three groups. -/
theorem over_apply (x : FVec Ideal S8x2048x2 .f32) (g : Fin 3) :
    broadcastInDim S3x8x2048x2 ![0, 1, 2, 3] bcast_S1x8x2048x2_S3x8x2048x2_0_1_2_3
      (broadcastInDim S1x8x2048x2 ![1, 2, 3] bcast_S8x2048x2_S1x8x2048x2_1_2_3 x) (ix4 g b y h) = x (ix3 b y h) :=
  (copies_apply b y h _ g).trans (lead3_apply x 0 b y h)

theorem exps_apply (g : Fin 3) : val_main_v262 (F := Ideal) x0 (ix4 g b y h) = Band.w3 (fun g => logs3 x0 g (ix3 b y h)) g := by
  show Ideal.exp (val_main_v255 (F := Ideal) x0 (ix4 g b y h) - val_main_v260 (F := Ideal) x0 (ix4 g b y h)) = _
  rw [stack3_apply, show val_main_v260 (F := Ideal) x0 (ix4 g b y h) = val_main_v258 (F := Ideal) x0 (ix3 b y h) from over_apply b y h _ g,
    largest_apply]
  rfl

theorem sums_apply : val_main_v263 (F := Ideal) x0 (ix3 b y h) = ∑ g, Band.w3 (fun g => logs3 x0 g (ix3 b y h)) g := by
  rw [val_main_v263_apply]
  refine (congrArg (· + _) Ideal.ofBits_zero_f32).trans ((zero_add _).trans ?_)
  refine Finset.sum_congr rfl fun g _ => (congrArg _ ?_).trans (exps_apply x0 b y h g)
  funext c
  match c with
  | ⟨0, _⟩ => rfl
  | ⟨1, _⟩ => rfl
  | ⟨2, _⟩ => rfl
  | ⟨3, _⟩ => rfl

theorem shares_apply (g : Fin 3) : val_main_v266 (F := Ideal) x0 (ix4 g b y h)
    = Ideal.div (Band.w3 (fun g => logs3 x0 g (ix3 b y h)) g) (∑ g, Band.w3 (fun g => logs3 x0 g (ix3 b y h)) g) := by
  show Ideal.div (val_main_v262 (F := Ideal) x0 (ix4 g b y h)) (val_main_v265 (F := Ideal) x0 (ix4 g b y h)) = _
  rw [exps_apply, show val_main_v265 (F := Ideal) x0 (ix4 g b y h) = val_main_v263 (F := Ideal) x0 (ix3 b y h) from over_apply b y h _ g,
    sums_apply]

theorem merged_apply (e : Fin 128) : val_main_v274 (F := Ideal) x0 (ix4 b y h e)
    = ∑ g, Ideal.div (Band.w3 (fun g => logs3 x0 g (ix3 b y h)) g) (∑ g, Band.w3 (fun g => logs3 x0 g (ix3 b y h)) g)
        * outs3 x0 g (ix4 b y h e) := by
  rw [val_main_v274_apply]
  refine (congrArg (· + _) Ideal.ofBits_zero_f32).trans ((zero_add _).trans ?_)
  refine Finset.sum_congr rfl fun g _ => ?_
  refine (congrArg (val_main_v273 (F := Ideal) x0) (show idx_main_v274 (ix4 b y h e) g = ix5 g b y h e from ?_)).trans ?_
  · funext c
    match c with
    | ⟨0, _⟩ => rfl
    | ⟨1, _⟩ => rfl
    | ⟨2, _⟩ => rfl
    | ⟨3, _⟩ => rfl
    | ⟨4, _⟩ => rfl
  · show val_main_v272 (F := Ideal) x0 (ix5 g b y h e) * val_main_v271 (F := Ideal) x0 (ix5 g b y h e) = _
    rw [stack4_apply]
    refine congrArg (· * _) ?_
    rw [val_main_v272_apply, val_main_v267_apply]
    refine (congrArg _ ?_).trans (shares_apply x0 b y h g)
    funext c
    match c with
    | ⟨0, _⟩ => rfl
    | ⟨1, _⟩ => rfl
    | ⟨2, _⟩ => rfl
    | ⟨3, _⟩ => rfl

end

end Cert.Stack

end
-- ==== Proof.Attention.lean ====
/-
The reference's attention output is `Spec.result`, where the queries and keys are finite.
-/
module

public import proofs.«01_k».proof.Proof.Softmax

@[expose] public section

noncomputable section

namespace Cert.Stack

open Idealize.ShloMosaic Idealize.ShloMosaic.Pointwise Cert.Layout Cert.Groups
open Cert.ReferenceIdeal Cert.ReferenceIdeal.Gen Cert.ReferenceIdeal.Read

variable (x0 : (⟨S8x2048x5120, .bf16⟩ : BufTy).Contents (Elt Ideal))

/-! ## The result -/

/-- The queries and keys are finite. -/
def Finite (X : Spec.SX.Idx → EReal) : Prop := ∀ (b : Fin 8) (y : Fin 2048) (j : Fin 5120), j.val < 1536 → Band.IsReal (X (ix3 b y j))

variable {x0}

theorem part_real (hx : Finite x0) (b : Fin 8) (h : Fin 2) (base : ℕ) (hb : base < 11) (y : Fin 2048) (e : Fin 128) :
    Band.IsReal (Spec.part x0 b h base y e) := by
  unfold Spec.part
  rw [dif_pos (by omega)]
  exact hx b y _ (by show (base + h.val) * 128 + e.val < 1536; omega)

theorem every_real {f : Fin 2048 → Fin 128 → EReal} (hf : ∀ y e, Band.IsReal (f y e)) (d r p : ℕ) (e : Fin 128) :
    Band.IsReal (Spec.every f d r p e) := by
  unfold Spec.every
  split
  · exact hf _ _
  · exact ⟨0, rfl⟩

/-- A group's logarithm is finite. -/
theorem lse_real (hx : Finite x0) (b : Fin 8) (h : Fin 2) (g : Fin 3) (y : Fin 2048) : Band.IsReal (Spec.groupLse x0 b h g y.val) := by
  have hg := g.isLt
  refine Band.lse_real (every_real (part_real hx b h _ (by omega)) _ _) (every_real (part_real hx b h _ (by omega)) _ _) ?_
  have hy := y.isLt
  match g with
  | 0 => show y.val / 1 < 2048 / 1; omega
  | 1 => show y.val / 4 < 2048 / 4; omega
  | 2 => show y.val / 16 < 2048 / 16; omega

/-- The reference's attention output. -/
theorem result_eq (hx : Finite x0) : val_main_v276 (F := Ideal) x0 = (Spec.result x0 : FVec Ideal S8x2048x256 .bf16) := by
  have key : ∀ (b : Fin 8) (y : Fin 2048) (h : Fin 2) (e : Fin 128),
      val_main_v276 (F := Ideal) x0 (ix3 b y (⟨h.val * 128 + e.val, by omega⟩ : Fin 256)) = Spec.attn x0 b h y.val e := by
    intro b y h e
    refine (shapeCast_apply (val_main_v274 (F := Ideal) x0) shapeCasts_S8x2048x2x128_S8x2048x256 _ (ix4 b y h e) ?_).trans ?_
    · rw [Shape.rowMajor_val_four, Shape.rowMajor_val_three]
      show ((b.val * 2048 + y.val) * 2 + h.val) * 128 + e.val = (b.val * 2048 + y.val) * 256 + (h.val * 128 + e.val)
      ring
    · rw [merged_apply]
      unfold Spec.attn
      rw [Band.merged_eq _ _ (fun g => lse_real hx b h g y)]
      simp only [logs3_apply, outs3_apply]
  funext i
  have h2 : (i 2).val < 256 := (i 2).isLt
  have hi : i = ix3 (i 0) (i 1) (⟨(⟨(i 2).val / 128, by omega⟩ : Fin 2).val * 128 + (⟨(i 2).val % 128, Nat.mod_lt _ (by decide)⟩ : Fin 128).val, by
      show (i 2).val / 128 * 128 + (i 2).val % 128 < 256; omega⟩ : Fin 256) := by
    funext c
    match c with
    | ⟨0, _⟩ => rfl
    | ⟨1, _⟩ => rfl
    | ⟨2, _⟩ => exact Fin.ext (by show (i 2).val = (i 2).val / 128 * 128 + (i 2).val % 128; omega)
  refine (congrArg _ hi).trans ((key (i 0) (i 1) _ _).trans ?_)
  refine (Spec.result_apply x0 i (i 0) ⟨(i 2).val / 128, by omega⟩ (i 1).val ⟨(i 2).val % 128, Nat.mod_lt _ (by decide)⟩ rfl rfl ?_).symm
  show (i 2).val = (i 2).val / 128 * 128 + (i 2).val % 128
  omega

end Cert.Stack

end
-- ==== Proof.AttentionClaim.lean ====
/-
The attention's kernel and reference, read at exact extended reals, end with the same results.
-/
module

public import proofs.«01_k».proof.Defs
public import proofs.«01_k».proof.Proof.Array
public import proofs.«01_k».proof.Proof.Copies
public import proofs.«01_k».proof.Proof.Attention
public import proofs.«01_k».proof.Proof.Gen.Pre_queries_and_keys_finite

@[expose] public section

noncomputable section

namespace Cert.AttentionClaim

open Idealize.ShloMosaic Idealize.ShloMosaic.Pointwise Idealize.SL.Sem

/-- The word of bf16's plus infinity. -/
theorem posInf : Ideal.ofBits .bf16 0x7F80#16 = ⊤ := by simp [Ideal.ofBits, Ideal.ieee]

/-- Less than plus infinity in absolute value is a real. -/
theorem real_of_abs_lt (x : EReal) (h : max x (-x) < ⊤) : Band.IsReal x := by
  induction x with
  | bot => simp at h
  | top => simp at h
  | coe r => exact ⟨r, rfl⟩

/-- The precondition says that the queries and keys are finite. -/
theorem finite_of_pre (X : FVec Ideal Pre_queries_and_keys_finite.S8x2048x5120 .bf16) (a1 a2 a3 a4 a5)
    (h : ∀ i, Pre_queries_and_keys_finite.fn (F := Ideal) X a1 a2 a3 a4 a5 i = 1#1) : Stack.Finite X := by
  intro b y j hj
  have hi := h (ix3 b y (⟨j.val, hj⟩ : Fin 1536))
  have hs : extractStridedSlice Pre_queries_and_keys_finite.S8x2048x1536 ![0, 0, 0] X
      Pre_queries_and_keys_finite.Gen.slices_S8x2048x5120_S8x2048x1536_0_0_0 (ix3 b y (⟨j.val, hj⟩ : Fin 1536)) = X (ix3 b y j) := by
    refine extractStridedSlice_apply _ _ _ _ _ ?_
    intro q
    match q with
    | ⟨0, _⟩ => show b.val = 0 + b.val; omega
    | ⟨1, _⟩ => show y.val = 0 + y.val; omega
    | ⟨2, _⟩ => show j.val = 0 + j.val; omega
  have hc : BitVec.ofBool (decide (max (extractStridedSlice Pre_queries_and_keys_finite.S8x2048x1536 ![0, 0, 0] X
      Pre_queries_and_keys_finite.Gen.slices_S8x2048x5120_S8x2048x1536_0_0_0 (ix3 b y (⟨j.val, hj⟩ : Fin 1536)))
      (-(extractStridedSlice Pre_queries_and_keys_finite.S8x2048x1536 ![0, 0, 0] X
      Pre_queries_and_keys_finite.Gen.slices_S8x2048x5120_S8x2048x1536_0_0_0 (ix3 b y (⟨j.val, hj⟩ : Fin 1536)))) < Ideal.ofBits .bf16 0x7F80#16)) = 1#1 := hi
  rw [hs, posInf] at hc
  refine real_of_abs_lt _ ?_
  by_contra hn
  rw [decide_eq_false hn] at hc
  exact absurd hc (by decide)

/-- From memories that agree on the arguments, the queries and keys finite, both programs end with the attention's
output and the five weights. -/
theorem algebraic : Cert.algebraic_KernelIdeal_ReferenceIdeal_pre_queries_and_keys_finite := by
  intro m ρ m' ρ' hpre hag
  have hfin : ∀ c : Dev Cert.KernelIdeal.nD, Stack.Finite (m ((c.tc : Thread Cert.KernelIdeal.nD Cert.KernelIdeal.τ).loc Cert.KernelIdeal.main_arg0)) :=
    fun c => finite_of_pre _ _ _ _ _ _ fun i => congrFun (hpre c) i
  refine ⟨fun c => (Spec.result (m ((c.tc : Thread Cert.KernelIdeal.nD Cert.KernelIdeal.τ).loc Cert.KernelIdeal.main_arg0)) : FVec Ideal Spec.SY .bf16),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4),
    fun c => m ((c.tc : Thread Cert.KernelIdeal.nD Cert.KernelIdeal.τ).loc Cert.KernelIdeal.main_arg5), ?_, ?_⟩
  · refine (θ_run _ _ _).mono (fun _ h c => ?_) (Cert.KernelIdeal.Value.run_blocks (F := Ideal) m ρ)
    obtain ⟨h0, h1, h2, h3, h4, h5, ha⟩ := h c
    exact ⟨h0.trans (Array.arr15 m c), h1.trans (Copies.copy16 m c), h2.trans (Copies.copy17 m c), h3.trans (Copies.copy18 m c),
      h4.trans (Copies.copy19 m c), h5.trans (Copies.copy20 m c), ha⟩
  · refine (θ_run _ _ _).mono (fun _ h c => ?_) (Cert.ReferenceIdeal.Value.run (F := Ideal) m' ρ')
    obtain ⟨h0, h1, h2, h3, h4, h5, ha⟩ := h c
    obtain ⟨g0, g1, g2, g3, g4, g5⟩ := hag c
    refine ⟨?_, h1.trans g1, h2.trans g2, h3.trans g3, h4.trans g4, h5.trans g5, ha⟩
    refine h0.trans ((Cert.ReferenceIdeal.Read.val_main_v276_eq (F := Ideal) _).trans ?_)
    rw [StableHlo.launchContents_devRef, g0]
    exact Stack.result_eq (hfin c)

end Cert.AttentionClaim

end
-- ==== Proof.FfnRow.lean ====
/-
One row of a half-step feed-forward with a normalised input: the root mean square norm, the gated hidden units one by
one, and the row after the residual is added. The hidden units may be summed in groups, and the factor one half may
stand inside the sum or before it.
-/
module

public import Idealize.ShloMosaic.PureOps.Ideal
public import Idealize.ShloMosaic.PureOps.Ideal.Laws
public import Idealize.ShloMosaic.Lib.ValueIdx

@[expose] public section

noncomputable section

namespace Cert.FfnRow

open Idealize.ShloMosaic Idealize.ShloMosaic.ValueIdx

/-- The shape of an array of `a` rows and `b` columns. -/
abbrev Sh (a b : ℕ) : Shape := ⟨2, ![a, b]⟩

/-- A row over its root mean square, times a gain. -/
def norm (x g : Fin 2048 → EReal) (d : Fin 2048) : EReal :=
  x d * Ideal.rsqrt (Ideal.div (∑ k, x k * x k) (Ideal.ofBits .f32 0x45000000#32) + Ideal.ofBits .f32 0x358637BD#32) * g d

/-- The float word of one half. -/
abbrev half : EReal := Ideal.ofBits .f32 0x3F000000#32

/-- The gated activation of a hidden unit, halved, from its two products. -/
def act (a b : EReal) : EReal := half * a * Ideal.logistic a * b

/-- What hidden unit `f` adds to column `d` of a row whose normalised input is `h`. -/
def term (h : Fin 2048 → EReal) (w : FVec Ideal (Sh 2048 11264) .bf16) (v : FVec Ideal (Sh 5632 2048) .bf16) (d : Fin 2048)
    (f : ℕ) : EReal :=
  if hf : f < 5632 then
    act (∑ k : Fin 2048, h k * w (ix2 k (⟨f, by omega⟩ : Fin 11264)))
        (∑ k : Fin 2048, h k * w (ix2 k (⟨5632 + f, by omega⟩ : Fin 11264))) * v (ix2 (⟨f, hf⟩ : Fin 5632) d)
  else 0

/-- A row after the first `n` hidden units are added. -/
def upTo (x g : Fin 2048 → EReal) (w : FVec Ideal (Sh 2048 11264) .bf16) (v : FVec Ideal (Sh 5632 2048) .bf16) (n : ℕ)
    (d : Fin 2048) : EReal := x d + ∑ f ∈ Finset.range n, term (norm x g) w v d f

/-- Adding the next `p` hidden units. -/
theorem upTo_add (x g : Fin 2048 → EReal) (w : FVec Ideal (Sh 2048 11264) .bf16) (v : FVec Ideal (Sh 5632 2048) .bf16) (n p : ℕ)
    (d : Fin 2048) :
    upTo x g w v n d + ∑ f : Fin p, term (norm x g) w v d (n + f.val) = upTo x g w v (n + p) d := by
  unfold upTo
  rw [Finset.sum_range_add, Finset.sum_range fun f => term (norm x g) w v d (n + f), add_assoc]

theorem upTo_zero (x g : Fin 2048 → EReal) (w : FVec Ideal (Sh 2048 11264) .bf16) (v : FVec Ideal (Sh 5632 2048) .bf16)
    (d : Fin 2048) : upTo x g w v 0 d = x d := by
  unfold upTo
  rw [Finset.range_zero, Finset.sum_empty, add_zero]

theorem half_eq : half = ((1 / 2 : ℝ) : EReal) := by
  simp [half, Ideal.ofBits, Ideal.ieee, -EReal.coe_mul]; norm_num

/-- One half distributes over a sum of extended reals. -/
theorem half_mul_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, half_eq]
    exact EReal.left_distrib_of_nonneg_of_ne_top (by exact_mod_cast (by norm_num : (0 : ℝ) ≤ 1 / 2)) (EReal.coe_ne_top _) _ _

/-- The row with all its hidden units, the factor one half before the sum. -/
theorem upTo_all (x g : Fin 2048 → EReal) (w : FVec Ideal (Sh 2048 11264) .bf16) (v : FVec Ideal (Sh 5632 2048) .bf16)
    (d : Fin 2048) :
    x d + half * ∑ f : Fin 5632,
      ((∑ k : Fin 2048, norm x g k * w (ix2 k (⟨f.val, by omega⟩ : Fin 11264)))
        * Ideal.logistic (∑ k : Fin 2048, norm x g k * w (ix2 k (⟨f.val, by omega⟩ : Fin 11264)))
        * (∑ k : Fin 2048, norm x g k * w (ix2 k (⟨5632 + f.val, by omega⟩ : Fin 11264)))) * v (ix2 f d)
      = upTo x g w v 5632 d := by
  unfold upTo
  rw [half_mul_sum, Finset.sum_range]
  refine congrArg (x d + ·) (Finset.sum_congr rfl fun f _ => ?_)
  unfold term
  rw [dif_pos f.2]
  unfold act
  simp only [mul_assoc]

end Cert.FfnRow

end
-- ==== Proof.FfnTile.lean ====
/-
What the kernel's vector expressions hold at an index: the norm of a block of rows, and what a group of hidden units
adds to it.
-/
module

public import proofs.«01_k».proof.Proof.FfnRow
public import Idealize.ShloMosaic.Lib.Pipeline.Value
public import Idealize.ShloMosaic.Lib.ValueIdxCore
public import Idealize.ShloMosaic.Lib.Pointwise
public import Idealize.ShloMosaic.Lib.MatmulPlain
public import Idealize.ShloMosaic.PureOps.Ideal.Laws

@[expose] public section

noncomputable section

namespace Cert.FfnTile

open Idealize.ShloMosaic hiding ix1 ix2 ix3 eq_ix2 eq_ix3
open Idealize.ShloMosaic.ValueIdx Cert.FfnRow

abbrev Sh1 (m : ℕ) : Shape := ⟨1, ![m]⟩

variable {m : ℕ}

theorem spread_apply {n : ℕ} (x : FVec Ideal (Sh m 1) .f32) (hb : (Sh m 1).Broadcasts (Sh m n)) (hm : m ≠ 1) (i : Fin m)
    (j : Fin n) : broadcastTo (Sh m n) x hb (ix2 i j) = x (ix2 i 0) := by
  refine broadcastTo_apply x hb (ix2 i j) (ix2 i 0) fun a => ?_
  match a with
  | ⟨0, _⟩ => show i.val = if m = 1 then 0 else i.val; rw [if_neg hm]
  | ⟨1, _⟩ => rfl

theorem rows_apply {n : ℕ} (x : FVec Ideal (Sh 1 n) .f32) (hb : (Sh 1 n).Broadcasts (Sh m n)) (hn : n ≠ 1) (i : Fin m)
    (j : Fin n) : broadcastTo (Sh m n) x hb (ix2 i j) = x (ix2 0 j) := by
  refine broadcastTo_apply x hb (ix2 i j) (ix2 0 j) fun a => ?_
  match a with
  | ⟨0, _⟩ => rfl
  | ⟨1, _⟩ => show j.val = if n = 1 then 0 else j.val; rw [if_neg hn]

theorem column_apply (x : FVec Ideal (Sh1 m) .f32) (hc : (Sh1 m).ShapeCasts (Sh m 1)) (i : Fin m) :
    shapeCast (Sh m 1) x hc (ix2 i 0) = x (ix1 i) :=
  shapeCast_apply x hc (ix2 i 0) (ix1 i) (by
    rw [Idealize.ShloMosaic.rowMajor_val1, Idealize.ShloMosaic.rowMajor_val2 _ 1 rfl]; show i.val = i.val * 1 + 0; omega)

theorem lift_eq {n : ℕ} (hr : (Sh m n).Reduces [1] (Sh1 m)) (i : Fin m) (j : Fin n) : hr.lift (ix1 i) j = ix2 i j := by
  funext a
  refine Fin.ext ((Shape.Reduces.lift_val hr (ix1 i) j a).trans ?_)
  match a with
  | ⟨0, _⟩ => rfl
  | ⟨1, _⟩ => rfl

/-- The mean square of a row, with the small constant, at a block's column. -/
def meanSq (x : FVec Ideal (Sh m 2048) .f32) (hr : (Sh m 2048).Reduces [1] (Sh1 m)) (hc : (Sh1 m).ShapeCasts (Sh m 1)) :
    FVec Ideal (Sh m 1) .f32 :=
  addf (divf (shapeCast (Sh m 1) (multiReduction .add [1] (Sh1 m) (mulf x x) 0x00000000#32 hr (.inl rfl) rfl) hc)
    (broadcast (Sh m 1) (Scalar.ofBits .f32 0x45000000#32))) (broadcast (Sh m 1) (Scalar.ofBits .f32 0x358637BD#32))

/-- The norm of each row of a block, as the kernel's vector operations compute it. -/
def normed (x : FVec Ideal (Sh m 2048) .f32) (g : FVec Ideal (Sh 1 2048) .f32) (hr : (Sh m 2048).Reduces [1] (Sh1 m))
    (hc : (Sh1 m).ShapeCasts (Sh m 1)) (hb : (Sh m 1).Broadcasts (Sh m 2048)) (hg : (Sh 1 2048).Broadcasts (Sh m 2048)) :
    FVec Ideal (Sh m 2048) .f32 :=
  mulf (mulf x (broadcastTo (Sh m 2048) (rsqrt (meanSq x hr hc)) hb)) (broadcastTo (Sh m 2048) g hg)

theorem meanSq_apply (x : FVec Ideal (Sh m 2048) .f32) (hr : (Sh m 2048).Reduces [1] (Sh1 m)) (hc : (Sh1 m).ShapeCasts (Sh m 1))
    (i : Fin m) : meanSq x hr hc (ix2 i 0)
      = Ideal.div (∑ k : Fin 2048, x (ix2 i k) * x (ix2 i k)) (Ideal.ofBits .f32 0x45000000#32) + Ideal.ofBits .f32 0x358637BD#32 := by
  show Ideal.div (shapeCast (Sh m 1) (multiReduction .add [1] (Sh1 m) (mulf x x) 0x00000000#32 hr (.inl rfl) rfl) hc (ix2 i 0)) _ + _ = _
  rw [column_apply]
  refine congrArg (fun s => Ideal.div s (Ideal.ofBits .f32 0x45000000#32) + Ideal.ofBits .f32 0x358637BD#32) ?_
  refine (Ideal.multiReduction_add_single (mulf x x) _ hr _ _ (ix1 i)).trans ?_
  exact Finset.sum_congr rfl fun k _ => congrArg (mulf x x) (lift_eq hr i k)

theorem normed_apply (hm : m ≠ 1) (x : FVec Ideal (Sh m 2048) .f32) (g : FVec Ideal (Sh 1 2048) .f32) (hr : (Sh m 2048).Reduces [1] (Sh1 m))
    (hc : (Sh1 m).ShapeCasts (Sh m 1)) (hb : (Sh m 1).Broadcasts (Sh m 2048)) (hg : (Sh 1 2048).Broadcasts (Sh m 2048))
    (i : Fin m) (d : Fin 2048) :
    normed x g hr hc hb hg (ix2 i d) = norm (fun k => x (ix2 i k)) (fun k => g (ix2 0 k)) d := by
  show x (ix2 i d) * broadcastTo (Sh m 2048) (rsqrt (meanSq x hr hc)) hb (ix2 i d) * broadcastTo (Sh m 2048) g hg (ix2 i d) = _
  rw [spread_apply _ hb hm, rows_apply g hg (by decide)]
  show x (ix2 i d) * Ideal.rsqrt (meanSq x hr hc (ix2 i 0)) * g (ix2 0 d) = _
  rw [meanSq_apply]
  rfl

variable {n : ℕ}

/-- The product of the normalised rows with a group's columns. -/
def up (h : FVec Ideal (Sh m 2048) .bf16) (w : FVec Ideal (Sh 2048 n) .bf16) : FVec Ideal (Sh m n) .f32 :=
  matmul (DotDims.plain m 2048 n) none h w (constant (Sh m n) .f32 0x00000000#32)

/-- The group's activations. -/
def acts (hn : FTy.bf16.bits < FTy.f32.bits) (a b : FVec Ideal (Sh m n) .f32) : FVec Ideal (Sh m n) .bf16 :=
  truncf .bf16 (mulf (mulf (mulf (broadcast (Sh m n) (Scalar.ofBits .f32 0x3F000000#32)) a) (logistic a)) b) hn

/-- What the group adds to the block. -/
def adds (hn : FTy.bf16.bits < FTy.f32.bits) (h : FVec Ideal (Sh m 2048) .bf16) (wa wb : FVec Ideal (Sh 2048 n) .bf16)
    (wd : FVec Ideal (Sh n 2048) .bf16) : FVec Ideal (Sh m 2048) .f32 :=
  matmul (DotDims.plain m n 2048) none (acts hn (up h wa) (up h wb)) wd (constant (Sh m 2048) .f32 0x00000000#32)

theorem up_apply (h : FVec Ideal (Sh m 2048) .bf16) (w : FVec Ideal (Sh 2048 n) .bf16) (i : Fin m) (f : Fin n) :
    up h w (ix2 i f) = ∑ k : Fin 2048, h (ix2 i k) * w (ix2 k f) := by
  refine (Ideal.matmul_plain_apply none h w _ i f).trans ?_
  refine (congrArg (· + _) (Ideal.ofBits_zero_f32)).trans (zero_add _)

theorem acts_apply (hn : FTy.bf16.bits < FTy.f32.bits) (a b : FVec Ideal (Sh m n) .f32) (i : (Sh m n).Idx) :
    acts hn a b i = act (a i) (b i) := rfl

theorem adds_apply (hn : FTy.bf16.bits < FTy.f32.bits) (h : FVec Ideal (Sh m 2048) .bf16) (wa wb : FVec Ideal (Sh 2048 n) .bf16)
    (wd : FVec Ideal (Sh n 2048) .bf16) (i : Fin m) (d : Fin 2048) :
    adds hn h wa wb wd (ix2 i d) = ∑ f : Fin n,
      act (∑ k : Fin 2048, h (ix2 i k) * wa (ix2 k f)) (∑ k : Fin 2048, h (ix2 i k) * wb (ix2 k f)) * wd (ix2 f d) := by
  refine (Ideal.matmul_plain_apply none (acts hn (up h wa) (up h wb)) wd _ i d).trans ?_
  refine (congrArg (· + _) (Ideal.ofBits_zero_f32)).trans ((zero_add _).trans ?_)
  refine Finset.sum_congr rfl fun f _ => congrArg (· * wd (ix2 f d)) ?_
  rw [acts_apply, up_apply, up_apply]

end Cert.FfnTile

end
-- ==== Proof.ClosingBody.lean ====
/-
What one run of the closing feed-forward's body leaves in its output block and in the scratch that holds the normalised
rows: at the first group of hidden units, at a middle one, and at the last.
-/
module

public import proofs.«01_k».proof.Proof.FfnTile
public import proofs.«01_k».proof.Proof.Gen.Kernel2Ideal.Value
public import Idealize.ShloMosaic.Lib.Pipeline.Value
public import Idealize.ShloMosaic.Lib.Tactic

@[expose] public section

set_option maxRecDepth 16384

noncomputable section

namespace Cert.ClosingBody

open Idealize.ShloMosaic hiding ix1 ix2 ix3 eq_ix2 eq_ix3
open Idealize.ShloMosaic.ValueIdx Idealize.ShloMosaic.TcCoe
open Cert.Kernel2Ideal Cert.Kernel2Ideal.Gen

theorem hz : (![0, 0] : Fin 2 → Nat) = fun _ => 0 := funext fun a => by fin_cases a <;> rfl

/-- The first half of a group's columns. -/
def colsL (w : Vec Ideal S2048x512 .bf16) : Vec Ideal S2048x256 .bf16 :=
  View.ld w (Rect.unit (s := S2048x512) ![0, 0] S2048x256.size inb_S2048x512_S2048x256_0_0)

/-- The second half of a group's columns. -/
def colsR (w : Vec Ideal S2048x512 .bf16) : Vec Ideal S2048x256 .bf16 :=
  View.ld w (Rect.unit (s := S2048x512) ![0, 256] S2048x256.size inb_S2048x512_S2048x256_0_256)

/-- The first half of a group's rows. -/
def rowsL (w : Vec Ideal S512x2048 .bf16) : Vec Ideal S256x2048 .bf16 :=
  View.ld w (Rect.unit (s := S512x2048) ![0, 0] S256x2048.size inb_S512x2048_S256x2048_0_0)

/-- The second half of a group's rows. -/
def rowsR (w : Vec Ideal S512x2048 .bf16) : Vec Ideal S256x2048 .bf16 :=
  View.ld w (Rect.unit (s := S512x2048) ![256, 0] S256x2048.size inb_S512x2048_S256x2048_256_0)

/-- What a group of hidden units adds, from the normalised rows and the group's weights. -/
def group (h : Vec Ideal S1024x2048 .bf16) (wa wb : Vec Ideal S2048x512 .bf16) (wd : Vec Ideal S512x2048 .bf16) :
    Vec Ideal S1024x2048 .f32 :=
  k0_pay5 h (colsL wa) (colsL wb) (colsR wa) (colsR wb) (rowsL wd) (rowsR wd)

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x512 .bf16)
  (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1x2048 .f32)
  (harg7 : arg7.IsWhole) (arg8 : Memref sig .tc .vmem S1024x2048 .f32) (harg8 : arg8.IsWhole)
  (arg9 : Memref sig .tc .vmem S1024x2048 .bf16) (harg9 : arg9.IsWhole)
  (x0 : Vec Ideal S1024x2048 .f32) (x1 : Vec Ideal S1x2048 .f32) (x2 x3 : Vec Ideal S2048x512 .bf16)
  (x4 : Vec Ideal S512x2048 .bf16) (x5 : Vec Ideal S1x2048 .f32) (xo : Vec Ideal S1024x2048 .f32)
  (xs : Vec Ideal S1024x2048 .bf16)

/-- At the first group the scratch is left holding the normalised rows. -/
theorem scratch_first (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay3 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero hz]
  simp only [View.readAt_eq_ld, harg2.read_unread, harg3.read_unread, View.ld_unit_zero (S := S1024x2048) hz, View.ld_unit_zero (S := S1x2048) hz]

/-- At the first group the output block is left holding the input rows plus what the group adds. -/
theorem out_first (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay1 (k0_pay4 x0) (group (k0_pay3 x0 x1) x2 x3 x4) := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) hz]
  simp only [View.readCov_unit_zero (S := S1024x2048) _ hz, View.readAt_eq_ld, harg2.read_unread, harg3.read_unread, harg4.read_unread, harg5.read_unread, harg6.read_unread,
    View.ld_unit_zero (S := S1024x2048) hz, View.ld_unit_zero (S := S1x2048) hz]
  rfl

/-- At a middle group the output block is left holding what it held plus what the group adds. -/
theorem out_middle (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo xs
      = k0_pay1 (k0_pay4 xo) (group xs x2 x3 x4) := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  sl_unfold_words
  rw [View.canon_unit_zero hz]
  simp only [View.readAt_eq_ld, harg9.read_unread, harg8.read_unread, harg4.read_unread, harg5.read_unread, harg6.read_unread,
    View.ld_unit_zero (S := S1024x2048) hz]
  rfl

/-- At the last group the output block is left holding the norm of what it held plus what the group adds. -/
theorem out_last (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo xs
      = k0_pay2 (k0_pay1 (k0_pay4 xo) (group xs x2 x3 x4)) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) hz]
  simp only [View.readCov_unit_zero (S := S1024x2048) _ hz, View.readAt_eq_ld, harg9.read_unread, harg8.read_unread, harg7.read_unread, harg4.read_unread, harg5.read_unread, harg6.read_unread,
    View.ld_unit_zero (S := S1024x2048) hz, View.ld_unit_zero (S := S1x2048) hz]
  rfl

end Cert.ClosingBody

end
-- ==== Proof.ClosingPays.lean ====
/-
The closing feed-forward's stored vectors at an index: the norm of a row, and what a group of 512 hidden units adds to a
row.
-/
module

public import proofs.«01_k».proof.Proof.ClosingBody
public import Idealize.ShloMosaic.Lib.Pipeline.ValueKit.Tiles

@[expose] public section

set_option maxRecDepth 16384

noncomputable section

namespace Cert.ClosingPays

open Idealize.ShloMosaic hiding ix1 ix2 ix3 eq_ix2 eq_ix3
open Idealize.ShloMosaic.ValueIdx Idealize.ShloMosaic.TcCoe
open Cert.Kernel2Ideal Cert.Kernel2Ideal.Gen Cert.ClosingBody Cert.FfnRow Cert.FfnTile

theorem pay3_apply (x : Vec Ideal S1024x2048 .f32) (g : Vec Ideal S1x2048 .f32) (i : Fin 1024) (d : Fin 2048) :
    k0_pay3 x g (ix2 i d) = norm (fun k => x (ix2 i k)) (fun k => g (ix2 0 k)) d := by
  refine Eq.trans ?_ (normed_apply (m := 1024) (by decide) x g reduces_S1024x2048_S1024 shapeCasts_S1024_S1024x1
    broadcasts_S1024x1_S1024x2048 broadcasts_S1x2048_S1024x2048 i d)
  unfold k0_pay3
  dsimp only
  simp only [shapeCast_self]
  rfl

theorem pay2_apply (x : Vec Ideal S1024x2048 .f32) (g : Vec Ideal S1x2048 .f32) (i : Fin 1024) (d : Fin 2048) :
    k0_pay2 x g (ix2 i d) = norm (fun k => x (ix2 i k)) (fun k => g (ix2 0 k)) d := by
  refine Eq.trans ?_ (normed_apply (m := 1024) (by decide) x g reduces_S1024x2048_S1024 shapeCasts_S1024_S1024x1
    broadcasts_S1024x1_S1024x2048 broadcasts_S1x2048_S1024x2048 i d)
  unfold k0_pay2
  dsimp only
  simp only [shapeCast_self]
  rfl

theorem add_apply (x y : Vec Ideal S1024x2048 .f32) (i : Fin 1024) (d : Fin 2048) :
    k0_pay1 (k0_pay4 x) y (ix2 i d) = x (ix2 i d) + y (ix2 i d) := by
  unfold k0_pay1 k0_pay4
  dsimp only
  rw [shapeCast_self]
  rfl

theorem pay5_eq (h : Vec Ideal S1024x2048 .bf16) (a b a' b' : Vec Ideal S2048x256 .bf16) (w w' : Vec Ideal S256x2048 .bf16) :
    k0_pay5 h a b a' b' w w' = addf (adds (m := 1024) (n := 256) bitsLt_bf16_f32 h a b w)
      (adds (m := 1024) (n := 256) bitsLt_bf16_f32 h a' b' w') := rfl

theorem colsL_apply (w : Vec Ideal S2048x512 .bf16) (k : Fin 2048) (f : Fin 256) :
    colsL w (ix2 k f) = w (ix2 k (Fin.castAdd 256 f : Fin 512)) :=
  View.ld_unit_apply_of w _ _ inb_S2048x512_S2048x256_0_0 (ix2 k f) (ix2 k (Fin.castAdd 256 f : Fin 512)) fun a => by
    match a with
    | ⟨0, _⟩ => show k.val = 0 + k.val; omega
    | ⟨1, _⟩ => show f.val = 0 + f.val; omega

theorem colsR_apply (w : Vec Ideal S2048x512 .bf16) (k : Fin 2048) (f : Fin 256) :
    colsR w (ix2 k f) = w (ix2 k (Fin.natAdd 256 f : Fin 512)) :=
  View.ld_unit_apply_of w _ _ inb_S2048x512_S2048x256_0_256 (ix2 k f) (ix2 k (Fin.natAdd 256 f : Fin 512)) fun a => by
    match a with
    | ⟨0, _⟩ => show k.val = 0 + k.val; omega
    | ⟨1, _⟩ => rfl

theorem rowsL_apply (w : Vec Ideal S512x2048 .bf16) (f : Fin 256) (d : Fin 2048) :
    rowsL w (ix2 f d) = w (ix2 (Fin.castAdd 256 f : Fin 512) d) :=
  View.ld_unit_apply_of w _ _ inb_S512x2048_S256x2048_0_0 (ix2 f d) (ix2 (Fin.castAdd 256 f : Fin 512) d) fun a => by
    match a with
    | ⟨0, _⟩ => show f.val = 0 + f.val; omega
    | ⟨1, _⟩ => show d.val = 0 + d.val; omega

theorem rowsR_apply (w : Vec Ideal S512x2048 .bf16) (f : Fin 256) (d : Fin 2048) :
    rowsR w (ix2 f d) = w (ix2 (Fin.natAdd 256 f : Fin 512) d) :=
  View.ld_unit_apply_of w _ _ inb_S512x2048_S256x2048_256_0 (ix2 f d) (ix2 (Fin.natAdd 256 f : Fin 512) d) fun a => by
    match a with
    | ⟨0, _⟩ => rfl
    | ⟨1, _⟩ => show d.val = 0 + d.val; omega

/-- What a group of 512 hidden units adds to column `d` of row `i`. -/
theorem group_apply (h : Vec Ideal S1024x2048 .bf16) (wa wb : Vec Ideal S2048x512 .bf16) (wd : Vec Ideal S512x2048 .bf16)
    (i : Fin 1024) (d : Fin 2048) :
    group h wa wb wd (ix2 i d) = ∑ f : Fin 512,
      act (∑ k : Fin 2048, h (ix2 i k) * wa (ix2 k f)) (∑ k : Fin 2048, h (ix2 i k) * wb (ix2 k f)) * wd (ix2 f d) := by
  unfold group
  rw [pay5_eq]
  refine Eq.trans ?_ (Fin.sum_univ_add (a := 256) (b := 256) fun f : Fin 512 =>
    act (∑ k : Fin 2048, h (ix2 i k) * wa (ix2 k f)) (∑ k : Fin 2048, h (ix2 i k) * wb (ix2 k f)) * wd (ix2 f d)).symm
  refine congrArg₂ (fun a b : EReal => a + b) ?_ ?_
  · refine (adds_apply (m := 1024) (n := 256) bitsLt_bf16_f32 h (colsL wa) (colsL wb) (rowsL wd) i d).trans ?_
    simp only [colsL_apply, rowsL_apply]
  · refine (adds_apply (m := 1024) (n := 256) bitsLt_bf16_f32 h (colsR wa) (colsR wb) (rowsR wd) i d).trans ?_
    simp only [colsR_apply, rowsR_apply]

end Cert.ClosingPays

end
-- ==== Proof.ClosingArray.lean ====
/-
What the closing feed-forward's array holds after the run: every row is the norm of the input row plus all its hidden
units.  Shown by induction over the grid's points, each of which adds 512 hidden units to 1024 rows.
-/
module

public import proofs.«01_k».proof.Proof.ClosingPays

@[expose] public section

set_option maxRecDepth 16384

noncomputable section

namespace Cert.ClosingArray

open Idealize.ShloMosaic hiding ix1 ix2 ix3 eq_ix2 eq_ix3
open Idealize.ShloMosaic.ValueIdx Idealize.ShloMosaic.TcCoe
open Cert.Kernel2Ideal Cert.Kernel2Ideal.Gen Cert.Kernel2Ideal.Value Cert.ClosingBody Cert.ClosingPays Cert.FfnRow

variable (m : (ℓ : Loc nD τ sig) → Buf (Elt Ideal) ℓ) (c : Dev nD)

/-- The arrays the kernel is given: the rows, the gain, the two weights and the closing gain. -/
def rows : FVec Ideal (Sh 16384 2048) .f32 := m ((c : Thread nD τ).loc main_arg0)
def gain : FVec Ideal (Sh 1 2048) .f32 := m ((c : Thread nD τ).loc main_arg1)
def wIn : FVec Ideal (Sh 2048 11264) .bf16 := m ((c : Thread nD τ).loc main_arg2)
def wOut : FVec Ideal (Sh 5632 2048) .bf16 := m ((c : Thread nD τ).loc main_arg3)
def gainPost : FVec Ideal (Sh 1 2048) .f32 := m ((c : Thread nD τ).loc main_arg4)

/-- One input row, and the gains as rows. -/
def row (a : Fin 16384) (k : Fin 2048) : EReal := rows m c (ix2 a k)
def gainRow (k : Fin 2048) : EReal := gain m c (ix2 0 k)
def gainPostRow (k : Fin 2048) : EReal := gainPost m c (ix2 0 k)

/-- The input row that row `r` of the block of grid point `n` is. -/
def rowOf (n : ℕ) (h : n < 176) (r : Fin 1024) : Fin 16384 := ⟨1024 * (n / 11) + r.val, by omega⟩

variable (t : Fin cfg0.N)

theorem lt_N : t.val < 176 := t.isLt

theorem block0 (r : Fin 1024) (k : Fin 2048) : iblk m c 0 t (ix2 r k) = row m c (rowOf t.val (lt_N t) r) k := by
  have hi : win0_0.index t 0 = t.val / 11 ∧ win0_0.index t 1 = 0 :=
    (by decide +kernel : ∀ t : Fin grid0.N, win0_0.index t 0 = t.val / 11 ∧ win0_0.index t 1 = 0) t
  unfold iblk row rows
  rw [← V_main_arg0 m c]
  refine congrArg (V m c main_arg0) (funext fun b => Fin.ext ?_)
  match b with
  | ⟨0, _⟩ => show win0_0.index t 0 * 1024 + 1 * r.val = 1024 * (t.val / 11) + r.val; rw [hi.1]; omega
  | ⟨1, _⟩ => show win0_0.index t 1 * 2048 + 1 * k.val = k.val; rw [hi.2]; omega

theorem block1 (k : Fin 2048) : iblk m c 1 t (ix2 0 k) = gainRow m c k := by
  have hi : win0_1.index t 0 = 0 ∧ win0_1.index t 1 = 0 :=
    (by decide +kernel : ∀ t : Fin grid0.N, win0_1.index t 0 = 0 ∧ win0_1.index t 1 = 0) t
  unfold iblk gainRow gain
  rw [← V_main_arg1 m c]
  refine congrArg (V m c main_arg1) (funext fun b => Fin.ext ?_)
  match b with
  | ⟨0, _⟩ => show win0_1.index t 0 * 1 + 1 * 0 = 0; rw [hi.1]
  | ⟨1, _⟩ => show win0_1.index t 1 * 2048 + 1 * k.val = k.val; rw [hi.2]; omega

theorem block2 (k : Fin 2048) (f : Fin 512) (i : Fin 11264) (h : i.val = 512 * (t.val % 11) + f.val) :
    iblk m c 2 t (ix2 k f) = wIn m c (ix2 k i) := by
  have hi : win0_2.index t 0 = 0 ∧ win0_2.index t 1 = t.val % 11 :=
    (by decide +kernel : ∀ t : Fin grid0.N, win0_2.index t 0 = 0 ∧ win0_2.index t 1 = t.val % 11) t
  unfold iblk wIn
  rw [← V_main_arg2 m c]
  refine congrArg (V m c main_arg2) (funext fun b => Fin.ext ?_)
  match b with
  | ⟨0, _⟩ => show win0_2.index t 0 * 2048 + 1 * k.val = k.val; rw [hi.1]; omega
  | ⟨1, _⟩ => show win0_2.index t 1 * 512 + 1 * f.val = i.val; rw [hi.2]; omega

theorem block3 (k : Fin 2048) (f : Fin 512) (i : Fin 11264) (h : i.val = 5632 + (512 * (t.val % 11) + f.val)) :
    iblk m c 3 t (ix2 k f) = wIn m c (ix2 k i) := by
  have hi : win0_3.index t 0 = 0 ∧ win0_3.index t 1 = t.val % 11 + 11 :=
    (by decide +kernel : ∀ t : Fin grid0.N, win0_3.index t 0 = 0 ∧ win0_3.index t 1 = t.val % 11 + 11) t
  unfold iblk wIn
  rw [← V_main_arg2 m c]
  refine congrArg (V m c main_arg2) (funext fun b => Fin.ext ?_)
  match b with
  | ⟨0, _⟩ => show win0_3.index t 0 * 2048 + 1 * k.val = k.val; rw [hi.1]; omega
  | ⟨1, _⟩ => show win0_3.index t 1 * 512 + 1 * f.val = i.val; rw [hi.2]; omega

theorem block4 (f : Fin 512) (d : Fin 2048) (i : Fin 5632) (h : i.val = 512 * (t.val % 11) + f.val) :
    iblk m c 4 t (ix2 f d) = wOut m c (ix2 i d) := by
  have hi : win0_4.index t 0 = t.val % 11 ∧ win0_4.index t 1 = 0 :=
    (by decide +kernel : ∀ t : Fin grid0.N, win0_4.index t 0 = t.val % 11 ∧ win0_4.index t 1 = 0) t
  unfold iblk wOut
  rw [← V_main_arg3 m c]
  refine congrArg (V m c main_arg3) (funext fun b => Fin.ext ?_)
  match b with
  | ⟨0, _⟩ => show win0_4.index t 0 * 512 + 1 * f.val = i.val; rw [hi.1]; omega
  | ⟨1, _⟩ => show win0_4.index t 1 * 2048 + 1 * d.val = d.val; rw [hi.2]; omega

theorem block5 (k : Fin 2048) : iblk m c 5 t (ix2 0 k) = gainPostRow m c k := by
  have hi : win0_5.index t 0 = 0 ∧ win0_5.index t 1 = 0 :=
    (by decide +kernel : ∀ t : Fin grid0.N, win0_5.index t 0 = 0 ∧ win0_5.index t 1 = 0) t
  unfold iblk gainPostRow gainPost
  rw [← V_main_arg4 m c]
  refine congrArg (V m c main_arg4) (funext fun b => Fin.ext ?_)
  match b with
  | ⟨0, _⟩ => show win0_5.index t 0 * 1 + 1 * 0 = 0; rw [hi.1]
  | ⟨1, _⟩ => show win0_5.index t 1 * 2048 + 1 * k.val = k.val; rw [hi.2]; omega

/-- The normalised row that row `r` of the block of point `n` has. -/
abbrev hidden (n : ℕ) (h : n < 176) (r : Fin 1024) : Fin 2048 → EReal := norm (row m c (rowOf n h r)) (gainRow m c)

/-- What the point's group of hidden units adds to column `d` of row `r`, given the normalised rows. -/
theorem group_terms (hs : Vec Ideal S1024x2048 .bf16) (r : Fin 1024) (d : Fin 2048)
    (hh : ∀ k, hs (ix2 r k) = hidden m c t.val (lt_N t) r k) :
    group hs (iblk m c 2 t) (iblk m c 3 t) (iblk m c 4 t) (ix2 r d)
      = ∑ f : Fin 512, term (hidden m c t.val (lt_N t) r) (wIn m c) (wOut m c) d (512 * (t.val % 11) + f.val) := by
  refine (group_apply hs _ _ _ r d).trans (Finset.sum_congr rfl fun f _ => ?_)
  have hf : 512 * (t.val % 11) + f.val < 5632 := by omega
  unfold term
  rw [dif_pos hf, block4 m c t f d ⟨512 * (t.val % 11) + f.val, hf⟩ rfl]
  refine congrArg₂ (fun a b => act a b * _) ?_ ?_
  · exact Finset.sum_congr rfl fun k _ => by rw [hh k, block2 m c t k f ⟨512 * (t.val % 11) + f.val, by omega⟩ rfl]
  · exact Finset.sum_congr rfl fun k _ => by rw [hh k, block3 m c t k f ⟨5632 + (512 * (t.val % 11) + f.val), by omega⟩ rfl]

/-- A row after the hidden units of the groups up to the point's are added. -/
abbrev soFar (n : ℕ) (h : n < 176) (r : Fin 1024) : Fin 2048 → EReal :=
  upTo (row m c (rowOf n h r)) (gainRow m c) (wIn m c) (wOut m c) (512 * (n % 11 + 1))

/-- What the scratch and the output block hold after point `n`. -/
def Holds (n : ℕ) (h : n < 176) : Prop :=
  (∀ (r : Fin 1024) (k : Fin 2048), (outsAt0 m c n h).2 (ix2 r k) = hidden m c n h r k)
  ∧ (n % 11 ≠ 10 → ∀ (r : Fin 1024) (d : Fin 2048), (outsAt0 m c n h).1 (ix2 r d) = soFar m c n h r d)
  ∧ (n % 11 = 10 → ∀ (r : Fin 1024) (d : Fin 2048),
      (outsAt0 m c n h).1 (ix2 r d) = norm (soFar m c n h r) (gainPostRow m c) d)

theorem rowOf_pred (n : ℕ) (h : n < 176) (h0 : n % 11 ≠ 0) (r : Fin 1024) : rowOf (n - 1) (by omega) r = rowOf n h r :=
  Fin.ext (by show 1024 * ((n - 1) / 11) + r.val = 1024 * (n / 11) + r.val; rw [show (n - 1) / 11 = n / 11 by omega])

/-- What the body leaves at a point, by its place in the run of eleven. -/
theorem outs_first (h0 : t.val % 11 = 0) (h1 : ¬t.val % 11 = 10) : outsAt0 m c t.val t.isLt
    = (k0_pay1 (k0_pay4 (iblk m c 0 t)) (group (k0_pay3 (iblk m c 0 t) (iblk m c 1 t)) (iblk m c 2 t) (iblk m c 3 t) (iblk m c 4 t)),
      k0_pay3 (iblk m c 0 t) (iblk m c 1 t)) := by
  rw [outsAt0_A m c t h0 h1, out_first, scratch_first]

/-- What the point before left. -/
abbrev before : Vec Ideal S1024x2048 .f32 × Vec Ideal S1024x2048 .bf16 :=
  outsAt0 m c (t.val - 1) (Nat.lt_of_le_of_lt (Nat.sub_le _ _) t.isLt)

theorem outs_middle (h0 : ¬t.val % 11 = 0) (h1 : ¬t.val % 11 = 10) : outsAt0 m c t.val t.isLt
    = (k0_pay1 (k0_pay4 (before m c t).1) (group (before m c t).2 (iblk m c 2 t) (iblk m c 3 t) (iblk m c 4 t)), (before m c t).2) := by
  rw [outsAt0_B m c t h0 h1, out_middle]
  rfl

theorem outs_last (h0 : ¬t.val % 11 = 0) (h1 : t.val % 11 = 10) : outsAt0 m c t.val t.isLt
    = (k0_pay2 (k0_pay1 (k0_pay4 (before m c t).1) (group (before m c t).2 (iblk m c 2 t) (iblk m c 3 t) (iblk m c 4 t)))
        (iblk m c 5 t), (before m c t).2) := by
  rw [outsAt0_C m c t h0 h1, out_last]
  rfl

/-- At a first group. -/
theorem first (h0 : t.val % 11 = 0) : Holds m c t.val (lt_N t) := by
  have h1 : ¬t.val % 11 = 10 := by omega
  have e := outs_first m c t h0 h1
  have es : ∀ (r : Fin 1024) (k : Fin 2048), k0_pay3 (iblk m c 0 t) (iblk m c 1 t) (ix2 r k) = hidden m c t.val (lt_N t) r k := by
    intro r k
    refine (pay3_apply _ _ r k).trans ?_
    rw [show (fun k => iblk m c 0 t (ix2 r k)) = row m c (rowOf t.val (lt_N t) r) from funext fun k => block0 m c t r k,
      show (fun k => iblk m c 1 t (ix2 0 k)) = gainRow m c from funext fun k => block1 m c t k]
  refine ⟨fun r k => ?_, fun _ r d => ?_, fun h => absurd h h1⟩
  · refine (congrFun (congrArg Prod.snd e) (ix2 r k)).trans (es r k)
  · refine (congrFun (congrArg Prod.fst e) (ix2 r d)).trans ((add_apply _ _ r d).trans ?_)
    rw [group_terms m c t _ r d (es r), block0 m c t r d, ← upTo_zero (row m c (rowOf t.val (lt_N t) r)) (gainRow m c) (wIn m c) (wOut m c) d]
    show upTo _ _ _ _ 0 d + _ = upTo _ _ _ _ (512 * (t.val % 11 + 1)) d
    rw [h0]
    exact upTo_add ..

/-- At a later group, before any closing norm. -/
theorem later (h0 : t.val % 11 ≠ 0) (ih : Holds m c (t.val - 1) (by have := lt_N t; omega)) (r : Fin 1024) (d : Fin 2048) :
    k0_pay1 (k0_pay4 (before m c t).1)
      (group (before m c t).2 (iblk m c 2 t) (iblk m c 3 t) (iblk m c 4 t))
      (ix2 r d) = soFar m c t.val (lt_N t) r d := by
  have hp := rowOf_pred t.val (lt_N t) h0 r
  refine (add_apply _ _ r d).trans ?_
  rw [group_terms m c t _ r d (fun k => (ih.1 r k).trans (by unfold hidden; rw [hp])), ih.2.1 (by omega) r d]
  show upTo _ _ _ _ (512 * ((t.val - 1) % 11 + 1)) d + _ = upTo _ _ _ _ (512 * (t.val % 11 + 1)) d
  rw [hp, show (t.val - 1) % 11 + 1 = t.val % 11 by omega]
  exact upTo_add ..

/-- At every point. -/
theorem holds : ∀ (n : ℕ) (h : n < 176), Holds m c n h := by
  intro n
  induction n with
  | zero => exact fun h => first m c ⟨0, h⟩ rfl
  | succ n ih =>
    intro h
    by_cases h0 : (n + 1) % 11 = 0
    · exact first m c ⟨n + 1, h⟩ h0
    have ih' := ih (by omega)
    have lt := later m c ⟨n + 1, h⟩ h0 ih'
    have hs : ∀ (r : Fin 1024) (k : Fin 2048), (outsAt0 m c n (by omega : n < 176)).2 (ix2 r k) = hidden m c (n + 1) h r k :=
      fun r k => (ih'.1 r k).trans (by unfold hidden; rw [← rowOf_pred (n + 1) h h0 r]; rfl)
    by_cases h1 : (n + 1) % 11 = 10
    · have e := outs_last m c ⟨n + 1, h⟩ h0 h1
      refine ⟨fun r k => (congrFun (congrArg Prod.snd e) (ix2 r k)).trans (hs r k), fun h => absurd h1 h, fun _ r d => ?_⟩
      refine (congrFun (congrArg Prod.fst e) (ix2 r d)).trans ((pay2_apply _ _ r d).trans ?_)
      refine congrArg₂ (fun x g => norm x g d) (funext fun k => lt r k) (funext fun k => block5 m c ⟨n + 1, h⟩ k)
    · have e := outs_middle m c ⟨n + 1, h⟩ h0 h1
      refine ⟨fun r k => (congrFun (congrArg Prod.snd e) (ix2 r k)).trans (hs r k), fun _ r d => ?_, fun h => absurd h h1⟩
      exact (congrFun (congrArg Prod.fst e) (ix2 r d)).trans (lt r d)

/-- The row the closing feed-forward leaves. -/
def closing (a : Fin 16384) : Fin 2048 → EReal :=
  norm (upTo (row m c a) (gainRow m c) (wIn m c) (wOut m c) 5632) (gainPostRow m c)

/-- The array after the run, at a row and a column. -/
theorem array_apply (a : Fin 16384) (d : Fin 2048) : (dats m 0 c).arrAt 6 cfg0.N (ix2 a d) = closing m c a d := by
  have hp : pt6Of (ix2 a d) = 11 * (a.val / 1024) + 10 := by
    show 11 * (1 * (a.val / 1024 - 0) + 1 * (d.val / 2048 - 0)) + 10 = _
    omega
  have hN : pt6Of (ix2 a d) < cfg0.N := by rw [hp]; show _ < 176; omega
  have hr : rowOf (pt6Of (ix2 a d)) hN (⟨a.val % 1024, Nat.mod_lt _ (by decide)⟩ : Fin 1024) = a :=
    Fin.ext (by show 1024 * (pt6Of (ix2 a d) / 11) + a.val % 1024 = a.val; rw [hp]; omega)
  have hl : loc6Of (ix2 a d) = ix2 (⟨a.val % 1024, Nat.mod_lt _ (by decide)⟩ : Fin 1024) d := funext fun b => Fin.ext (by
    match b with
    | ⟨0, _⟩ => rfl
    | ⟨1, _⟩ => show d.val % 2048 = d.val; omega)
  rw [final6]
  unfold G6
  rw [dif_pos hN, ← outsAt0_sweep m c _ hN, hl, (holds m c _ hN).2.2 (by rw [hp]; omega)]
  unfold closing soFar
  rw [hr, show pt6Of (ix2 a d) % 11 = 10 by rw [hp]; omega]

end Cert.ClosingArray

end
-- ==== Proof.FfnReference.lean ====
/-
What the references of the feed-forward compute at a row and a column: the row after all its hidden units, and the norm
of that row.
-/
module

public import proofs.«01_k».proof.Proof.FfnRow
public import proofs.«01_k».proof.Proof.Gen.Reference2Ideal.Read
public import Idealize.ShloMosaic.Lib.Pipeline.Value
public import Idealize.ShloMosaic.Lib.Pointwise

@[expose] public section

set_option maxRecDepth 16384

noncomputable section

namespace Cert.FfnReference

open Idealize.ShloMosaic hiding ix1 ix2 ix3 eq_ix2 eq_ix3
open Idealize.ShloMosaic.ValueIdx
open Cert.Reference2Ideal Cert.Reference2Ideal.Read Cert.FfnRow

theorem one_word : Ideal.ofBits .f32 0x3F800000#32 = 1 := by
  simp [Ideal.ofBits, Ideal.ieee, -EReal.coe_mul]; norm_num

variable (x : FVec Ideal (Sh 16384 2048) .f32) (g : FVec Ideal (Sh 1 2048) .f32) (w : FVec Ideal (Sh 2048 11264) .bf16)
  (v : FVec Ideal (Sh 5632 2048) .bf16) (gp : FVec Ideal (Sh 1 2048) .f32)

/-- A row of an array. -/
def rowAt (y : FVec Ideal (Sh 16384 2048) .f32) (a : Fin 16384) (k : Fin 2048) : EReal := y (ix2 a k)
def gainAt (y : FVec Ideal (Sh 1 2048) .f32) (k : Fin 2048) : EReal := y (ix2 0 k)

/-- An index is known by its two coordinates. -/
theorem pair_ext {p q : ℕ} (i : (Sh p q).Idx) (a : Fin p) (b : Fin q) (h0 : (i 0).val = a.val) (h1 : (i 1).val = b.val) :
    i = ix2 a b := funext fun e => Fin.ext (by
  match e with
  | ⟨0, _⟩ => exact h0
  | ⟨1, _⟩ => exact h1)

theorem normed_row (a : Fin 16384) (d : Fin 2048) : val_main_v11 (F := Ideal) x g (ix2 a d) = norm (rowAt x a) (gainAt g) d := by
  rw [val_main_v11_apply, val_main_v9_apply, val_main_v10_apply, val_main_v8_apply, val_main_v7_apply, val_main_v6_apply,
    val_main_v4_apply, val_main_v5_apply, val_main_v3_apply, val_main_v2_apply, val_main_v1_apply, val_main_cst_apply,
    val_main_cst_0_apply, val_main_cst_1_apply]
  simp only [val_main_v0_apply]
  have e : ∀ k, idx_main_v1 (idx_main_v2 (idx_main_v8 (ix2 a d))) k = ix2 a k := fun k => pair_ext _ a k rfl rfl
  have eg : idx_main_v10 (ix2 a d) = ix2 0 d := pair_ext _ 0 d rfl rfl
  simp only [e, eg]
  show x (ix2 a d) * Ideal.rsqrt (Ideal.div (Ideal.ofBits .f32 0x00000000#32 + ∑ k : Fin 2048, rowAt x a k * rowAt x a k)
    (Ideal.ofBits .f32 0x45000000#32) + Ideal.ofBits .f32 0x358637BD#32) * g (ix2 0 d) = _
  rw [Ideal.ofBits_zero_f32, zero_add]
  rfl

theorem product (a : Fin 16384) (f : Fin 11264) : val_main_v14 (F := Ideal) x g w (ix2 a f)
    = ∑ k : Fin 2048, norm (rowAt x a) (gainAt g) k * w (ix2 k f) := by
  rw [val_main_v14_apply]
  refine Finset.sum_congr rfl fun k _ => ?_
  have el : lidx_main_v14 (ix2 a f) k = ix2 a k := pair_ext _ a k rfl rfl
  have er : ridx_main_v14 (ix2 a f) k = ix2 k f := pair_ext _ k f rfl rfl
  rw [← normed_row x g a k, val_main_v12_apply, el, er]
  rfl

/-- One hidden unit of a row. -/
theorem unit_apply (a : Fin 16384) (f : Fin 5632) : val_main_v18 (F := Ideal) x g w (ix2 a f)
    = (∑ k : Fin 2048, norm (rowAt x a) (gainAt g) k * w (ix2 k (⟨f.val, by omega⟩ : Fin 11264)))
      * Ideal.logistic (∑ k : Fin 2048, norm (rowAt x a) (gainAt g) k * w (ix2 k (⟨f.val, by omega⟩ : Fin 11264)))
      * ∑ k : Fin 2048, norm (rowAt x a) (gainAt g) k * w (ix2 k (⟨5632 + f.val, by omega⟩ : Fin 11264)) := by
  have e1 : val_main_v15 (F := Ideal) x g w (ix2 a f) = val_main_v14 (F := Ideal) x g w (ix2 a (⟨f.val, by omega⟩ : Fin 11264)) := by
    rw [val_main_v15_apply]
    refine congrArg _ (funext fun b => Fin.ext ?_)
    match b with
    | ⟨0, _⟩ => first | rfl | (show 0 + 1 * a.val = a.val; omega)
    | ⟨1, _⟩ => first | rfl | (show 0 + 1 * f.val = f.val; omega)
  have e2 : val_main_v16 (F := Ideal) x g w (ix2 a f) = val_main_v14 (F := Ideal) x g w (ix2 a (⟨5632 + f.val, by omega⟩ : Fin 11264)) := by
    rw [val_main_v16_apply]
    refine congrArg _ (funext fun b => Fin.ext ?_)
    match b with
    | ⟨0, _⟩ => first | rfl | (show 0 + 1 * a.val = a.val; omega)
    | ⟨1, _⟩ => first | rfl | (show 5632 + 1 * f.val = 5632 + f.val; omega) | (show f.val + 5632 = 5632 + f.val; omega)
  rw [val_main_v18_apply, val_main_v17_apply, val_main_call0_v5_apply, val_main_call0_v4_apply, val_main_call0_v3_apply,
    val_main_call0_v2_apply, val_main_call0_v1_apply, val_main_call0_v0_apply, val_main_call0_cst_apply, val_main_call0_cst_0_apply,
    e1, e2, product, product]
  show _ * Ideal.div (Ideal.ofBits .f32 0x3F800000#32) (Ideal.ofBits .f32 0x3F800000#32 + Ideal.exp (-_)) * _ = _
  rw [one_word]
  rfl

/-- The row after all its hidden units. -/
theorem fed_row (a : Fin 16384) (d : Fin 2048) : val_main_v22 (F := Ideal) x g w v (ix2 a d)
    = upTo (rowAt x a) (gainAt g) w v 5632 d := by
  rw [← upTo_all, val_main_v22_apply, val_main_v21_apply, val_main_v20_apply, val_main_cst_2_apply, val_main_v19_apply]
  refine congrArg (fun s => x (ix2 a d) + half * s) (Finset.sum_congr rfl fun f _ => ?_)
  have el : lidx_main_v19 (ix2 a d) f = ix2 a f := pair_ext _ a f rfl rfl
  have er : ridx_main_v19 (ix2 a d) f = ix2 f d := pair_ext _ f d rfl rfl
  rw [← unit_apply, val_main_v13_apply, el, er]
  rfl

/-- The norm of the row after all its hidden units. -/
theorem closing_row (a : Fin 16384) (d : Fin 2048) : val_main_v34 (F := Ideal) x g w v gp (ix2 a d)
    = norm (upTo (rowAt x a) (gainAt g) w v 5632) (gainAt gp) d := by
  have e : upTo (rowAt x a) (gainAt g) w v 5632 = rowAt (val_main_v22 (F := Ideal) x g w v) a := funext fun k => (fed_row x g w v a k).symm
  rw [e, ← normed_row]
  rfl

end Cert.FfnReference

end
-- ==== Proof.ClosingClaim.lean ====
/-
The closing feed-forward and its reference end with the same array.
-/
module

public import proofs.«01_k».proof.Defs
public import proofs.«01_k».proof.Proof.ClosingArray
public import proofs.«01_k».proof.Proof.FfnReference
public import proofs.«01_k».proof.Proof.Gen.Reference2Ideal.Run

@[expose] public section

set_option maxRecDepth 16384

noncomputable section

namespace Cert.ClosingClaim

open Idealize.ShloMosaic hiding ix1 ix2 ix3 eq_ix2 eq_ix3
open Idealize.ShloMosaic.ValueIdx Idealize.SL.Sem Cert.FfnRow

/-- The array of the closing feed-forward, from its five arguments. -/
def result (x : FVec Ideal (Sh 16384 2048) .f32) (g : FVec Ideal (Sh 1 2048) .f32) (w : FVec Ideal (Sh 2048 11264) .bf16)
    (v : FVec Ideal (Sh 5632 2048) .bf16) (gp : FVec Ideal (Sh 1 2048) .f32) : FVec Ideal (Sh 16384 2048) .f32 :=
  fun i => norm (upTo (FfnReference.rowAt x (i 0)) (FfnReference.gainAt g) w v 5632) (FfnReference.gainAt gp) (i 1)

section

open Cert.Kernel2Ideal Cert.Kernel2Ideal.Gen

variable (m : (ℓ : Loc nD τ sig) → Buf (Elt Ideal) ℓ) (c : Dev nD)

theorem kernel_eq : (dats m 0 c).arrAt 6 cfg0.N
    = result (ClosingArray.rows m c) (ClosingArray.gain m c) (ClosingArray.wIn m c) (ClosingArray.wOut m c) (ClosingArray.gainPost m c) := by
  funext i
  have e : i = ix2 (i 0) (i 1) := FfnReference.pair_ext i (i 0) (i 1) rfl rfl
  exact (congrArg ((dats m 0 c).arrAt 6 cfg0.N) e).trans (ClosingArray.array_apply m c (i 0) (i 1))

end

theorem reference_eq (x : FVec Ideal (Sh 16384 2048) .f32) (g : FVec Ideal (Sh 1 2048) .f32) (w : FVec Ideal (Sh 2048 11264) .bf16)
    (v : FVec Ideal (Sh 5632 2048) .bf16) (gp : FVec Ideal (Sh 1 2048) .f32) :
    Cert.Reference2Ideal.Read.val_main_v34 (F := Ideal) x g w v gp = result x g w v gp := by
  funext i
  have e : i = ix2 (i 0) (i 1) := FfnReference.pair_ext i (i 0) (i 1) rfl rfl
  exact (congrArg (Cert.Reference2Ideal.Read.val_main_v34 (F := Ideal) x g w v gp) e).trans
    (FfnReference.closing_row x g w v gp (i 0) (i 1))

/-- From memories that agree on the arguments, both programs end with the same array. -/
theorem algebraic : Cert.algebraic_Kernel2Ideal_Reference2Ideal := by
  intro m ρ m' ρ' _ hag
  refine ⟨fun c => result (ClosingArray.rows m c) (ClosingArray.gain m c) (ClosingArray.wIn m c) (ClosingArray.wOut m c)
    (ClosingArray.gainPost m c), ?_, ?_⟩
  · refine (θ_run _ _ _).mono (fun _ h c => ?_) (Cert.Kernel2Ideal.Value.run_blocks (F := Ideal) m ρ)
    obtain ⟨h0, ha⟩ := h c
    exact ⟨h0.trans (kernel_eq m c), ha⟩
  · refine (θ_run _ _ _).mono (fun _ h c => ?_) (Cert.Reference2Ideal.Value.run (F := Ideal) m' ρ')
    obtain ⟨h0, ha⟩ := h c
    obtain ⟨g0, g1, g2, g3, g4⟩ := hag c
    refine ⟨?_, ha⟩
    refine h0.trans ((Cert.Reference2Ideal.Read.val_main_v34_eq (F := Ideal) _ c).trans ?_)
    simp only [StableHlo.launchContents_devRef]
    rw [g0, g1, g2, g3, g4]
    exact reference_eq _ _ _ _ _

end Cert.ClosingClaim

end
-- ==== Proof.OpeningBody.lean ====
/-
What one run of the opening feed-forward's body leaves in its output block and in the scratch that holds the normalised
rows, at the first group of hidden units and at a later one; and the three blocks of weights it rounds and copies.
-/
module

public import proofs.«01_k».proof.Proof.FfnTile
public import proofs.«01_k».proof.Proof.Gen.Kernel3Ideal.Value
public import Idealize.ShloMosaic.Lib.Pipeline.Value
public import Idealize.ShloMosaic.Lib.Tactic

@[expose] public section

set_option maxRecDepth 16384

noncomputable section

namespace Cert.OpeningBody

open Idealize.ShloMosaic hiding ix1 ix2 ix3 eq_ix2 eq_ix3
open Idealize.ShloMosaic.ValueIdx Idealize.ShloMosaic.TcCoe
open Cert.Kernel3Ideal Cert.Kernel3Ideal.Gen

theorem hz : (![0, 0] : Fin 2 → Nat) = fun _ => 0 := funext fun a => by fin_cases a <;> rfl

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S1x2048 .f32) (harg7 : arg7.IsWhole)
  (arg8 : Memref sig .tc .vmem S16x11264 .f32) (harg8 : arg8.IsWhole)
  (arg9 : Memref sig .tc .vmem S32x2048 .f32) (harg9 : arg9.IsWhole)
  (arg10 : Memref sig .tc .vmem S16x11264 .f32) (harg10 : arg10.IsWhole)
  (arg11 : Memref sig .tc .vmem S1024x2048 .f32) (harg11 : arg11.IsWhole)
  (arg12 : Memref sig .tc .vmem S16x11264 .bf16) (harg12 : arg12.IsWhole)
  (arg13 : Memref sig .tc .vmem S32x2048 .bf16) (harg13 : arg13.IsWhole)
  (arg14 : Memref sig .tc .vmem S16x11264 .bf16) (harg14 : arg14.IsWhole)
  (arg15 : Memref sig .tc .vmem S1024x2048 .bf16) (harg15 : arg15.IsWhole)
  (x0 : Vec Ideal S1024x2048 .f32) (x1 : Vec Ideal S1x2048 .f32) (x2 x3 : Vec Ideal S2048x512 .bf16)
  (x4 : Vec Ideal S512x2048 .bf16) (x5 : Vec Ideal S1x2048 .f32) (x6 : Vec Ideal S16x11264 .f32)
  (x7 : Vec Ideal S32x2048 .f32) (x8 : Vec Ideal S16x11264 .f32) (xo : Vec Ideal S1024x2048 .f32)
  (xs : Vec Ideal S1024x2048 .bf16)

/-- At the first group the scratch is left holding the normalised rows. -/
theorem scratch_first (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = k0_pay5 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz]
  simp only [View.readAt_eq_ld, harg2.read_unread, harg3.read_unread, View.ld_unit_zero (S := S1024x2048) hz, View.ld_unit_zero (S := S1x2048) hz]

/-- At the first group the output block is left holding the input rows plus what the group adds. -/
theorem out_first (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = k0_pay1 (k0_pay6 (k0_pay5 x0 x1) x2 x3 x4) x0 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S1024x2048) hz]
  simp only [View.readCov_unit_zero (S := S1024x2048) _ hz, View.readAt_eq_ld, harg2.read_unread, harg3.read_unread, harg4.read_unread, harg5.read_unread, harg6.read_unread,
    View.ld_unit_zero (S := S1024x2048) hz, View.ld_unit_zero (S := S1x2048) hz, View.ld_unit_zero (S := S2048x512) hz,
    View.ld_unit_zero (S := S512x2048) hz]

/-- At a later group the output block is left holding what it held plus what the group adds. -/
theorem out_later (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs
      = k0_pay1 (k0_pay6 xs x2 x3 x4) xo := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs)]
  unfold kernelRun0_B
  dsimp only
  sl_unfold_words
  rw [View.canon_unit_zero hz]
  simp only [View.readAt_eq_ld, harg15.read_unread, harg11.read_unread, harg4.read_unread, harg5.read_unread, harg6.read_unread,
    View.ld_unit_zero (S := S1024x2048) hz, View.ld_unit_zero (S := S2048x512) hz,
    View.ld_unit_zero (S := S512x2048) hz]

/-! The three blocks of weights are left copied: rounding a value is that value at exact numbers. -/

theorem copy10_first (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz]
  simp only [View.readAt_eq_ld, harg8.read_unread, View.ld_unit_zero (S := S16x11264) hz]
  rfl

theorem copy10_later (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs = x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs)]
  unfold kernelRun0_B
  dsimp only
  sl_unfold_words
  rw [View.canon_unit_zero hz]
  simp only [View.readAt_eq_ld, harg8.read_unread, View.ld_unit_zero (S := S16x11264) hz]
  rfl

theorem copy11_first (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = x7 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz]
  simp only [View.readAt_eq_ld, harg9.read_unread, View.ld_unit_zero (S := S32x2048) hz]
  rfl

theorem copy11_later (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs = x7 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs)]
  unfold kernelRun0_B
  dsimp only
  sl_unfold_words
  rw [View.canon_unit_zero hz]
  simp only [View.readAt_eq_ld, harg9.read_unread, View.ld_unit_zero (S := S32x2048) hz]
  rfl

theorem copy12_first (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = x8 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz]
  simp only [View.readAt_eq_ld, harg10.read_unread, View.ld_unit_zero (S := S16x11264) hz]
  rfl

theorem copy12_later (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs = x8 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo xs)]
  unfold kernelRun0_B
  dsimp only
  sl_unfold_words
  rw [View.canon_unit_zero hz]
  simp only [View.readAt_eq_ld, harg10.read_unread, View.ld_unit_zero (S := S16x11264) hz]
  rfl

end Cert.OpeningBody

end
-- ==== Proof.OpeningArray.lean ====
/-
What the opening feed-forward's arrays hold after the run: every row is the input row plus all its hidden units, and the
three arrays of weights are copied.  The rows by induction over the grid's points, each of which adds 512 hidden units
to 1024 rows.
-/
module

public import proofs.«01_k».proof.Proof.OpeningBody
public import Idealize.ShloMosaic.Lib.Pipeline.ValueKit.Tiles
public import Idealize.ShloMosaic.Lib.Pipeline.ValueKit.Geometry

@[expose] public section

set_option maxRecDepth 16384

noncomputable section

namespace Cert.OpeningArray

open Idealize.ShloMosaic hiding ix1 ix2 ix3 eq_ix2 eq_ix3
open Idealize.ShloMosaic.ValueIdx Idealize.ShloMosaic.TcCoe
open Cert.Kernel3Ideal Cert.Kernel3Ideal.Gen Cert.Kernel3Ideal.Value Cert.OpeningBody Cert.FfnRow Cert.FfnTile
open Idealize.ShloMosaic.Pipeline (Dat Cfg Window)

/-! ## The stored vectors at an index -/

theorem norm_apply (x : Vec Ideal S1024x2048 .f32) (g : Vec Ideal S1x2048 .f32) (i : Fin 1024) (d : Fin 2048) :
    k0_pay5 x g (ix2 i d) = norm (fun k => x (ix2 i k)) (fun k => g (ix2 0 k)) d := by
  refine Eq.trans ?_ (normed_apply (m := 1024) (by decide) x g reduces_S1024x2048_S1024 shapeCasts_S1024_S1024x1
    broadcasts_S1024x1_S1024x2048 broadcasts_S1x2048_S1024x2048 i d)
  unfold k0_pay5
  simp only [shapeCast_self]
  rfl

theorem add_apply (y x : Vec Ideal S1024x2048 .f32) (i : Fin 1024) (d : Fin 2048) :
    k0_pay1 y x (ix2 i d) = x (ix2 i d) + y (ix2 i d) := by
  unfold k0_pay1
  rw [shapeCast_self]
  rfl

theorem group_eq (h : Vec Ideal S1024x2048 .bf16) (a b : Vec Ideal S2048x512 .bf16) (w : Vec Ideal S512x2048 .bf16) :
    k0_pay6 h a b w = adds (m := 1024) (n := 512) bitsLt_bf16_f32 h a b w := rfl

/-! ## The arrays the kernel is given -/

variable (m : (ℓ : Loc nD τ sig) → Buf (Elt Ideal) ℓ) (c : Dev nD)

def rows : FVec Ideal (Sh 16384 2048) .f32 := m ((c : Thread nD τ).loc main_arg0)
def gain : FVec Ideal (Sh 1 2048) .f32 := m ((c : Thread nD τ).loc main_arg1)
def wIn : FVec Ideal (Sh 2048 11264) .bf16 := m ((c : Thread nD τ).loc main_arg2)
def wOut : FVec Ideal (Sh 5632 2048) .bf16 := m ((c : Thread nD τ).loc main_arg3)

/-- One input row, and the gain as a row. -/
def row (a : Fin 16384) (k : Fin 2048) : EReal := rows m c (ix2 a k)
def gainRow (k : Fin 2048) : EReal := gain m c (ix2 0 k)

/-- The input row that row `r` of the block of grid point `n` is. -/
def rowOf (n : ℕ) (h : n < 176) (r : Fin 1024) : Fin 16384 := ⟨1024 * (n / 11) + r.val, by omega⟩

variable (t : Fin cfg0.N)

theorem lt_N : t.val < 176 := t.isLt

theorem block0 (r : Fin 1024) (k : Fin 2048) : iblk m c 0 t (ix2 r k) = row m c (rowOf t.val (lt_N t) r) k := by
  have hi : win0_0.index t 0 = t.val / 11 ∧ win0_0.index t 1 = 0 :=
    (by decide +kernel : ∀ t : Fin grid0.N, win0_0.index t 0 = t.val / 11 ∧ win0_0.index t 1 = 0) t
  unfold iblk row rows
  rw [← V_main_arg0 m c]
  refine congrArg (V m c main_arg0) (funext fun b => Fin.ext ?_)
  match b with
  | ⟨0, _⟩ => show win0_0.index t 0 * 1024 + 1 * r.val = 1024 * (t.val / 11) + r.val; rw [hi.1]; omega
  | ⟨1, _⟩ => show win0_0.index t 1 * 2048 + 1 * k.val = k.val; rw [hi.2]; omega

theorem block1 (k : Fin 2048) : iblk m c 1 t (ix2 0 k) = gainRow m c k := by
  have hi : win0_1.index t 0 = 0 ∧ win0_1.index t 1 = 0 :=
    (by decide +kernel : ∀ t : Fin grid0.N, win0_1.index t 0 = 0 ∧ win0_1.index t 1 = 0) t
  unfold iblk gainRow gain
  rw [← V_main_arg1 m c]
  refine congrArg (V m c main_arg1) (funext fun b => Fin.ext ?_)
  match b with
  | ⟨0, _⟩ => show win0_1.index t 0 * 1 + 1 * 0 = 0; rw [hi.1]
  | ⟨1, _⟩ => show win0_1.index t 1 * 2048 + 1 * k.val = k.val; rw [hi.2]; omega

theorem block2 (k : Fin 2048) (f : Fin 512) (i : Fin 11264) (h : i.val = 512 * (t.val % 11) + f.val) :
    iblk m c 2 t (ix2 k f) = wIn m c (ix2 k i) := by
  have hi : win0_2.index t 0 = 0 ∧ win0_2.index t 1 = t.val % 11 :=
    (by decide +kernel : ∀ t : Fin grid0.N, win0_2.index t 0 = 0 ∧ win0_2.index t 1 = t.val % 11) t
  unfold iblk wIn
  rw [← V_main_arg2 m c]
  refine congrArg (V m c main_arg2) (funext fun b => Fin.ext ?_)
  match b with
  | ⟨0, _⟩ => show win0_2.index t 0 * 2048 + 1 * k.val = k.val; rw [hi.1]; omega
  | ⟨1, _⟩ => show win0_2.index t 1 * 512 + 1 * f.val = i.val; rw [hi.2]; omega

theorem block3 (k : Fin 2048) (f : Fin 512) (i : Fin 11264) (h : i.val = 5632 + (512 * (t.val % 11) + f.val)) :
    iblk m c 3 t (ix2 k f) = wIn m c (ix2 k i) := by
  have hi : win0_3.index t 0 = 0 ∧ win0_3.index t 1 = t.val % 11 + 11 :=
    (by decide +kernel : ∀ t : Fin grid0.N, win0_3.index t 0 = 0 ∧ win0_3.index t 1 = t.val % 11 + 11) t
  unfold iblk wIn
  rw [← V_main_arg2 m c]
  refine congrArg (V m c main_arg2) (funext fun b => Fin.ext ?_)
  match b with
  | ⟨0, _⟩ => show win0_3.index t 0 * 2048 + 1 * k.val = k.val; rw [hi.1]; omega
  | ⟨1, _⟩ => show win0_3.index t 1 * 512 + 1 * f.val = i.val; rw [hi.2]; omega

theorem block4 (f : Fin 512) (d : Fin 2048) (i : Fin 5632) (h : i.val = 512 * (t.val % 11) + f.val) :
    iblk m c 4 t (ix2 f d) = wOut m c (ix2 i d) := by
  have hi : win0_4.index t 0 = t.val % 11 ∧ win0_4.index t 1 = 0 :=
    (by decide +kernel : ∀ t : Fin grid0.N, win0_4.index t 0 = t.val % 11 ∧ win0_4.index t 1 = 0) t
  unfold iblk wOut
  rw [← V_main_arg3 m c]
  refine congrArg (V m c main_arg3) (funext fun b => Fin.ext ?_)
  match b with
  | ⟨0, _⟩ => show win0_4.index t 0 * 512 + 1 * f.val = i.val; rw [hi.1]; omega
  | ⟨1, _⟩ => show win0_4.index t 1 * 2048 + 1 * d.val = d.val; rw [hi.2]; omega

/-! ## The rows, point by point -/

/-- The normalised row that row `r` of the block of point `n` has. -/
abbrev hidden (n : ℕ) (h : n < 176) (r : Fin 1024) : Fin 2048 → EReal := norm (row m c (rowOf n h r)) (gainRow m c)

/-- What the point's group of hidden units adds to column `d` of row `r`, given the normalised rows. -/
theorem group_terms (hs : Vec Ideal S1024x2048 .bf16) (r : Fin 1024) (d : Fin 2048)
    (hh : ∀ k, hs (ix2 r k) = hidden m c t.val (lt_N t) r k) :
    k0_pay6 hs (iblk m c 2 t) (iblk m c 3 t) (iblk m c 4 t) (ix2 r d)
      = ∑ f : Fin 512, term (hidden m c t.val (lt_N t) r) (wIn m c) (wOut m c) d (512 * (t.val % 11) + f.val) := by
  rw [group_eq]
  refine (adds_apply (m := 1024) (n := 512) bitsLt_bf16_f32 hs _ _ _ r d).trans (Finset.sum_congr rfl fun f _ => ?_)
  have hf : 512 * (t.val % 11) + f.val < 5632 := by omega
  unfold term
  rw [dif_pos hf, block4 m c t f d ⟨512 * (t.val % 11) + f.val, hf⟩ rfl]
  refine congrArg₂ (fun a b => act a b * _) ?_ ?_
  · exact Finset.sum_congr rfl fun k _ => by rw [hh k, block2 m c t k f ⟨512 * (t.val % 11) + f.val, by omega⟩ rfl]
  · exact Finset.sum_congr rfl fun k _ => by rw [hh k, block3 m c t k f ⟨5632 + (512 * (t.val % 11) + f.val), by omega⟩ rfl]

/-- A row after the hidden units of the groups up to the point's are added. -/
abbrev soFar (n : ℕ) (h : n < 176) (r : Fin 1024) : Fin 2048 → EReal :=
  upTo (row m c (rowOf n h r)) (gainRow m c) (wIn m c) (wOut m c) (512 * (n % 11 + 1))

/-- What the scratch and the output block hold after point `n`. -/
def Holds (n : ℕ) (h : n < 176) : Prop :=
  (∀ (r : Fin 1024) (k : Fin 2048), (outsAt0 m c n h).2.2.2.2 (ix2 r k) = hidden m c n h r k)
  ∧ ∀ (r : Fin 1024) (d : Fin 2048), (outsAt0 m c n h).1 (ix2 r d) = soFar m c n h r d

theorem rowOf_pred (n : ℕ) (h : n < 176) (h0 : n % 11 ≠ 0) (r : Fin 1024) : rowOf (n - 1) (by omega) r = rowOf n h r :=
  Fin.ext (by show 1024 * ((n - 1) / 11) + r.val = 1024 * (n / 11) + r.val; rw [show (n - 1) / 11 = n / 11 by omega])

/-- What the body leaves at the first point of a run of eleven. -/
theorem outs_first (h0 : t.val % 11 = 0) : outsAt0 m c t.val t.isLt
    = (k0_pay1 (k0_pay6 (k0_pay5 (iblk m c 0 t) (iblk m c 1 t)) (iblk m c 2 t) (iblk m c 3 t) (iblk m c 4 t)) (iblk m c 0 t),
      iblk m c 6 t, iblk m c 7 t, iblk m c 8 t, k0_pay5 (iblk m c 0 t) (iblk m c 1 t)) := by
  rw [outsAt0_A m c t h0, out_first, scratch_first, copy10_first, copy11_first, copy12_first]

/-- What the point before left. -/
abbrev before := outsAt0 m c (t.val - 1) (Nat.lt_of_le_of_lt (Nat.sub_le _ _) t.isLt)

/-- What the body leaves at a later point of a run. -/
theorem outs_later (h0 : ¬t.val % 11 = 0) : outsAt0 m c t.val t.isLt
    = (k0_pay1 (k0_pay6 (before m c t).2.2.2.2 (iblk m c 2 t) (iblk m c 3 t) (iblk m c 4 t)) (before m c t).1,
      iblk m c 6 t, iblk m c 7 t, iblk m c 8 t, (before m c t).2.2.2.2) := by
  rw [outsAt0_B m c t h0, out_later, copy10_later, copy11_later, copy12_later]
  rfl

/-- The three copied blocks, at every point. -/
theorem copied : (outsAt0 m c t.val t.isLt).2.1 = iblk m c 6 t ∧ (outsAt0 m c t.val t.isLt).2.2.1 = iblk m c 7 t
    ∧ (outsAt0 m c t.val t.isLt).2.2.2.1 = iblk m c 8 t := by
  by_cases h0 : t.val % 11 = 0
  · rw [outs_first m c t h0]; exact ⟨rfl, rfl, rfl⟩
  · rw [outs_later m c t h0]; exact ⟨rfl, rfl, rfl⟩

/-- At a first group. -/
theorem first (h0 : t.val % 11 = 0) : Holds m c t.val (lt_N t) := by
  have e := outs_first m c t h0
  have es : ∀ (r : Fin 1024) (k : Fin 2048), k0_pay5 (iblk m c 0 t) (iblk m c 1 t) (ix2 r k) = hidden m c t.val (lt_N t) r k := by
    intro r k
    refine (norm_apply _ _ r k).trans ?_
    rw [show (fun k => iblk m c 0 t (ix2 r k)) = row m c (rowOf t.val (lt_N t) r) from funext fun k => block0 m c t r k,
      show (fun k => iblk m c 1 t (ix2 0 k)) = gainRow m c from funext fun k => block1 m c t k]
  refine ⟨fun r k => ?_, fun r d => ?_⟩
  · refine (congrFun (congrArg (fun p => p.2.2.2.2) e) (ix2 r k)).trans (es r k)
  · refine (congrFun (congrArg (fun p => p.1) e) (ix2 r d)).trans ((add_apply _ _ r d).trans ?_)
    rw [group_terms m c t _ r d (es r), block0 m c t r d, ← upTo_zero (row m c (rowOf t.val (lt_N t) r)) (gainRow m c) (wIn m c) (wOut m c) d]
    show upTo _ _ _ _ 0 d + _ = upTo _ _ _ _ (512 * (t.val % 11 + 1)) d
    rw [h0]
    exact upTo_add ..

/-- At a later group. -/
theorem later (h0 : t.val % 11 ≠ 0) (ih : Holds m c (t.val - 1) (by have := lt_N t; omega)) : Holds m c t.val (lt_N t) := by
  have e := outs_later m c t h0
  have es : ∀ (r : Fin 1024) (k : Fin 2048), (before m c t).2.2.2.2 (ix2 r k) = hidden m c t.val (lt_N t) r k :=
    fun r k => (ih.1 r k).trans (by unfold hidden; rw [rowOf_pred t.val (lt_N t) h0 r])
  refine ⟨fun r k => (congrFun (congrArg (fun p => p.2.2.2.2) e) (ix2 r k)).trans (es r k), fun r d => ?_⟩
  refine (congrFun (congrArg (fun p => p.1) e) (ix2 r d)).trans ((add_apply _ _ r d).trans ?_)
  rw [group_terms m c t _ r d (es r), ih.2 r d]
  show upTo _ _ _ _ (512 * ((t.val - 1) % 11 + 1)) d + _ = upTo _ _ _ _ (512 * (t.val % 11 + 1)) d
  rw [rowOf_pred t.val (lt_N t) h0 r, show (t.val - 1) % 11 + 1 = t.val % 11 by omega]
  exact upTo_add ..

/-- At every point. -/
theorem holds : ∀ (n : ℕ) (h : n < 176), Holds m c n h := by
  intro n
  induction n with
  | zero => exact fun h => first m c ⟨0, h⟩ rfl
  | succ n ih =>
    intro h
    by_cases h0 : (n + 1) % 11 = 0
    · exact first m c ⟨n + 1, h⟩ h0
    · exact later m c ⟨n + 1, h⟩ h0 (ih (by omega))

/-! ## The arrays after the run -/

/-- The array of rows that the opening feed-forward leaves. -/
def opened : FVec Ideal (Sh 16384 2048) .f32 :=
  fun i => upTo (row m c (i 0)) (gainRow m c) (wIn m c) (wOut m c) 5632 (i 1)

theorem array9 : (dats m 0 c).arrAt 9 cfg0.N = opened m c := by
  refine (dats m 0 c).arrAt_eq_of_covers 9 _ (by decide +kernel) fun t hf y => ?_
  have h10 : t.val % 11 = 10 := (flush0_9 t).mp hf
  have hi : win0_9.index t 0 = t.val / 11 ∧ win0_9.index t 1 = 0 :=
    (by decide +kernel : ∀ t : Fin grid0.N, win0_9.index t 0 = t.val / 11 ∧ win0_9.index t 1 = 0) t
  have e : (y : S1024x2048.Idx) = ix2 (y 0) (y 1) := funext fun b => match b with | ⟨0, _⟩ => rfl | ⟨1, _⟩ => rfl
  rw [after0_9]
  refine (congrArg (outsAt0 m c t.val t.isLt).1 e).trans (((holds m c t.val (lt_N t)).2 (y 0) (y 1)).trans ?_)
  have h0 : ((((cfg0.win 9).blk t).view.emb y : S16384x2048.Idx) 0) = rowOf t.val (lt_N t) (y 0) := Fin.ext (by
    show win0_9.index t 0 * 1024 + 1 * (y 0).val = 1024 * (t.val / 11) + (y 0).val; rw [hi.1]; omega)
  have h1 : ((((cfg0.win 9).blk t).view.emb y : S16384x2048.Idx) 1) = y 1 := Fin.ext (by
    show win0_9.index t 1 * 2048 + 1 * (y 1).val = (y 1).val; rw [hi.2]; omega)
  unfold opened soFar
  rw [h0, h1, h10]

theorem array10 : (dats m 0 c).arrAt 10 cfg0.N = (m ((c : Thread nD τ).loc main_arg5) : FVec Ideal S2048x11264 .f32) := by
  refine (dats m 0 c).arrAt_eq_of_covers 10 _ (by decide +kernel) fun t _ y => ?_
  have hi : win0_10.index t 0 = win0_6.index t 0 ∧ win0_10.index t 1 = win0_6.index t 1 :=
    (by decide +kernel : ∀ t : Fin grid0.N, win0_10.index t 0 = win0_6.index t 0 ∧ win0_10.index t 1 = win0_6.index t 1) t
  rw [after0_10, (copied m c t).1, ← V_main_arg5 m c]
  show iblk m c 6 t _ = _
  unfold iblk
  refine congrArg (V m c main_arg5) (funext fun d => Fin.ext ?_)
  match d with
  | ⟨0, _⟩ => show win0_6.index t 0 * 16 + 1 * (y 0).val = win0_10.index t 0 * 16 + 1 * (y 0).val; rw [hi.1]
  | ⟨1, _⟩ => show win0_6.index t 1 * 11264 + 1 * (y 1).val = win0_10.index t 1 * 11264 + 1 * (y 1).val; rw [hi.2]

theorem array11 : (dats m 0 c).arrAt 11 cfg0.N = (m ((c : Thread nD τ).loc main_arg6) : FVec Ideal S5632x2048 .f32) := by
  refine (dats m 0 c).arrAt_eq_of_covers 11 _ (by decide +kernel) fun t _ y => ?_
  have hi : win0_11.index t 0 = win0_7.index t 0 ∧ win0_11.index t 1 = win0_7.index t 1 :=
    (by decide +kernel : ∀ t : Fin grid0.N, win0_11.index t 0 = win0_7.index t 0 ∧ win0_11.index t 1 = win0_7.index t 1) t
  rw [after0_11, (copied m c t).2.1, ← V_main_arg6 m c]
  show iblk m c 7 t _ = _
  unfold iblk
  refine congrArg (V m c main_arg6) (funext fun d => Fin.ext ?_)
  match d with
  | ⟨0, _⟩ => show win0_7.index t 0 * 32 + 1 * (y 0).val = win0_11.index t 0 * 32 + 1 * (y 0).val; rw [hi.1]
  | ⟨1, _⟩ => show win0_7.index t 1 * 2048 + 1 * (y 1).val = win0_11.index t 1 * 2048 + 1 * (y 1).val; rw [hi.2]

theorem array12 : (dats m 0 c).arrAt 12 cfg0.N = (m ((c : Thread nD τ).loc main_arg7) : FVec Ideal S2048x11264 .f32) := by
  refine (dats m 0 c).arrAt_eq_of_covers 12 _ (by decide +kernel) fun t _ y => ?_
  have hi : win0_12.index t 0 = win0_8.index t 0 ∧ win0_12.index t 1 = win0_8.index t 1 :=
    (by decide +kernel : ∀ t : Fin grid0.N, win0_12.index t 0 = win0_8.index t 0 ∧ win0_12.index t 1 = win0_8.index t 1) t
  rw [after0_12, (copied m c t).2.2, ← V_main_arg7 m c]
  show iblk m c 8 t _ = _
  unfold iblk
  refine congrArg (V m c main_arg7) (funext fun d => Fin.ext ?_)
  match d with
  | ⟨0, _⟩ => show win0_8.index t 0 * 16 + 1 * (y 0).val = win0_12.index t 0 * 16 + 1 * (y 0).val; rw [hi.1]
  | ⟨1, _⟩ => show win0_8.index t 1 * 11264 + 1 * (y 1).val = win0_12.index t 1 * 11264 + 1 * (y 1).val; rw [hi.2]

end Cert.OpeningArray

end
-- ==== Proof.OpeningClaim.lean ====
/-
The opening feed-forward and its reference end with the same array of rows and the same three arrays of weights.
-/
module

public import proofs.«01_k».proof.Defs
public import proofs.«01_k».proof.Proof.OpeningArray
public import proofs.«01_k».proof.Proof.FfnReference
public import proofs.«01_k».proof.Proof.Gen.Reference3Ideal.Run
public import proofs.«01_k».proof.Proof.Gen.Reference3Ideal.Read
public import Idealize.ShloMosaic.Lib.Tactic

@[expose] public section

set_option maxRecDepth 16384

noncomputable section

namespace Cert.OpeningClaim

open Idealize.ShloMosaic hiding ix1 ix2 ix3 eq_ix2 eq_ix3
open Idealize.ShloMosaic.ValueIdx Idealize.SL.Sem Cert.FfnRow

/-- The array of the opening feed-forward, from its four arguments. -/
def result (x : FVec Ideal (Sh 16384 2048) .f32) (g : FVec Ideal (Sh 1 2048) .f32) (w : FVec Ideal (Sh 2048 11264) .bf16)
    (v : FVec Ideal (Sh 5632 2048) .bf16) : FVec Ideal (Sh 16384 2048) .f32 :=
  fun i => upTo (FfnReference.rowAt x (i 0)) (FfnReference.gainAt g) w v 5632 (i 1)

theorem kernel_eq (m : (ℓ : Loc Cert.Kernel3Ideal.nD Cert.Kernel3Ideal.τ Cert.Kernel3Ideal.sig) → Buf (Elt Ideal) ℓ)
    (c : Dev Cert.Kernel3Ideal.nD) : OpeningArray.opened m c
      = result (OpeningArray.rows m c) (OpeningArray.gain m c) (OpeningArray.wIn m c) (OpeningArray.wOut m c) := rfl

/-- The reference's rows are the ones the closing feed-forward's reference has before its last norm. -/
theorem same_rows (x : FVec Ideal (Sh 16384 2048) .f32) (g : FVec Ideal (Sh 1 2048) .f32) (w : FVec Ideal (Sh 2048 11264) .bf16)
    (v : FVec Ideal (Sh 5632 2048) .bf16) :
    Cert.Reference3Ideal.Read.val_main_v22 (F := Ideal) x g w v = Cert.Reference2Ideal.Read.val_main_v22 (F := Ideal) x g w v := by
  sl_kernel_rfl

theorem reference_eq (x : FVec Ideal (Sh 16384 2048) .f32) (g : FVec Ideal (Sh 1 2048) .f32) (w : FVec Ideal (Sh 2048 11264) .bf16)
    (v : FVec Ideal (Sh 5632 2048) .bf16) :
    Cert.Reference3Ideal.Read.val_main_v22 (F := Ideal) x g w v = result x g w v := by
  rw [same_rows]
  funext i
  have e : i = ix2 (i 0) (i 1) := FfnReference.pair_ext i (i 0) (i 1) rfl rfl
  exact (congrArg (Cert.Reference2Ideal.Read.val_main_v22 (F := Ideal) x g w v) e).trans
    (FfnReference.fed_row x g w v (i 0) (i 1))

/-- From memories that agree on the arguments, both programs end with the same arrays. -/
theorem algebraic : Cert.algebraic_Kernel3Ideal_Reference3Ideal := by
  intro m ρ m' ρ' _ hag
  refine ⟨fun c => result (OpeningArray.rows m c) (OpeningArray.gain m c) (OpeningArray.wIn m c) (OpeningArray.wOut m c),
    fun c => m ((c.tc : Thread Cert.Kernel3Ideal.nD Cert.Kernel3Ideal.τ).loc Cert.Kernel3Ideal.main_arg5),
    fun c => m ((c.tc : Thread Cert.Kernel3Ideal.nD Cert.Kernel3Ideal.τ).loc Cert.Kernel3Ideal.main_arg6),
    fun c => m ((c.tc : Thread Cert.Kernel3Ideal.nD Cert.Kernel3Ideal.τ).loc Cert.Kernel3Ideal.main_arg7), ?_, ?_⟩
  · refine (θ_run _ _ _).mono (fun _ h c => ?_) (Cert.Kernel3Ideal.Value.run_blocks (F := Ideal) m ρ)
    obtain ⟨h0, h1, h2, h3, ha⟩ := h c
    exact ⟨h0.trans ((OpeningArray.array9 m c).trans (kernel_eq m c)), h1.trans (OpeningArray.array10 m c),
      h2.trans (OpeningArray.array11 m c), h3.trans (OpeningArray.array12 m c), ha⟩
  · refine (θ_run _ _ _).mono (fun _ h c => ?_) (Cert.Reference3Ideal.Value.run (F := Ideal) m' ρ')
    obtain ⟨h0, h1, h2, h3, ha⟩ := h c
    obtain ⟨g0, g1, g2, g3, g4, g5, g6, g7⟩ := hag c
    refine ⟨?_, h1.trans g5, h2.trans g6, h3.trans g7, ha⟩
    refine h0.trans ((Cert.Reference3Ideal.Read.val_main_v22_eq (F := Ideal) _ _ _ _).trans ?_)
    simp only [StableHlo.launchContents_devRef]
    rw [g0, g1, g2, g3]
    exact reference_eq _ _ _ _

end Cert.OpeningClaim

end
-- ==== Proof.MergeRun.lean ====
/-
One run of the merging call's body, at each of its three kinds of grid point: the first point, a later point where a new
block of rows begins, and any other point.  Each theorem says what the body leaves in the output block and in its two
scratch buffers: the normalised rows, and the slot of the merged columns that the next point multiplies.
-/
module

public import proofs.«01_k».proof.Proof.Gen.Kernel4Ideal.Frame
public import proofs.«01_k».proof.Proof.Gen.Kernel4Ideal.Skeleton
public import Idealize.ShloMosaic.Lib.VecWindow
public import Idealize.ShloMosaic.Lib.Pipeline.Value
public import Idealize.ShloMosaic.Lib.Pipeline.FrameBody
public import Idealize.ShloMosaic.Lib.Tactic
public import Idealize.ShloMosaic.Lib.WordCmp

@[expose] public section

set_option maxRecDepth 16384

noncomputable section

namespace Cert.MergeRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body computes from its grid point -/

/-- The remainder by eight, as the body computes it: a truncated remainder, made nonnegative. -/
def rem8 (a : BitVec 32) : BitVec 32 :=
  let d : BitVec 32 := Scalar.select (Scalar.cmpi .eq 8#32 0#32) 1#32 8#32
  let r : BitVec 32 := Scalar.remsi a d
  Scalar.select (Scalar.andi (Scalar.xori (Scalar.cmpi .slt r 0#32) (Scalar.cmpi .slt d 0#32)) (Scalar.cmpi .ne r 0#32)) (Scalar.addi r d) r

/-- The grid point is the first. -/
abbrev isFirst (i : grid0.Coords) : Prop :=
  Scalar.cmpi .ne (Scalar.extui (Scalar.cmpi .eq (BitVec.ofNat 32 (i 0).val) 0#32) : BitVec 32) 0#32 = 1#1

/-- The grid point begins a block of rows. -/
abbrev beginsRows (i : grid0.Coords) : Prop :=
  Scalar.cmpi .ne (Scalar.extui (Scalar.cmpi .eq (rem8 (BitVec.ofNat 32 (i 0).val)) 0#32) : BitVec 32) 0#32 = 1#1

/-- The slot of the merged columns that the grid point reads, and the slot it writes. -/
abbrev readSlot (i : grid0.Coords) : Rect S2x1024x256 := Rect.unit (s := S2x1024x256) (k0_off1 i) S1x1024x256.size (k0_off1_inb i)
abbrev writeSlot (i : grid0.Coords) : Rect S2x1024x256 := Rect.unit (s := S2x1024x256) (k0_off2 i) S1x1024x256.size (k0_off2_inb i)

/-- What the body stores into its output block: the block of rows or what the output block held, plus the product of the
    slot of merged columns with a block of the output weights. -/
def outStep (i : grid0.Coords) (x o : Vec F S1024x2048 .f32) (s : Vec F S1x1024x256 .bf16) (w : Vec F S256x2048 .bf16) : FVec F S1024x2048 .f32 :=
  let d : BitVec 32 := Scalar.select (Scalar.cmpi .eq 8#32 0#32) 1#32 8#32
  let r : BitVec 32 := Scalar.remsi (Scalar.subi (BitVec.ofNat 32 (i 0).val) 1#32) d
  k0_pay5 d r (Scalar.cmpi .ne r 0#32) (Scalar.xori (Scalar.cmpi .slt r 0#32) (Scalar.cmpi .slt d 0#32)) x o s w

/-- What the body stores into the slot it writes: 256 merged columns of 1024 rows. -/
def mergeStep (h : Vec F S1024x2048 .bf16) (ya : Vec F S1024x256 .bf16) (yb : Vec F S1024x768 .bf16) (yc : Vec F S1024x512 .bf16)
    (ga gb gc : Vec F S2048x256 .bf16) (wa : Vec F S256x256 .bf16) (wb : Vec F S768x256 .bf16) (wc : Vec F S512x256 .bf16) : FVec F S1x1024x256 .bf16 :=
  k0_pay1 h (k0_pay6 h ga ya wa) (k0_pay7 h gb) yb wb gc yc wc

theorem hz : (![0, 0] : Fin 2 → Nat) = fun _ => 0 := funext fun a => by fin_cases a <;> rfl

/-! ## The runs -/

variable (c : Dev nD) (i : grid0.Coords)
  (arg1 : Memref sig .tc .vmem S1024x2048 .f32) (harg1 : arg1.IsWhole) (arg2 : Memref sig .tc .vmem S1x2048 .f32) (harg2 : arg2.IsWhole)
  (arg3 : Memref sig .tc .vmem S1024x256 .bf16) (harg3 : arg3.IsWhole) (arg4 : Memref sig .tc .vmem S1024x768 .bf16) (harg4 : arg4.IsWhole)
  (arg5 : Memref sig .tc .vmem S1024x512 .bf16) (harg5 : arg5.IsWhole) (arg6 : Memref sig .tc .vmem S2048x256 .bf16) (harg6 : arg6.IsWhole)
  (arg7 : Memref sig .tc .vmem S2048x256 .bf16) (harg7 : arg7.IsWhole) (arg8 : Memref sig .tc .vmem S2048x256 .bf16) (harg8 : arg8.IsWhole)
  (arg9 : Memref sig .tc .vmem S256x256 .bf16) (harg9 : arg9.IsWhole) (arg10 : Memref sig .tc .vmem S768x256 .bf16) (harg10 : arg10.IsWhole)
  (arg11 : Memref sig .tc .vmem S512x256 .bf16) (harg11 : arg11.IsWhole) (arg12 : Memref sig .tc .vmem S256x2048 .bf16) (harg12 : arg12.IsWhole)
  (arg13 : Memref sig .tc .vmem S1024x2048 .f32) (harg13 : arg13.IsWhole) (arg14 : Memref sig .tc .vmem S1024x2048 .bf16) (harg14 : arg14.IsWhole)
  (arg15 : Memref sig .tc .vmem S2x1024x256 .bf16) (harg15 : arg15.IsWhole)
  (x : Vec F S1024x2048 .f32) (g : Vec F S1x2048 .f32) (ya : Vec F S1024x256 .bf16) (yb : Vec F S1024x768 .bf16) (yc : Vec F S1024x512 .bf16)
  (ga gb gc : Vec F S2048x256 .bf16) (wa : Vec F S256x256 .bf16) (wb : Vec F S768x256 .bf16) (wc : Vec F S512x256 .bf16) (wo : Vec F S256x2048 .bf16)
  (o : Vec F S1024x2048 .f32) (h : Vec F S1024x2048 .bf16) (s : Vec F S2x1024x256 .bf16)

/-- The twelve input blocks, each in its staging buffer. -/
def inputs : sProp 𝕄 :=
  iprop(owns (c : Thread nD τ) arg1 fullShare x ∗ owns (c : Thread nD τ) arg2 fullShare g ∗ owns (c : Thread nD τ) arg3 fullShare ya
    ∗ owns (c : Thread nD τ) arg4 fullShare yb ∗ owns (c : Thread nD τ) arg5 fullShare yc ∗ owns (c : Thread nD τ) arg6 fullShare ga
    ∗ owns (c : Thread nD τ) arg7 fullShare gb ∗ owns (c : Thread nD τ) arg8 fullShare gc ∗ owns (c : Thread nD τ) arg9 fullShare wa
    ∗ owns (c : Thread nD τ) arg10 fullShare wb ∗ owns (c : Thread nD τ) arg11 fullShare wc ∗ owns (c : Thread nD τ) arg12 fullShare wo)

/-- The merged columns' scratch, its slot `r` holding `v`. -/
def slotHolds (r : Rect S2x1024x256) (v : r.shape.Idx → Elt F .bf16) : sProp 𝕄 :=
  iprop(∃ s : Vec F S2x1024x256 .bf16, ⌜View.ld s r = v⌝ ∗ owns (c : Thread nD τ) arg15 fullShare s)

/-- What a load through a rectangle reads after a store through a rectangle at the same offsets. -/
theorem read_back {κ : Kind} {sp : Space} {S : Shape} {e : EltTy} (v : View sig κ sp S e) (f : v.ty.Contents (Elt F)) {a b z : Fin S.rank → ℕ} (hab : a = b)
    (ha : ∀ k, a k + z k ≤ S.size k) (hb : ∀ k, b k + z k ≤ S.size k) (w : (Rect.unit (s := S) b z hb).shape.Idx → Elt F e) (L : List (View.Piece (Elt F) S e)) :
    v.readAt (Elt F) (Rect.unit (s := S) a z ha).toLoadRect (v.writes (Elt F) f (⟨Rect.unit (s := S) b z hb, w⟩ :: L)) = w := by
  subst hab
  exact funext fun y => View.read_writes_cons_emb v f (Rect.unit (s := S) a z ha) w L y

/-- A load of a whole block through the rectangle at the origin reads the block, -/
theorem ld_all {n k : ℕ} {e : EltTy} (X : (⟨2, ![n, k]⟩ : Shape).Idx → Elt F e) (inb : ∀ a, (![0, 0] : Fin 2 → ℕ) a + (![n, k] : Fin 2 → ℕ) a ≤ (![n, k] : Fin 2 → ℕ) a) :
    View.ld X (Rect.unit (s := ⟨2, ![n, k]⟩) ![0, 0] ![n, k] inb) = X :=
  View.ld_unit_zero (S := ⟨2, ![n, k]⟩) hz inb X

/-- and after such a store it reads what was stored. -/
theorem cov_all {n k : ℕ} {κ : Kind} {sp : Space} {e : EltTy} (v : View sig κ sp ⟨2, ![n, k]⟩ e) (inb : ∀ a, (![0, 0] : Fin 2 → ℕ) a + (![n, k] : Fin 2 → ℕ) a ≤ (![n, k] : Fin 2 → ℕ) a)
    (w : (⟨2, ![n, k]⟩ : Shape).Idx → Elt F e) (L : List (View.Piece (Elt F) ⟨2, ![n, k]⟩ e)) :
    v.readCov (⟨Rect.unit (s := ⟨2, ![n, k]⟩) ![0, 0] ![n, k] inb, w⟩ :: L) (Rect.unit (s := ⟨2, ![n, k]⟩) ![0, 0] ![n, k] inb).toLoadRect = w :=
  View.readCov_full v inb inb w L

/-- The same of a load that the stores before it cover. -/
theorem cov_back {κ : Kind} {sp : Space} {S : Shape} {e : EltTy} (v : View sig κ sp S e) {a b z : Fin S.rank → ℕ} (hab : a = b)
    (ha : ∀ k, a k + z k ≤ S.size k) (hb : ∀ k, b k + z k ≤ S.size k) (w : (Rect.unit (s := S) b z hb).shape.Idx → Elt F e) (L : List (View.Piece (Elt F) S e)) :
    v.readCov (⟨Rect.unit (s := S) b z hb, w⟩ :: L) (Rect.unit (s := S) a z ha).toLoadRect = w :=
  read_back v v.junk hab ha hb w L

/-- The input blocks, given back as they were found. -/
theorem inputs_back :
    iprop((arg1.view.loc (c : Thread nD τ) ↦[arg1.view.set]{fullShare} harg1.unread x) ∗ (arg2.view.loc (c : Thread nD τ) ↦[arg2.view.set]{fullShare} harg2.unread g)
        ∗ (arg3.view.loc (c : Thread nD τ) ↦[arg3.view.set]{fullShare} harg3.unread ya) ∗ (arg4.view.loc (c : Thread nD τ) ↦[arg4.view.set]{fullShare} harg4.unread yb)
        ∗ (arg5.view.loc (c : Thread nD τ) ↦[arg5.view.set]{fullShare} harg5.unread yc) ∗ (arg6.view.loc (c : Thread nD τ) ↦[arg6.view.set]{fullShare} harg6.unread ga)
        ∗ (arg7.view.loc (c : Thread nD τ) ↦[arg7.view.set]{fullShare} harg7.unread gb) ∗ (arg8.view.loc (c : Thread nD τ) ↦[arg8.view.set]{fullShare} harg8.unread gc)
        ∗ (arg9.view.loc (c : Thread nD τ) ↦[arg9.view.set]{fullShare} harg9.unread wa) ∗ (arg10.view.loc (c : Thread nD τ) ↦[arg10.view.set]{fullShare} harg10.unread wb)
        ∗ (arg11.view.loc (c : Thread nD τ) ↦[arg11.view.set]{fullShare} harg11.unread wc) ∗ (arg12.view.loc (c : Thread nD τ) ↦[arg12.view.set]{fullShare} harg12.unread wo))
      ⊢ (inputs c arg1 arg2 arg3 arg4 arg5 arg6 arg7 arg8 arg9 arg10 arg11 arg12 x g ya yb yc ga gb gc wa wb wc wo : sProp 𝕄) := by
  unfold inputs owns
  iintro ⟨H1, H2, H3, H4, H5, H6, H7, H8, H9, H10, H11, H12⟩
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

set_option maxHeartbeats 2000000 in
/-- A point that begins no block of rows. -/
theorem run_within (hc0 : ¬isFirst i) (hc1 : ¬beginsRows i) (E : Set ℕ) (K : PUnit → sProp 𝕄) :
    iprop(inputs c arg1 arg2 arg3 arg4 arg5 arg6 arg7 arg8 arg9 arg10 arg11 arg12 x g ya yb yc ga gb gc wa wb wc wo
        ∗ owns (c : Thread nD τ) arg13 fullShare o ∗ owns (c : Thread nD τ) arg14 fullShare h ∗ owns (c : Thread nD τ) arg15 fullShare s
        ∗ (iprop(inputs c arg1 arg2 arg3 arg4 arg5 arg6 arg7 arg8 arg9 arg10 arg11 arg12 x g ya yb yc ga gb gc wa wb wc wo
            ∗ owns (c : Thread nD τ) arg13 fullShare (outStep i x o (View.ld s (readSlot i)) wo)
            ∗ owns (c : Thread nD τ) arg14 fullShare (h)
            ∗ slotHolds c arg15 (writeSlot i) (mergeStep (h) ya yb yc ga gb gc wa wb wc)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_merge_eq_skeleton]; unfold cc0_merge_skel
  simp only [k0_part1_eq_skeleton, k0_part2_eq_skeleton]
  have hback := inputs_back (F := F) c arg1 harg1 arg2 harg2 arg3 harg3 arg4 harg4 arg5 harg5 arg6 harg6 arg7 harg7 arg8 harg8 arg9 harg9 arg10 harg10 arg11 harg11 arg12 harg12 x g ya yb yc ga gb gc wa wb wc wo
  unfold inputs at hback
  unfold inputs slotHolds owns at *
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, ⟨%f14, %hf14, H14⟩, ⟨%f15, %hf15, H15⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc0 | sl_exact hc1)
  sl_step
  iapply Hk
  isplitl [H1 H2 H3 H4 H5 H6 H7 H8 H9 H10 H11 H12]
  · iapply hback
    iframe
  isplitl [H13]
  · iexists _; isplitr
    swap; · iexact H13
    ipureintro
    sl_unfold_words
    rw [View.read_writes_full]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
    rfl
  isplitl [H14]
  · iexists _; isplitr; · ipureintro; exact harg14.read_unread _
    iexact H14
  iexists _; isplitr
  swap
  · iexists _; isplitr
    swap; · iexact H15
    ipureintro; rfl
  ipureintro
  sl_unfold_words
  refine (funext fun y => View.read_writes_cons_emb _ _ (writeSlot i) _ _ y).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
  rfl

set_option maxHeartbeats 2000000 in
/-- A point after the first that begins a block of rows: the normalised rows are computed afresh. -/
theorem run_begins (hc0 : ¬isFirst i) (hc1 : beginsRows i) (E : Set ℕ) (K : PUnit → sProp 𝕄) :
    iprop(inputs c arg1 arg2 arg3 arg4 arg5 arg6 arg7 arg8 arg9 arg10 arg11 arg12 x g ya yb yc ga gb gc wa wb wc wo
        ∗ owns (c : Thread nD τ) arg13 fullShare o ∗ (∃ h, owns (c : Thread nD τ) arg14 fullShare h) ∗ owns (c : Thread nD τ) arg15 fullShare s
        ∗ (iprop(inputs c arg1 arg2 arg3 arg4 arg5 arg6 arg7 arg8 arg9 arg10 arg11 arg12 x g ya yb yc ga gb gc wa wb wc wo
            ∗ owns (c : Thread nD τ) arg13 fullShare (outStep i x o (View.ld s (readSlot i)) wo)
            ∗ owns (c : Thread nD τ) arg14 fullShare (k0_pay4 x g)
            ∗ slotHolds c arg15 (writeSlot i) (mergeStep (k0_pay4 x g) ya yb yc ga gb gc wa wb wc)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_merge_eq_skeleton]; unfold cc0_merge_skel
  simp only [k0_part1_eq_skeleton, k0_part2_eq_skeleton]
  have hback := inputs_back (F := F) c arg1 harg1 arg2 harg2 arg3 harg3 arg4 harg4 arg5 harg5 arg6 harg6 arg7 harg7 arg8 harg8 arg9 harg9 arg10 harg10 arg11 harg11 arg12 harg12 x g ya yb yc ga gb gc wa wb wc wo
  unfold inputs at hback
  unfold inputs slotHolds owns at *
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, ⟨%d14, %f14, -, H14⟩, ⟨%f15, %hf15, H15⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg15.eq_unread hf15
  sl_exec (disch := first | sl_exact hc0 | sl_exact hc1)
  sl_step
  iapply Hk
  isplitl [H1 H2 H3 H4 H5 H6 H7 H8 H9 H10 H11 H12]
  · iapply hback
    iframe
  isplitl [H13]
  · iexists _; isplitr
    swap; · iexact H13
    ipureintro
    sl_unfold_words
    rw [View.read_writes_full]
    simp only [cov_all, View.readCov_unit_zero (S := S1024x2048) _ hz, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
    rfl
  isplitl [H14]
  · iexists _; isplitr
    swap; · iexact H14
    ipureintro
    sl_unfold_words
    rw [View.read_writes_full]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
  iexists _; isplitr
  swap
  · iexists _; isplitr
    swap; · iexact H15
    ipureintro; rfl
  ipureintro
  sl_unfold_words
  refine (funext fun y => View.read_writes_cons_emb _ _ (writeSlot i) _ _ y).trans ?_
  simp only [cov_all, View.readCov_unit_zero (S := S1024x2048) _ hz, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
  rfl

set_option maxHeartbeats 2000000 in
/-- The first point: the slot it reads and the output block are zeroed first. -/
theorem run_first (hc0 : isFirst i) (hc1 : beginsRows i) (hs : k0_off1 i = ![1, 0, 0]) (hw : k0_off2 i = ![0, 0, 0]) (E : Set ℕ) (K : PUnit → sProp 𝕄) :
    iprop(inputs c arg1 arg2 arg3 arg4 arg5 arg6 arg7 arg8 arg9 arg10 arg11 arg12 x g ya yb yc ga gb gc wa wb wc wo
        ∗ (∃ o, owns (c : Thread nD τ) arg13 fullShare o) ∗ (∃ h, owns (c : Thread nD τ) arg14 fullShare h) ∗ (∃ s, owns (c : Thread nD τ) arg15 fullShare s)
        ∗ (iprop(inputs c arg1 arg2 arg3 arg4 arg5 arg6 arg7 arg8 arg9 arg10 arg11 arg12 x g ya yb yc ga gb gc wa wb wc wo
            ∗ owns (c : Thread nD τ) arg13 fullShare (outStep i x k0_pay3 k0_pay2 wo)
            ∗ owns (c : Thread nD τ) arg14 fullShare (k0_pay4 x g)
            ∗ slotHolds c arg15 (writeSlot i) (mergeStep (k0_pay4 x g) ya yb yc ga gb gc wa wb wc)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_merge_eq_skeleton]; unfold cc0_merge_skel
  simp only [k0_part1_eq_skeleton, k0_part2_eq_skeleton]
  have hback := inputs_back (F := F) c arg1 harg1 arg2 harg2 arg3 harg3 arg4 harg4 arg5 harg5 arg6 harg6 arg7 harg7 arg8 harg8 arg9 harg9 arg10 harg10 arg11 harg11 arg12 harg12 x g ya yb yc ga gb gc wa wb wc wo
  unfold inputs at hback
  unfold inputs slotHolds owns at *
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  letI : ClosedOff (k0_off1 i) := ⟨![1, 0, 0], hs⟩
  letI : ClosedOff (k0_off2 i) := ⟨![0, 0, 0], hw⟩
  sl_exec (disch := first | sl_exact hc0 | sl_exact hc1)
  sl_step
  iapply Hk
  isplitl [H1 H2 H3 H4 H5 H6 H7 H8 H9 H10 H11 H12]
  · iapply hback
    iframe
  isplitl [H13]
  · iexists _; isplitr
    swap; · iexact H13
    ipureintro
    sl_unfold_words
    rw [View.read_writes_full]
    simp only [cov_all, View.readCov_unit_zero (S := S1024x2048) _ hz, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
    exact congrArg (fun v => outStep i x k0_pay3 v wo) (cov_back arg15.view hs (k0_off1_inb i) _ _ _)
  isplitl [H14]
  · iexists _; isplitr
    swap; · iexact H14
    ipureintro
    sl_unfold_words
    rw [View.read_writes_full]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
  iexists _; isplitr
  swap
  · iexists _; isplitr
    swap; · iexact H15
    ipureintro; rfl
  ipureintro
  sl_unfold_words
  refine (funext fun y => View.read_writes_cons_emb _ _ (writeSlot i) _ _ y).trans ?_
  simp only [cov_all, View.readCov_unit_zero (S := S1024x2048) _ hz, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, ld_all, View.ld_unit_zero (S := S1024x2048) hz, View.ld_unit_zero (S := S1x2048) hz, View.ld_unit_zero (S := S256x2048) hz]
  rfl

end Cert.MergeRun

end
-- ==== Proof.MergeFrame.lean ====
/-
The launch of the merging call, from one run of its body to the whole grid.

The proof data of the pipeline say what the buffers hold after every grid point: the normalised rows of the current block
of rows, the 256 merged columns the point has computed, and the output block, to which the point has added the product of
the columns the point before it computed.  The body keeps them (`sound_body`), so the launch runs to its end and leaves its
argument arrays as they were (`frame`).
-/
module

public import proofs.«01_k».proof.Proof.MergeRun
public import Idealize.ShloMosaic.Lib.Ring
public import Idealize.ShloMosaic.Lib.Claim

@[expose] public section

set_option maxRecDepth 16384

noncomputable section

namespace Cert.MergeFrame

open Cert.Kernel4Ideal Cert.Kernel4Ideal.Gen Cert.MergeRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions and slots, point by point -/

theorem first_iff : ∀ t : Fin cfg0.N, isFirst (grid0.coords t) ↔ t.val = 0 :=
  (by decide +kernel : ∀ t : Fin grid0.N, isFirst (grid0.coords t) ↔ t.val = 0)

theorem begins_iff : ∀ t : Fin cfg0.N, beginsRows (grid0.coords t) ↔ t.val % 8 = 0 :=
  (by decide +kernel : ∀ t : Fin grid0.N, beginsRows (grid0.coords t) ↔ t.val % 8 = 0)

/-- The first point reads slot one and writes slot zero; -/
theorem first_slots : ∀ t : Fin cfg0.N, t.val = 0 → k0_off1 (grid0.coords t) = ![1, 0, 0] ∧ k0_off2 (grid0.coords t) = ![0, 0, 0] :=
  (by decide +kernel : ∀ t : Fin grid0.N, t.val = 0 → k0_off1 (grid0.coords t) = ![1, 0, 0] ∧ k0_off2 (grid0.coords t) = ![0, 0, 0])

/-- every later point reads the slot the point before it wrote. -/
theorem slots_alternate : ∀ t : Fin cfg0.N, t.val ≠ 0 →
    k0_off1 (grid0.coords t) = k0_off2 (grid0.coords ⟨t.val - 1, Nat.lt_of_le_of_lt (Nat.sub_le _ _) t.isLt⟩) :=
  (by decide +kernel : ∀ t : Fin grid0.N, t.val ≠ 0 →
    k0_off1 (grid0.coords t) = k0_off2 (grid0.coords ⟨t.val - 1, Nat.lt_of_le_of_lt (Nat.sub_le _ _) t.isLt⟩))

/-- The word that tells whether the output block restarts from the block of rows. -/
def restarts (i : grid0.Coords) : BitVec 1 :=
  Scalar.cmpi .eq (rem8 (Scalar.subi (BitVec.ofNat 32 (i 0).val) 1#32)) 0#32

/-- It does one point after a block of rows begins. -/
theorem restarts_iff : ∀ t : Fin cfg0.N, restarts (grid0.coords t) = 1#1 ↔ t.val % 8 = 1 :=
  (by decide +kernel : ∀ t : Fin grid0.N, restarts (grid0.coords t) = 1#1 ↔ t.val % 8 = 1)

/-- The output block is written back only at points that begin a block of rows. -/
theorem flush_begins : ∀ t : Fin cfg0.N, (cfg0.win 12).flush t = true → t.val % 8 = 0 :=
  (by decide +kernel : ∀ t : Fin grid0.N, win0_12.flush t = true → t.val % 8 = 0)

/-- What a restart adds to does not depend on what the output block held. -/
theorem outStep_fresh (i : grid0.Coords) (hr : restarts i = 1#1) (x o o' : Vec F S1024x2048 .f32) (s : Vec F S1x1024x256 .bf16) (w : Vec F S256x2048 .bf16) :
    outStep i x o s w = outStep i x o' s w := by
  have key : ∀ b : BitVec 1, b = 1#1 → ∀ p q r : Vec F S1024x2048 .f32, Scalar.select b p q = Scalar.select b p r := by
    rintro _ rfl _ _ _; rfl
  exact congrArg (fun v : Vec F S1024x2048 .f32 => addf v (matmul dot_S1024x256_S256x2048_S1024x2048_1_0_0_1_n_n none (shapeCast S1024x256 s shapeCasts_S1x1024x256_S1024x256) w (constant S1024x2048 .f32 0x00000000#32)))
    (key (restarts i) hr x (shapeCast S1024x2048 o shapeCasts_S1024x2048_S1024x2048) (shapeCast S1024x2048 o' shapeCasts_S1024x2048_S1024x2048))

/-- Loads through rectangles at equal offsets read the same. -/
theorem ld_slot (s : Vec F S2x1024x256 .bf16) {a b : Fin 3 → ℕ} (hab : a = b) (ha : ∀ k, a k + S1x1024x256.size k ≤ S2x1024x256.size k)
    (hb : ∀ k, b k + S1x1024x256.size k ≤ S2x1024x256.size k) :
    (View.ld s (Rect.unit (s := S2x1024x256) a S1x1024x256.size ha) : Vec F S1x1024x256 .bf16) = View.ld s (Rect.unit (s := S2x1024x256) b S1x1024x256.size hb) := by
  subst hab; rfl

/-! ## What the buffers hold after each point -/

variable (m : (ℓ : Loc nD τ sig) → Buf (Elt F) ℓ) (ρ : Dev nD → PrngReg)

/-- The normalised rows of the block of rows the point works in. -/
def rowsAt (c : Dev nD) : (n : ℕ) → n < cfg0.N → FVec F S1024x2048 .bf16
  | 0, hn => k0_pay4 (iblk m c 0 ⟨0, hn⟩) (iblk m c 1 ⟨0, hn⟩)
  | n + 1, hn => if (n + 1) % 8 = 0 then k0_pay4 (iblk m c 0 ⟨n + 1, hn⟩) (iblk m c 1 ⟨n + 1, hn⟩) else rowsAt c n (Nat.lt_of_succ_lt hn)

theorem rowsAt_begins (c : Dev nD) (t : Fin cfg0.N) (h : t.val % 8 = 0) : rowsAt m c t.val t.isLt = k0_pay4 (iblk m c 0 t) (iblk m c 1 t) := by
  obtain ⟨n, hn⟩ := t
  cases n with
  | zero => rfl
  | succ n => exact if_pos h

theorem rowsAt_within (c : Dev nD) (t : Fin cfg0.N) (h : ¬t.val % 8 = 0) :
    rowsAt m c t.val t.isLt = rowsAt m c (t.val - 1) (Nat.lt_of_le_of_lt (Nat.sub_le _ _) t.isLt) := by
  obtain ⟨n, hn⟩ := t
  cases n with
  | zero => exact absurd rfl h
  | succ n => exact if_neg h

/-- The merged columns the point computes. -/
def mergedAt (c : Dev nD) (t : Fin cfg0.N) : FVec F S1x1024x256 .bf16 :=
  mergeStep (rowsAt m c t.val t.isLt) (iblk m c 2 t) (iblk m c 3 t) (iblk m c 4 t) (iblk m c 5 t) (iblk m c 6 t) (iblk m c 7 t) (iblk m c 8 t) (iblk m c 9 t) (iblk m c 10 t)

/-- The output block after the point. -/
def outAt (c : Dev nD) : (n : ℕ) → n < cfg0.N → FVec F S1024x2048 .f32
  | 0, hn => outStep (grid0.coords ⟨0, hn⟩) (iblk m c 0 ⟨0, hn⟩) k0_pay3 k0_pay2 (iblk m c 11 ⟨0, hn⟩)
  | n + 1, hn => outStep (grid0.coords ⟨n + 1, hn⟩) (iblk m c 0 ⟨n + 1, hn⟩) (outAt c n (Nat.lt_of_succ_lt hn))
      (mergedAt m c ⟨n, Nat.lt_of_succ_lt hn⟩) (iblk m c 11 ⟨n + 1, hn⟩)

theorem outAt_first (c : Dev nD) (t : Fin cfg0.N) (h : t.val = 0) :
    outAt m c t.val t.isLt = outStep (grid0.coords t) (iblk m c 0 t) k0_pay3 k0_pay2 (iblk m c 11 t) := by
  obtain ⟨n, hn⟩ := t
  cases n with
  | zero => rfl
  | succ n => exact absurd h (Nat.succ_ne_zero n)

theorem outAt_later (c : Dev nD) (t : Fin cfg0.N) (h : t.val ≠ 0) :
    outAt m c t.val t.isLt = outStep (grid0.coords t) (iblk m c 0 t) (outAt m c (t.val - 1) (Nat.lt_of_le_of_lt (Nat.sub_le _ _) t.isLt))
      (mergedAt m c ⟨t.val - 1, Nat.lt_of_le_of_lt (Nat.sub_le _ _) t.isLt⟩) (iblk m c 11 t) := by
  obtain ⟨n, hn⟩ := t
  cases n with
  | zero => exact absurd rfl h
  | succ n => rfl

/-! ## The buffers the body is given -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x2048 .f32 := win0_12.stage (cfg0.slots t 12)
abbrev hs0_12 (t : Fin cfg0.N) : (ms0_12 t).IsWhole := hstage0_12 ((cfg0.slots t 12).cast nbuf0_12)
abbrev scM0_0 : Memref sig .tc .vmem S1024x2048 .bf16 := Memref.whole cc0_scratch0
abbrev scM0_1 : Memref sig .tc .vmem S2x1024x256 .bf16 := Memref.whole cc0_scratch1

/-- What the launch hands the body beside its windows: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The proof data -/

/-- What is held between points: before the first the two scratch buffers at anything; after point `n` its normalised rows
    and, in the slot it wrote, its merged columns. -/
def PhiS (c : Dev nD) : (n : ℕ) → n ≤ cfg0.N → sProp 𝕄
  | 0, _ => Pipeline.ΦA spec0 c
  | n + 1, hn => iprop(owns (c : Thread nD τ) scM0_0 fullShare (rowsAt m c n hn)
      ∗ slotHolds c scM0_1 (writeSlot (grid0.coords ⟨n, hn⟩)) (mergedAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(owns (c : Thread nD τ) scM0_0 fullShare (rowsAt m c t.val t.isLt)
      ∗ slotHolds c scM0_1 (writeSlot (grid0.coords t)) (mergedAt m c t) ∗ (∃ r, prngReg c r)) := rfl

theorem PhiS_pos (c : Dev nD) (n : ℕ) (h : n ≤ cfg0.N) (hz : n ≠ 0) :
    PhiS m c n h = iprop(owns (c : Thread nD τ) scM0_0 fullShare (rowsAt m c (n - 1) (show n - 1 < cfg0.N by omega))
      ∗ slotHolds c scM0_1 (writeSlot (grid0.coords ⟨n - 1, show n - 1 < cfg0.N by omega⟩)) (mergedAt m c ⟨n - 1, show n - 1 < cfg0.N by omega⟩) ∗ (∃ r, prngReg c r)) := by
  cases n with
  | zero => exact absurd rfl hz
  | succ n => rfl

/-- After every point an input's buffer holds its block and the output's what `outAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Whatever the output's buffer holds when a later point begins, the point leaves in it what `outAt` says. -/
theorem outStep_before (c : Dev nD) (t : Fin cfg0.N) (h : t.val ≠ 0) (d) :
    outStep (grid0.coords t) (iblk m c 0 t) ((dats m 0 c).before 12 t d) (mergedAt m c ⟨t.val - 1, Nat.lt_of_le_of_lt (Nat.sub_le _ _) t.isLt⟩) (iblk m c 11 t)
      = outAt m c t.val t.isLt := by
  rw [outAt_later m c t h]
  by_cases h1 : t.val % 8 = 1
  · exact outStep_fresh _ ((restarts_iff t).mpr h1) _ _ _ _ _
  · rw [Dat.before_out_kept _ 12 rfl t h (Bool.eq_false_iff.mpr fun hf => by have := flush_begins _ hf; dsimp only at this; omega)
      (fun _ => rfl) (fun _ _ => rfl), after0_12]

/-! ## The body, at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body keeps the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  by_cases hz : t.val = 0
  · have h0 : t.val % 8 = 0 := by omega
    rw [PhiS_castSucc m c t, PhiS_zero m c _ _ hz, PhiA0_eq]
    have run := run_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      ((first_iff t).mpr hz) ((begins_iff t).mpr h0) (first_slots t hz).1 (first_slots t hz).2 Set.univ
    unfold inputs at run
    unfold mergedAt
    rw [outAt_first m c t hz, rowsAt_begins m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run _)
    isplitl [H0 H1 H2 H3 H4 H5 H6 H7 H8 H9 H10 H11]
    · iframe
    isplitl [H12]; · iexists _; iexact H12
    isplitl [HS0]; · iexact HS0
    isplitl [HS1]; · iexact HS1
    iintro ⟨⟨H0, H1, H2, H3, H4, H5, H6, H7, H8, H9, H10, H11⟩, H12, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  by_cases h0 : t.val % 8 = 0
  · rw [PhiS_castSucc m c t, PhiS_pos m c _ _ hz]
    unfold slotHolds
    iintro ⟨⟨HS0, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have run := run_begins (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      ((dats m 0 c).before 12 t d12) s
      (fun h => hz ((first_iff t).mp h)) ((begins_iff t).mpr h0) Set.univ
    rw [show (View.ld s (readSlot (grid0.coords t)) : Vec F S1x1024x256 .bf16) = _ from (ld_slot s (slots_alternate t hz) _ _).trans hs, outStep_before m c t hz d12] at run
    unfold inputs slotHolds at run
    rw [← rowsAt_begins m c t h0] at run
    iapply (run _)
    isplitl [H0 H1 H2 H3 H4 H5 H6 H7 H8 H9 H10 H11]
    · iframe
    isplitl [H12]; · iexact H12
    isplitl [HS0]; · iexists _; iexact HS0
    isplitl [HS1]; · iexact HS1
    iintro ⟨⟨H0, H1, H2, H3, H4, H5, H6, H7, H8, H9, H10, H11⟩, H12, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_castSucc m c t, PhiS_pos m c _ _ hz]
    unfold slotHolds
    iintro ⟨⟨HS0, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have run := run_within (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      ((dats m 0 c).before 12 t d12) (rowsAt m c (t.val - 1) (Nat.lt_of_le_of_lt (Nat.sub_le _ _) t.isLt)) s
      (fun h => hz ((first_iff t).mp h)) (fun h => h0 ((begins_iff t).mp h)) Set.univ
    rw [show (View.ld s (readSlot (grid0.coords t)) : Vec F S1x1024x256 .bf16) = _ from (ld_slot s (slots_alternate t hz) _ _).trans hs, outStep_before m c t hz d12] at run
    unfold inputs slotHolds at run
    rw [← rowsAt_within m c t h0] at run ⊢
    iapply (run _)
    isplitl [H0 H1 H2 H3 H4 H5 H6 H7 H8 H9 H10 H11]
    · iframe
    isplitl [H12]; · iexact H12
    isplitl [HS0]; · iexact HS0
    isplitl [HS1]; · iexact HS1
    iintro ⟨⟨H0, H1, H2, H3, H4, H5, H6, H7, H8, H9, H10, H11⟩, H12, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body of the launch at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 129 := N_0
  rw [show (dats m 0 c).Φ (Fin.last cfg0.N) = PhiS m c cfg0.N (Nat.le_refl _) from rfl, PhiS_pos m c _ _ (by omega), PhiA0_eq]
  unfold slotHolds
  iintro ⟨HS0, ⟨%s, -, HS1⟩, Hg⟩
  isplitl [HS0 HS1]
  · isplitl [HS0]
    · iexists _; iexact HS0
    iexists _; iexact HS1
  iexact Hg

/-! ## The launch -/

set_option backward.isDefEq.respectTransparency.types false in
/-- Every execution ends, with every semaphore counter at zero and every array at what the proof data say. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The launch leaves its argument arrays as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.MergeFrame

end
-- ==== Proof.MergeRow.lean ====
/-
One row of the merge of three branches: the gates, which are logistic functions of products with the row's norm, the
merged columns, and the row after the product of the merged columns with the output weights is added. The columns may be
added in groups.
-/
module

public import proofs.«01_k».proof.Proof.FfnRow

@[expose] public section

noncomputable section

namespace Cert.MergeRow

open Idealize.ShloMosaic Idealize.ShloMosaic.ValueIdx Cert.FfnRow

/-- The arrays of the merge: the rows, their gain, the three branches, the projection whose last columns are the gates',
    the three branches' weights and the output weights. -/
structure Arrays where
  x : FVec Ideal (Sh 16384 2048) .f32
  g : FVec Ideal (Sh 1 2048) .f32
  ya : FVec Ideal (Sh 16384 256) .bf16
  yb : FVec Ideal (Sh 16384 768) .bf16
  yc : FVec Ideal (Sh 16384 512) .bf16
  w : FVec Ideal (Sh 2048 11264) .bf16
  wa : FVec Ideal (Sh 256 2048) .bf16
  wb : FVec Ideal (Sh 768 2048) .bf16
  wc : FVec Ideal (Sh 512 2048) .bf16
  wo : FVec Ideal (Sh 2048 2048) .bf16

/-- The product of a row with a column. -/
def dot {p n : ℕ} (y : Fin p → EReal) (w : FVec Ideal (Sh p n) .bf16) (q : Fin n) : EReal := ∑ k : Fin p, y k * w (ix2 k q)

variable (A : Arrays) (a : Fin 16384)

/-- The normalised row. -/
def hidden : Fin 2048 → EReal := norm (fun k => A.x (ix2 a k)) (fun k => A.g (ix2 0 k))

/-- The gate of a column of the projection. -/
def gate (p : Fin 11264) : EReal := Ideal.logistic (dot (hidden A a) A.w p)

/-- A merged column of the row. -/
def merged (q : Fin 2048) : EReal :=
  gate A a ⟨5120 + q.val, by omega⟩ * dot (fun k => A.ya (ix2 a k)) A.wa q
    + gate A a ⟨7168 + q.val, by omega⟩ * dot (fun k => A.yb (ix2 a k)) A.wb q
    + gate A a ⟨9216 + q.val, by omega⟩ * dot (fun k => A.yc (ix2 a k)) A.wc q

/-- What merged column `q` adds to column `d` of the row. -/
def term (d : Fin 2048) (q : ℕ) : EReal := if hq : q < 2048 then merged A a ⟨q, hq⟩ * A.wo (ix2 (⟨q, hq⟩ : Fin 2048) d) else 0

/-- The row after the first `n` merged columns are added. -/
def upTo (n : ℕ) (d : Fin 2048) : EReal := A.x (ix2 a d) + ∑ q ∈ Finset.range n, term A a d q

theorem upTo_zero (d : Fin 2048) : upTo A a 0 d = A.x (ix2 a d) := by
  unfold upTo
  rw [Finset.range_zero, Finset.sum_empty, add_zero]

/-- Adding the next `p` columns. -/
theorem upTo_add (n p : ℕ) (d : Fin 2048) : upTo A a n d + ∑ f : Fin p, term A a d (n + f.val) = upTo A a (n + p) d := by
  unfold upTo
  rw [Finset.sum_range_add, Finset.sum_range fun f => term A a d (n + f), add_assoc]

/-- The row with all its columns. -/
theorem upTo_all (d : Fin 2048) : A.x (ix2 a d) + ∑ q : Fin 2048, merged A a q * A.wo (ix2 q d) = upTo A a 2048 d := by
  unfold upTo
  rw [Finset.sum_range]
  refine congrArg (A.x (ix2 a d) + ·) (Finset.sum_congr rfl fun q _ => ?_)
  unfold term
  rw [dif_pos q.2]

end Cert.MergeRow

end
-- ==== Proof.MergeTile.lean ====
/-
What the merging call's body computes at an index of a block: the normalised rows, the merged columns, and the output block
to which the product of merged columns with rows of the output weights is added.
-/
module

public import proofs.«01_k».proof.Proof.MergeFrame
public import proofs.«01_k».proof.Proof.MergeRow
public import proofs.«01_k».proof.Proof.FfnTile
public import Idealize.ShloMosaic.Lib.Pipeline.Value
public import Idealize.ShloMosaic.Lib.Pointwise
public import Idealize.ShloMosaic.Lib.MatmulPlain

@[expose] public section

set_option maxRecDepth 16384

noncomputable section

namespace Cert.MergeTile

open Idealize.ShloMosaic hiding ix1 ix2 ix3 eq_ix2 eq_ix3
open Idealize.ShloMosaic.ValueIdx
open Cert.Kernel4Ideal Cert.Kernel4Ideal.Gen Cert.MergeRun Cert.MergeFrame Cert.MergeRow
open Cert.FfnRow (Sh norm)
open Cert.FfnTile (normed_apply)

theorem norm_apply (x : Vec Ideal S1024x2048 .f32) (g : Vec Ideal S1x2048 .f32) (i : Fin 1024) (d : Fin 2048) :
    k0_pay4 x g (ix2 i d) = norm (fun k => x (ix2 i k)) (fun k => g (ix2 0 k)) d := by
  refine Eq.trans ?_ (normed_apply (m := 1024) (by decide) x g reduces_S1024x2048_S1024 shapeCasts_S1024_S1024x1
    broadcasts_S1024x1_S1024x2048 broadcasts_S1x2048_S1024x2048 i d)
  unfold k0_pay4
  simp only [shapeCast_self]
  rfl

/-- A product of two blocks, added to nothing. -/
def product {n p q : ℕ} (h : FVec Ideal (Sh n p) .bf16) (w : FVec Ideal (Sh p q) .bf16) : FVec Ideal (Sh n q) .f32 :=
  matmul (DotDims.plain n p q) none h w (constant (Sh n q) .f32 0x00000000#32)

theorem product_apply {n p q : ℕ} (h : FVec Ideal (Sh n p) .bf16) (w : FVec Ideal (Sh p q) .bf16) (i : Fin n) (f : Fin q) :
    product h w (ix2 i f) = dot (fun k => h (ix2 i k)) w f :=
  (Ideal.matmul_plain_apply none h w _ i f).trans ((congrArg (· + _) Ideal.ofBits_zero_f32).trans (zero_add _))

/-- The merged columns as a matrix. -/
def columns (h : Vec Ideal S1024x2048 .bf16) (ya : Vec Ideal S1024x256 .bf16) (yb : Vec Ideal S1024x768 .bf16) (yc : Vec Ideal S1024x512 .bf16)
    (ga gb gc : Vec Ideal S2048x256 .bf16) (wa : Vec Ideal S256x256 .bf16) (wb : Vec Ideal S768x256 .bf16) (wc : Vec Ideal S512x256 .bf16) :
    FVec Ideal S1024x256 .bf16 :=
  truncf .bf16 (addf (addf (mulf (logistic (product (n := 1024) h ga)) (product (n := 1024) ya wa))
    (mulf (logistic (product (n := 1024) h gb)) (product (n := 1024) yb wb)))
    (mulf (logistic (product (n := 1024) h gc)) (product (n := 1024) yc wc))) bitsLt_bf16_f32

variable (h : Vec Ideal S1024x2048 .bf16) (ya : Vec Ideal S1024x256 .bf16) (yb : Vec Ideal S1024x768 .bf16) (yc : Vec Ideal S1024x512 .bf16)
  (ga gb gc : Vec Ideal S2048x256 .bf16) (wa : Vec Ideal S256x256 .bf16) (wb : Vec Ideal S768x256 .bf16) (wc : Vec Ideal S512x256 .bf16)

theorem mergeStep_eq : mergeStep h ya yb yc ga gb gc wa wb wc
    = shapeCast S1x1024x256 (columns h ya yb yc ga gb gc wa wb wc) shapeCasts_S1024x256_S1x1024x256 := rfl

theorem columns_apply (r : Fin 1024) (f : Fin 256) : columns h ya yb yc ga gb gc wa wb wc (ix2 r f)
    = Ideal.logistic (dot (fun k => h (ix2 r k)) ga f) * dot (fun k => ya (ix2 r k)) wa f
      + Ideal.logistic (dot (fun k => h (ix2 r k)) gb f) * dot (fun k => yb (ix2 r k)) wb f
      + Ideal.logistic (dot (fun k => h (ix2 r k)) gc f) * dot (fun k => yc (ix2 r k)) wc f := by
  rw [← product_apply h ga r f, ← product_apply h gb r f, ← product_apply h gc r f, ← product_apply ya wa r f, ← product_apply yb wb r f,
    ← product_apply yc wc r f]
  rfl

/-- The output block after a point, from the merged columns as a matrix. -/
theorem outStep_eq (i : grid0.Coords) (x o : Vec Ideal S1024x2048 .f32) (s : Vec Ideal S1024x256 .bf16) (w : Vec Ideal S256x2048 .bf16) :
    outStep i x o (shapeCast S1x1024x256 s shapeCasts_S1024x256_S1x1024x256) w
      = addf (Scalar.select (restarts i) x o) (product (n := 1024) (p := 256) (q := 2048) s w) := by
  have e : outStep i x o (shapeCast S1x1024x256 s shapeCasts_S1024x256_S1x1024x256) w
      = addf (Scalar.select (restarts i) x (shapeCast S1024x2048 o shapeCasts_S1024x2048_S1024x2048))
        (product (n := 1024) (p := 256) (q := 2048)
          (shapeCast S1024x256 (shapeCast S1x1024x256 s shapeCasts_S1024x256_S1x1024x256) shapeCasts_S1x1024x256_S1024x256) w) := rfl
  rw [e, shapeCast_self, shapeCast_shapeCast]

variable (i : grid0.Coords) (x o : Vec Ideal S1024x2048 .f32) (s : Vec Ideal S1024x256 .bf16) (w : Vec Ideal S256x2048 .bf16)

/-- Where the output restarts, it restarts from the block of rows. -/
theorem outStep_restarts (hr : restarts i = 1#1) (r : Fin 1024) (d : Fin 2048) :
    outStep i x o (shapeCast S1x1024x256 s shapeCasts_S1024x256_S1x1024x256) w (ix2 r d) = x (ix2 r d) + dot (fun f => s (ix2 r f)) w d := by
  rw [outStep_eq, show Scalar.select (restarts i) x o = x from if_pos hr, ← product_apply]
  rfl

/-- Elsewhere it goes on from what it held. -/
theorem outStep_goes_on (hr : ¬restarts i = 1#1) (r : Fin 1024) (d : Fin 2048) :
    outStep i x o (shapeCast S1x1024x256 s shapeCasts_S1024x256_S1x1024x256) w (ix2 r d) = o (ix2 r d) + dot (fun f => s (ix2 r f)) w d := by
  rw [outStep_eq, show Scalar.select (restarts i) x o = o from if_neg hr, ← product_apply]
  rfl

end Cert.MergeTile

end
-- ==== Proof.MergeArray.lean ====
/-
What the merging call's output array holds after the run: every row with all its merged columns, multiplied by the output
weights, added.  The rows by induction over the grid's points: a point computes 256 merged columns of 1024 rows, and the
point after it adds their product with 256 rows of the output weights.
-/
module

public import proofs.«01_k».proof.Proof.MergeTile
public import Idealize.ShloMosaic.Lib.Pipeline.ValueKit.Tiles
public import Idealize.ShloMosaic.Lib.Pipeline.ValueKit.Geometry

@[expose] public section

set_option maxRecDepth 16384

noncomputable section

namespace Cert.MergeArray

open Idealize.ShloMosaic hiding ix1 ix2 ix3 eq_ix2 eq_ix3
open Idealize.ShloMosaic.ValueIdx Idealize.ShloMosaic.TcCoe
open Cert.Kernel4Ideal Cert.Kernel4Ideal.Gen Cert.MergeRun Cert.MergeFrame Cert.MergeTile Cert.MergeRow
open Cert.FfnRow (Sh norm)
open Idealize.ShloMosaic.Pipeline (Dat Cfg Window)

variable (m : (ℓ : Loc nD τ sig) → Buf (Elt Ideal) ℓ) (c : Dev nD)

/-- The arrays the kernel is given. -/
def given : Arrays where
  x := m ((c : Thread nD τ).loc main_arg0)
  g := m ((c : Thread nD τ).loc main_arg1)
  ya := m ((c : Thread nD τ).loc main_arg2)
  yb := m ((c : Thread nD τ).loc main_arg3)
  yc := m ((c : Thread nD τ).loc main_arg4)
  w := m ((c : Thread nD τ).loc main_arg5)
  wa := m ((c : Thread nD τ).loc main_arg6)
  wb := m ((c : Thread nD τ).loc main_arg7)
  wc := m ((c : Thread nD τ).loc main_arg8)
  wo := m ((c : Thread nD τ).loc main_arg9)

/-- The last point computes nothing new: the points that compute are the first 128. -/
def last (n : ℕ) : ℕ := min n 127

/-- The row of the array that row `r` of the block of point `n` is. -/
def rowOf (n : ℕ) (r : Fin 1024) : Fin 16384 := ⟨1024 * (last n / 8) + r.val, by unfold last; omega⟩

/-- The column that column `f` of the point's merged columns is. -/
def colOf (n : ℕ) (f : Fin 256) : Fin 2048 := ⟨256 * (last n % 8) + f.val, by omega⟩

variable (t : Fin cfg0.N)

theorem lt_N : t.val < 129 := t.isLt

/-! ## The blocks a point reads -/

theorem block0 (r : Fin 1024) (k : Fin 2048) : iblk m c 0 t (ix2 r k) = (given m c).x (ix2 (rowOf t.val r) k) := by
  have hi : win0_0.index t 0 = last t.val / 8 ∧ win0_0.index t 1 = 0 :=
    (by decide +kernel : ∀ t : Fin grid0.N, win0_0.index t 0 = last t.val / 8 ∧ win0_0.index t 1 = 0) t
  unfold iblk
  show V m c main_arg0 _ = m ((c : Thread nD τ).loc main_arg0) _
  rw [← V_main_arg0 m c]
  refine congrArg (V m c main_arg0) (funext fun b => Fin.ext ?_)
  match b with
  | ⟨0, _⟩ => show win0_0.index t 0 * 1024 + 1 * r.val = 1024 * (last t.val / 8) + r.val; rw [hi.1]; omega
  | ⟨1, _⟩ => show win0_0.index t 1 * 2048 + 1 * k.val = k.val; rw [hi.2]; omega

theorem block1 (k : Fin 2048) : iblk m c 1 t (ix2 0 k) = (given m c).g (ix2 0 k) := by
  have hi : win0_1.index t 0 = 0 ∧ win0_1.index t 1 = 0 :=
    (by decide +kernel : ∀ t : Fin grid0.N, win0_1.index t 0 = 0 ∧ win0_1.index t 1 = 0) t
  unfold iblk
  show V m c main_arg1 _ = m ((c : Thread nD τ).loc main_arg1) _
  rw [← V_main_arg1 m c]
  refine congrArg (V m c main_arg1) (funext fun b => Fin.ext ?_)
  match b with
  | ⟨0, _⟩ => show win0_1.index t 0 * 1 + 1 * 0 = 0; rw [hi.1]
  | ⟨1, _⟩ => show win0_1.index t 1 * 2048 + 1 * k.val = k.val; rw [hi.2]; omega

theorem block2 (r : Fin 1024) (k : Fin 256) : iblk m c 2 t (ix2 r k) = (given m c).ya (ix2 (rowOf t.val r) k) := by
  have hi : win0_2.index t 0 = last t.val / 8 ∧ win0_2.index t 1 = 0 :=
    (by decide +kernel : ∀ t : Fin grid0.N, win0_2.index t 0 = last t.val / 8 ∧ win0_2.index t 1 = 0) t
  unfold iblk
  show V m c main_arg2 _ = m ((c : Thread nD τ).loc main_arg2) _
  rw [← V_main_arg2 m c]
  refine congrArg (V m c main_arg2) (funext fun b => Fin.ext ?_)
  match b with
  | ⟨0, _⟩ => show win0_2.index t 0 * 1024 + 1 * r.val = 1024 * (last t.val / 8) + r.val; rw [hi.1]; omega
  | ⟨1, _⟩ => show win0_2.index t 1 * 256 + 1 * k.val = k.val; rw [hi.2]; omega

theorem block3 (r : Fin 1024) (k : Fin 768) : iblk m c 3 t (ix2 r k) = (given m c).yb (ix2 (rowOf t.val r) k) := by
  have hi : win0_3.index t 0 = last t.val / 8 ∧ win0_3.index t 1 = 0 :=
    (by decide +kernel : ∀ t : Fin grid0.N, win0_3.index t 0 = last t.val / 8 ∧ win0_3.index t 1 = 0) t
  unfold iblk
  show V m c main_arg3 _ = m ((c : Thread nD τ).loc main_arg3) _
  rw [← V_main_arg3 m c]
  refine congrArg (V m c main_arg3) (funext fun b => Fin.ext ?_)
  match b with
  | ⟨0, _⟩ => show win0_3.index t 0 * 1024 + 1 * r.val = 1024 * (last t.val / 8) + r.val; rw [hi.1]; omega
  | ⟨1, _⟩ => show win0_3.index t 1 * 768 + 1 * k.val = k.val; rw [hi.2]; omega

theorem block4 (r : Fin 1024) (k : Fin 512) : iblk m c 4 t (ix2 r k) = (given m c).yc (ix2 (rowOf t.val r) k) := by
  have hi : win0_4.index t 0 = last t.val / 8 ∧ win0_4.index t 1 = 0 :=
    (by decide +kernel : ∀ t : Fin grid0.N, win0_4.index t 0 = last t.val / 8 ∧ win0_4.index t 1 = 0) t
  unfold iblk
  show V m c main_arg4 _ = m ((c : Thread nD τ).loc main_arg4) _
  rw [← V_main_arg4 m c]
  refine congrArg (V m c main_arg4) (funext fun b => Fin.ext ?_)
  match b with
  | ⟨0, _⟩ => show win0_4.index t 0 * 1024 + 1 * r.val = 1024 * (last t.val / 8) + r.val; rw [hi.1]; omega
  | ⟨1, _⟩ => show win0_4.index t 1 * 512 + 1 * k.val = k.val; rw [hi.2]; omega

theorem block5 (k : Fin 2048) (f : Fin 256) : iblk m c 5 t (ix2 k f) = (given m c).w (ix2 k (⟨5120 + (colOf t.val f).val, by have := (colOf t.val f).isLt; omega⟩ : Fin 11264)) := by
  have hi : win0_5.index t 0 = 0 ∧ win0_5.index t 1 = last t.val % 8 + 20 :=
    (by decide +kernel : ∀ t : Fin grid0.N, win0_5.index t 0 = 0 ∧ win0_5.index t 1 = last t.val % 8 + 20) t
  unfold iblk
  show V m c main_arg5 _ = m ((c : Thread nD τ).loc main_arg5) _
  rw [← V_main_arg5 m c]
  refine congrArg (V m c main_arg5) (funext fun b => Fin.ext ?_)
  match b with
  | ⟨0, _⟩ => show win0_5.index t 0 * 2048 + 1 * k.val = k.val; rw [hi.1]; omega
  | ⟨1, _⟩ => show win0_5.index t 1 * 256 + 1 * f.val = 5120 + (256 * (last t.val % 8) + f.val); rw [hi.2]; omega

theorem block6 (k : Fin 2048) (f : Fin 256) : iblk m c 6 t (ix2 k f) = (given m c).w (ix2 k (⟨7168 + (colOf t.val f).val, by have := (colOf t.val f).isLt; omega⟩ : Fin 11264)) := by
  have hi : win0_6.index t 0 = 0 ∧ win0_6.index t 1 = last t.val % 8 + 28 :=
    (by decide +kernel : ∀ t : Fin grid0.N, win0_6.index t 0 = 0 ∧ win0_6.index t 1 = last t.val % 8 + 28) t
  unfold iblk
  show V m c main_arg5 _ = m ((c : Thread nD τ).loc main_arg5) _
  rw [← V_main_arg5 m c]
  refine congrArg (V m c main_arg5) (funext fun b => Fin.ext ?_)
  match b with
  | ⟨0, _⟩ => show win0_6.index t 0 * 2048 + 1 * k.val = k.val; rw [hi.1]; omega
  | ⟨1, _⟩ => show win0_6.index t 1 * 256 + 1 * f.val = 7168 + (256 * (last t.val % 8) + f.val); rw [hi.2]; omega

theorem block7 (k : Fin 2048) (f : Fin 256) : iblk m c 7 t (ix2 k f) = (given m c).w (ix2 k (⟨9216 + (colOf t.val f).val, by have := (colOf t.val f).isLt; omega⟩ : Fin 11264)) := by
  have hi : win0_7.index t 0 = 0 ∧ win0_7.index t 1 = last t.val % 8 + 36 :=
    (by decide +kernel : ∀ t : Fin grid0.N, win0_7.index t 0 = 0 ∧ win0_7.index t 1 = last t.val % 8 + 36) t
  unfold iblk
  show V m c main_arg5 _ = m ((c : Thread nD τ).loc main_arg5) _
  rw [← V_main_arg5 m c]
  refine congrArg (V m c main_arg5) (funext fun b => Fin.ext ?_)
  match b with
  | ⟨0, _⟩ => show win0_7.index t 0 * 2048 + 1 * k.val = k.val; rw [hi.1]; omega
  | ⟨1, _⟩ => show win0_7.index t 1 * 256 + 1 * f.val = 9216 + (256 * (last t.val % 8) + f.val); rw [hi.2]; omega

theorem block8 (k : Fin 256) (f : Fin 256) : iblk m c 8 t (ix2 k f) = (given m c).wa (ix2 k (colOf t.val f)) := by
  have hi : win0_8.index t 0 = 0 ∧ win0_8.index t 1 = last t.val % 8 :=
    (by decide +kernel : ∀ t : Fin grid0.N, win0_8.index t 0 = 0 ∧ win0_8.index t 1 = last t.val % 8) t
  unfold iblk
  show V m c main_arg6 _ = m ((c : Thread nD τ).loc main_arg6) _
  rw [← V_main_arg6 m c]
  refine congrArg (V m c main_arg6) (funext fun b => Fin.ext ?_)
  match b with
  | ⟨0, _⟩ => show win0_8.index t 0 * 256 + 1 * k.val = k.val; rw [hi.1]; omega
  | ⟨1, _⟩ => show win0_8.index t 1 * 256 + 1 * f.val = 256 * (last t.val % 8) + f.val; rw [hi.2]; omega

theorem block9 (k : Fin 768) (f : Fin 256) : iblk m c 9 t (ix2 k f) = (given m c).wb (ix2 k (colOf t.val f)) := by
  have hi : win0_9.index t 0 = 0 ∧ win0_9.index t 1 = last t.val % 8 :=
    (by decide +kernel : ∀ t : Fin grid0.N, win0_9.index t 0 = 0 ∧ win0_9.index t 1 = last t.val % 8) t
  unfold iblk
  show V m c main_arg7 _ = m ((c : Thread nD τ).loc main_arg7) _
  rw [← V_main_arg7 m c]
  refine congrArg (V m c main_arg7) (funext fun b => Fin.ext ?_)
  match b with
  | ⟨0, _⟩ => show win0_9.index t 0 * 768 + 1 * k.val = k.val; rw [hi.1]; omega
  | ⟨1, _⟩ => show win0_9.index t 1 * 256 + 1 * f.val = 256 * (last t.val % 8) + f.val; rw [hi.2]; omega

theorem block10 (k : Fin 512) (f : Fin 256) : iblk m c 10 t (ix2 k f) = (given m c).wc (ix2 k (colOf t.val f)) := by
  have hi : win0_10.index t 0 = 0 ∧ win0_10.index t 1 = last t.val % 8 :=
    (by decide +kernel : ∀ t : Fin grid0.N, win0_10.index t 0 = 0 ∧ win0_10.index t 1 = last t.val % 8) t
  unfold iblk
  show V m c main_arg8 _ = m ((c : Thread nD τ).loc main_arg8) _
  rw [← V_main_arg8 m c]
  refine congrArg (V m c main_arg8) (funext fun b => Fin.ext ?_)
  match b with
  | ⟨0, _⟩ => show win0_10.index t 0 * 512 + 1 * k.val = k.val; rw [hi.1]; omega
  | ⟨1, _⟩ => show win0_10.index t 1 * 256 + 1 * f.val = 256 * (last t.val % 8) + f.val; rw [hi.2]; omega

theorem block11 (f : Fin 256) (d : Fin 2048) : iblk m c 11 t (ix2 f d) = (given m c).wo (ix2 (colOf (t.val - 1) f) d) := by
  have hi : win0_11.index t 0 = last (t.val - 1) % 8 ∧ win0_11.index t 1 = 0 :=
    (by decide +kernel : ∀ t : Fin grid0.N, win0_11.index t 0 = last (t.val - 1) % 8 ∧ win0_11.index t 1 = 0) t
  unfold iblk
  show V m c main_arg9 _ = m ((c : Thread nD τ).loc main_arg9) _
  rw [← V_main_arg9 m c]
  refine congrArg (V m c main_arg9) (funext fun b => Fin.ext ?_)
  match b with
  | ⟨0, _⟩ => show win0_11.index t 0 * 256 + 1 * f.val = 256 * (last (t.val - 1) % 8) + f.val; rw [hi.1]; omega
  | ⟨1, _⟩ => show win0_11.index t 1 * 2048 + 1 * d.val = d.val; rw [hi.2]; omega

/-! ## The rows, point by point -/

theorem rowOf_pred (n : ℕ) (h : n % 8 ≠ 0) (hn : n < 129) (r : Fin 1024) : rowOf (n - 1) r = rowOf n r :=
  Fin.ext (by
    show 1024 * (last (n - 1) / 8) + r.val = 1024 * (last n / 8) + r.val
    unfold last
    rw [show min (n - 1) 127 / 8 = min n 127 / 8 by omega])

/-- The scratch holds the normalised rows of the point's block. -/
theorem rows_hold : ∀ (n : ℕ) (hn : n < cfg0.N) (r : Fin 1024) (k : Fin 2048),
    rowsAt m c n hn (ix2 r k) = hidden (given m c) (rowOf n r) k := by
  have start : ∀ t : Fin cfg0.N, t.val % 8 = 0 → ∀ (r : Fin 1024) (k : Fin 2048),
      rowsAt m c t.val t.isLt (ix2 r k) = hidden (given m c) (rowOf t.val r) k := by
    intro t h r k
    rw [rowsAt_begins m c t h]
    refine (norm_apply _ _ r k).trans ?_
    rw [show (fun k => iblk m c 0 t (ix2 r k)) = fun k => (given m c).x (ix2 (rowOf t.val r) k) from funext fun k => block0 m c t r k,
      show (fun k => iblk m c 1 t (ix2 0 k)) = fun k => (given m c).g (ix2 0 k) from funext fun k => block1 m c t k]
    rfl
  intro n
  induction n with
  | zero => exact fun hn => start ⟨0, hn⟩ rfl
  | succ n ih =>
    intro hn r k
    by_cases h : (n + 1) % 8 = 0
    · exact start ⟨n + 1, hn⟩ h r k
    · refine (congrFun (rowsAt_within m c ⟨n + 1, hn⟩ h) (ix2 r k)).trans ((ih _ r k).trans ?_)
      rw [← rowOf_pred (n + 1) h hn r]
      rfl

/-- The merged columns of a point, as a matrix. -/
def columnsAt : FVec Ideal S1024x256 .bf16 :=
  columns (rowsAt m c t.val t.isLt) (iblk m c 2 t) (iblk m c 3 t) (iblk m c 4 t) (iblk m c 5 t) (iblk m c 6 t) (iblk m c 7 t) (iblk m c 8 t) (iblk m c 9 t) (iblk m c 10 t)

theorem mergedAt_eq : mergedAt m c t = shapeCast S1x1024x256 (columnsAt m c t) shapeCasts_S1024x256_S1x1024x256 := rfl

/-- They are the merged columns of the point's rows. -/
theorem columns_hold (r : Fin 1024) (f : Fin 256) : columnsAt m c t (ix2 r f) = merged (given m c) (rowOf t.val r) (colOf t.val f) := by
  unfold columnsAt
  rw [columns_apply]
  unfold merged gate
  have hh : (fun k => rowsAt m c t.val t.isLt (ix2 r k)) = hidden (given m c) (rowOf t.val r) := funext fun k => rows_hold m c t.val t.isLt r k
  have ha : dot (fun k => iblk m c 2 t (ix2 r k)) (iblk m c 8 t) f
      = dot (fun k => (given m c).ya (ix2 (rowOf t.val r) k)) (given m c).wa (colOf t.val f) :=
    Finset.sum_congr rfl fun k _ => congrArg₂ (· * ·) (block2 m c t r k) (block8 m c t k f)
  have hb : dot (fun k => iblk m c 3 t (ix2 r k)) (iblk m c 9 t) f
      = dot (fun k => (given m c).yb (ix2 (rowOf t.val r) k)) (given m c).wb (colOf t.val f) :=
    Finset.sum_congr rfl fun k _ => congrArg₂ (· * ·) (block3 m c t r k) (block9 m c t k f)
  have hc : dot (fun k => iblk m c 4 t (ix2 r k)) (iblk m c 10 t) f
      = dot (fun k => (given m c).yc (ix2 (rowOf t.val r) k)) (given m c).wc (colOf t.val f) :=
    Finset.sum_congr rfl fun k _ => congrArg₂ (· * ·) (block4 m c t r k) (block10 m c t k f)
  have ga : dot (hidden (given m c) (rowOf t.val r)) (iblk m c 5 t) f = dot (hidden (given m c) (rowOf t.val r)) (given m c).w _ :=
    Finset.sum_congr rfl fun k _ => congrArg (_ * ·) (block5 m c t k f)
  have gb : dot (hidden (given m c) (rowOf t.val r)) (iblk m c 6 t) f = dot (hidden (given m c) (rowOf t.val r)) (given m c).w _ :=
    Finset.sum_congr rfl fun k _ => congrArg (_ * ·) (block6 m c t k f)
  have gc : dot (hidden (given m c) (rowOf t.val r)) (iblk m c 7 t) f = dot (hidden (given m c) (rowOf t.val r)) (given m c).w _ :=
    Finset.sum_congr rfl fun k _ => congrArg (_ * ·) (block7 m c t k f)
  rw [hh, ha, hb, hc, ga, gb, gc]

/-- What the columns of point `n` add to column `d` of a row. -/
theorem added (t' : Fin cfg0.N) (ht : t'.val = t.val - 1) (r : Fin 1024) (d : Fin 2048) :
    dot (fun f => columnsAt m c t' (ix2 r f)) (iblk m c 11 t) d
      = ∑ f : Fin 256, term (given m c) (rowOf t'.val r) d (256 * (last t'.val % 8) + f.val) := by
  refine Finset.sum_congr rfl fun f _ => ?_
  have hf : 256 * (last t'.val % 8) + f.val < 2048 := (colOf t'.val f).isLt
  unfold term
  rw [dif_pos hf]
  refine congrArg₂ (· * ·) (columns_hold m c t' r f) ((block11 m c t f d).trans ?_)
  rw [← ht]
  rfl

/-- After point `n`, not the first, the output block holds the rows of the point before with the columns added that the
    points of their block have computed by then. -/
theorem out_holds : ∀ (n : ℕ) (hn : n < cfg0.N), n ≠ 0 → ∀ (r : Fin 1024) (d : Fin 2048),
    outAt m c n hn (ix2 r d) = upTo (given m c) (rowOf (n - 1) r) (256 * (last (n - 1) % 8 + 1)) d := by
  intro n
  induction n with
  | zero => exact fun _ h => absurd rfl h
  | succ n ih =>
    intro hn _ r d
    have hn' : n < 128 := Nat.succ_lt_succ_iff.mp hn
    have hl : last n = n := by unfold last; omega
    have hs := outAt_later m c ⟨n + 1, hn⟩ (Nat.succ_ne_zero n)
    rw [mergedAt_eq] at hs
    refine (congrFun hs (ix2 r d)).trans ?_
    have had := added m c ⟨n + 1, hn⟩ ⟨n, Nat.lt_of_succ_lt hn⟩ rfl r d
    show _ = upTo (given m c) (rowOf n r) (256 * (last n % 8 + 1)) d
    rw [show 256 * (last n % 8 + 1) = 256 * (last n % 8) + 256 from rfl, ← upTo_add (given m c) (rowOf n r) (256 * (last n % 8)) 256 d]
    by_cases h : (n + 1) % 8 = 1
    · have hr := (restarts_iff ⟨n + 1, hn⟩).mpr h
      refine (outStep_restarts _ _ _ _ _ hr r d).trans (congrArg₂ (· + ·) ?_ had)
      rw [hl, show n % 8 = 0 by omega]
      show _ = upTo (given m c) (rowOf n r) 0 d
      rw [upTo_zero]
      refine (block0 m c ⟨n + 1, hn⟩ r d).trans ?_
      rw [← rowOf_pred (n + 1) (by omega) hn r]
      rfl
    · have hr : ¬restarts (grid0.coords ⟨n + 1, hn⟩) = 1#1 := fun e => h ((restarts_iff ⟨n + 1, hn⟩).mp e)
      have h0 : n ≠ 0 := fun e => h (by rw [e])
      refine (outStep_goes_on _ _ _ _ _ hr r d).trans (congrArg₂ (· + ·) ?_ had)
      refine (ih (Nat.lt_of_succ_lt hn) h0 r d).trans ?_
      rw [rowOf_pred n (by omega) (by omega) r, show last (n - 1) % 8 + 1 = last n % 8 by unfold last; omega]

/-! ## The array after the run -/

/-- The array of rows that the merge leaves. -/
def result (A : Arrays) : FVec Ideal (Sh 16384 2048) .f32 := fun i => upTo A (i 0) 2048 (i 1)

/-- The output block is not written back at the first point. -/
theorem flush_later : ∀ t : Fin cfg0.N, (cfg0.win 12).flush t = true → t.val ≠ 0 :=
  (by decide +kernel : ∀ t : Fin grid0.N, (cfg0.win 12).flush t = true → t.val ≠ 0)

theorem array12 : (dats m 0 c).arrAt 12 cfg0.N = result (given m c) := by
  refine (dats m 0 c).arrAt_eq_of_covers 12 _ (by decide +kernel) fun t hf y => ?_
  have h8 := flush_begins t hf
  have h0 := flush_later t hf
  have hN := lt_N t
  have hi : win0_12.index t 0 = last (t.val - 1) / 8 ∧ win0_12.index t 1 = 0 :=
    (by decide +kernel : ∀ t : Fin grid0.N, win0_12.index t 0 = last (t.val - 1) / 8 ∧ win0_12.index t 1 = 0) t
  have e : (y : S1024x2048.Idx) = ix2 (y 0) (y 1) := funext fun b => match b with | ⟨0, _⟩ => rfl | ⟨1, _⟩ => rfl
  rw [after0_12]
  refine (congrArg (outAt m c t.val t.isLt) e).trans ((out_holds m c t.val t.isLt h0 (y 0) (y 1)).trans ?_)
  have e0 : ((((cfg0.win 12).blk t).view.emb y : S16384x2048.Idx) 0) = rowOf (t.val - 1) (y 0) := Fin.ext (by
    show win0_12.index t 0 * 1024 + 1 * (y 0).val = 1024 * (last (t.val - 1) / 8) + (y 0).val; rw [hi.1]; omega)
  have e1 : ((((cfg0.win 12).blk t).view.emb y : S16384x2048.Idx) 1) = y 1 := Fin.ext (by
    show win0_12.index t 1 * 2048 + 1 * (y 1).val = (y 1).val; rw [hi.2]; omega)
  unfold result
  rw [e0, e1, show last (t.val - 1) % 8 + 1 = 8 by unfold last; omega]

end Cert.MergeArray

end
-- ==== Proof.MergeReference.lean ====
/-
What the reference of the merge computes at a row and a column.
-/
module

public import proofs.«01_k».proof.Proof.MergeRow
public import proofs.«01_k».proof.Proof.FfnReference
public import proofs.«01_k».proof.Proof.Gen.Reference4Ideal.Read
public import Idealize.ShloMosaic.Lib.Tactic

@[expose] public section

set_option maxRecDepth 16384

noncomputable section

namespace Cert.MergeReference

open Idealize.ShloMosaic hiding ix1 ix2 ix3 eq_ix2 eq_ix3
open Idealize.ShloMosaic.ValueIdx
open Cert.Reference4Ideal Cert.Reference4Ideal.Read Cert.FfnReference Cert.MergeRow
open Cert.FfnRow (Sh norm)

variable (A : Arrays)

/-- The norm is the one the feed-forward's reference takes. -/
theorem same_norm (x : FVec Ideal (Sh 16384 2048) .f32) (g : FVec Ideal (Sh 1 2048) .f32) :
    val_main_v19 (F := Ideal) x g = Cert.Reference2Ideal.Read.val_main_v11 (F := Ideal) x g := by
  sl_kernel_rfl

theorem hidden_apply (a : Fin 16384) (k : Fin 2048) : val_main_v19 (F := Ideal) A.x A.g (ix2 a k) = hidden A a k := by
  rw [same_norm]
  exact normed_row A.x A.g a k

/-- The projection at a column. -/
theorem projected (a : Fin 16384) (p : Fin 11264) : val_main_v20 (F := Ideal) A.x A.g A.w (ix2 a p) = dot (hidden A a) A.w p := by
  rw [val_main_v20_apply]
  refine Finset.sum_congr rfl fun k _ => ?_
  have el : lidx_main_v20 (ix2 a p) k = ix2 a k := pair_ext _ a k rfl rfl
  have er : ridx_main_v20 (ix2 a p) k = ix2 k p := pair_ext _ k p rfl rfl
  rw [← hidden_apply A a k, val_main_v3_apply, el, er]
  rfl

/-- The gates at a column. -/
theorem gate_apply (a : Fin 16384) (p : Fin 6144) : val_main_v27 (F := Ideal) A.x A.g A.w (ix2 a p) = gate A a ⟨5120 + p.val, by omega⟩ := by
  have e : idx_main_v21 (ix2 a p) = ix2 a (⟨5120 + p.val, by omega⟩ : Fin 11264) := pair_ext _ a ⟨5120 + p.val, by omega⟩ rfl rfl
  rw [val_main_v27_apply, val_main_v26_apply, val_main_v25_apply, val_main_v24_apply, val_main_v23_apply, val_main_v22_apply,
    val_main_v21_apply, val_main_cst_2_apply, val_main_cst_3_apply, e, projected]
  show Ideal.div (Ideal.ofBits .f32 0x3F800000#32) (Ideal.ofBits .f32 0x3F800000#32 + Ideal.exp (-_)) = _
  rw [one_word]
  rfl

/-- The three branches' products. -/
theorem branch_a (a : Fin 16384) (q : Fin 2048) : val_main_v31 (F := Ideal) A.ya A.wa (ix2 a q) = dot (fun k => A.ya (ix2 a k)) A.wa q := by
  rw [val_main_v31_apply]
  refine Finset.sum_congr rfl fun k _ => ?_
  have el : lidx_main_v31 (ix2 a q) k = ix2 a k := pair_ext _ a k rfl rfl
  have er : ridx_main_v31 (ix2 a q) k = ix2 k q := pair_ext _ k q rfl rfl
  rw [val_main_v0_apply, val_main_v4_apply, el, er]
  rfl

theorem branch_b (a : Fin 16384) (q : Fin 2048) : val_main_v33 (F := Ideal) A.yb A.wb (ix2 a q) = dot (fun k => A.yb (ix2 a k)) A.wb q := by
  rw [val_main_v33_apply]
  refine Finset.sum_congr rfl fun k _ => ?_
  have el : lidx_main_v33 (ix2 a q) k = ix2 a k := pair_ext _ a k rfl rfl
  have er : ridx_main_v33 (ix2 a q) k = ix2 k q := pair_ext _ k q rfl rfl
  rw [val_main_v1_apply, val_main_v5_apply, el, er]
  rfl

theorem branch_c (a : Fin 16384) (q : Fin 2048) : val_main_v36 (F := Ideal) A.yc A.wc (ix2 a q) = dot (fun k => A.yc (ix2 a k)) A.wc q := by
  rw [val_main_v36_apply]
  refine Finset.sum_congr rfl fun k _ => ?_
  have el : lidx_main_v36 (ix2 a q) k = ix2 a k := pair_ext _ a k rfl rfl
  have er : ridx_main_v36 (ix2 a q) k = ix2 k q := pair_ext _ k q rfl rfl
  rw [val_main_v2_apply, val_main_v6_apply, el, er]
  rfl

/-- The merged columns. -/
theorem merged_apply (a : Fin 16384) (q : Fin 2048) :
    val_main_v38 (F := Ideal) A.x A.g A.ya A.yb A.yc A.w A.wa A.wb A.wc (ix2 a q) = merged A a q := by
  have e1 : idx_main_v28 (ix2 a q) = ix2 a (⟨q.val, by omega⟩ : Fin 6144) := pair_ext _ a ⟨q.val, by omega⟩ rfl rfl
  have e2 : idx_main_v29 (ix2 a q) = ix2 a (⟨2048 + q.val, by omega⟩ : Fin 6144) := pair_ext _ a ⟨2048 + q.val, by omega⟩ rfl rfl
  have e3 : idx_main_v30 (ix2 a q) = ix2 a (⟨4096 + q.val, by omega⟩ : Fin 6144) := pair_ext _ a ⟨4096 + q.val, by omega⟩ rfl rfl
  rw [val_main_v38_apply, val_main_v37_apply, val_main_v35_apply, val_main_v34_apply, val_main_v32_apply, val_main_v28_apply,
    val_main_v29_apply, val_main_v30_apply, branch_a, branch_b, branch_c, e1, e2, e3, gate_apply, gate_apply, gate_apply]
  unfold merged
  have f2 : (⟨5120 + (2048 + q.val), by omega⟩ : Fin 11264) = ⟨7168 + q.val, by omega⟩ := Fin.ext (by show 5120 + (2048 + q.val) = 7168 + q.val; omega)
  have f3 : (⟨5120 + (4096 + q.val), by omega⟩ : Fin 11264) = ⟨9216 + q.val, by omega⟩ := Fin.ext (by show 5120 + (4096 + q.val) = 9216 + q.val; omega)
  rw [← f2, ← f3]
  rfl

/-- The row after all its merged columns. -/
theorem row_apply (a : Fin 16384) (d : Fin 2048) :
    val_main_v40 (F := Ideal) A.x A.g A.ya A.yb A.yc A.w A.wa A.wb A.wc A.wo (ix2 a d) = upTo A a 2048 d := by
  rw [← upTo_all, val_main_v40_apply, val_main_v39_apply]
  refine congrArg (fun s => A.x (ix2 a d) + s) (Finset.sum_congr rfl fun q _ => ?_)
  have el : lidx_main_v39 (ix2 a d) q = ix2 a q := pair_ext _ a q rfl rfl
  have er : ridx_main_v39 (ix2 a d) q = ix2 q d := pair_ext _ q d rfl rfl
  rw [← merged_apply, val_main_v7_apply, el, er]
  rfl

end Cert.MergeReference

end
-- ==== Proof.MergeClaim.lean ====
/-
The merging call and its reference compute the same array.
-/
module

public import proofs.«01_k».proof.Defs
public import proofs.«01_k».proof.Proof.MergeArray
public import proofs.«01_k».proof.Proof.MergeReference
public import proofs.«01_k».proof.Proof.Gen.Reference4Ideal.Run
public import Idealize.ShloMosaic.Lib.Claim

@[expose] public section

set_option maxRecDepth 16384

noncomputable section

namespace Cert.MergeClaim

open Idealize.ShloMosaic hiding ix1 ix2 ix3 eq_ix2 eq_ix3
open Idealize.ShloMosaic.ValueIdx Idealize.SL.Sem Cert.MergeRow Cert.MergeArray

/-- The reference's array, from the ten arrays it is given. -/
theorem reference_eq (A : Arrays) :
    Cert.Reference4Ideal.Read.val_main_v40 (F := Ideal) A.x A.g A.ya A.yb A.yc A.w A.wa A.wb A.wc A.wo = result A := by
  funext i
  have e : i = ix2 (i 0) (i 1) := FfnReference.pair_ext i (i 0) (i 1) rfl rfl
  exact (congrArg (Cert.Reference4Ideal.Read.val_main_v40 (F := Ideal) A.x A.g A.ya A.yb A.yc A.w A.wa A.wb A.wc A.wo) e).trans
    (MergeReference.row_apply A (i 0) (i 1))

/-- From memories that agree on the arguments, both programs end with the same array. -/
theorem algebraic : Cert.algebraic_Kernel4Ideal_Reference4Ideal := by
  intro m ρ m' ρ' _ hag
  refine ⟨fun c => result (given m c), ?_, ?_⟩
  · exact (θ_run _ _ _).mono (fun _ h c => ⟨((h.2 c).1 12).trans (array12 m c), h.1 c⟩)
      (θ_run_and (Cert.Kernel4Ideal.Gen.frame_of m ρ (MergeFrame.dats m) (MergeFrame.A_eq m) (MergeFrame.run_main m ρ)) (MergeFrame.run_main m ρ))
  · refine (θ_run _ _ _).mono (fun _ h c => ?_) (Cert.Reference4Ideal.Value.run (F := Ideal) m' ρ')
    obtain ⟨h0, ha⟩ := h c
    obtain ⟨g0, g1, g2, g3, g4, g5, g6, g7, g8, g9⟩ := hag c
    refine ⟨?_, ha⟩
    refine h0.trans ((Cert.Reference4Ideal.Read.val_main_v40_eq (F := Ideal) m' c).trans ?_)
    rw [g0, g1, g2, g3, g4, g5, g6, g7, g8, g9]
    exact reference_eq (given m c)

end Cert.MergeClaim

end
-- ==== Proof.lean ====
/-
The proof of `Cert.Claim` (proofs.«01_k».proof.Defs): for each of the four calls the frames of the kernel, of its
idealization and of the reference, that the idealization keeps the program, and that kernel and reference end with the
same results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_queries_and_keys_finite
public import proofs.«01_k».proof.Proof.AttentionClaim
public import proofs.«01_k».proof.Proof.ClosingClaim
public import proofs.«01_k».proof.Proof.OpeningClaim
public import proofs.«01_k».proof.Proof.MergeFrame
public import proofs.«01_k».proof.Proof.MergeFrameBits
public import proofs.«01_k».proof.Proof.MergeClaim
public import Idealize.ShloMosaic.Adequacy
public import Idealize.ShloMosaic.Init

@[expose] public section

noncomputable section

namespace Cert.Proof

open Idealize.ShloMosaic Idealize.SL.Sem Cert.Kernel

/-- The attention's reference runs to its end, leaves its arguments as they were, and every semaphore counter at zero. -/
theorem reference_frame : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The same of the closing feed-forward's reference. -/
theorem reference2_frame : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The same of the opening feed-forward's reference. -/
theorem reference3_frame : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- The same of the merge's reference. -/
theorem reference4_frame : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- Every claim of this certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_queries_and_keys_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => reference2_frame m ρ trivial,
    fun m ρ _ => Cert.Kernel3.Gen.frame m ρ,
    fun m ρ _ => Cert.Kernel3Ideal.Gen.frame m ρ,
    fun m ρ _ => reference3_frame m ρ trivial,
    fun m ρ _ => Cert.MergeFrameBits.frame m ρ,
    fun m ρ _ => Cert.MergeFrame.frame m ρ,
    fun m ρ _ => reference4_frame m ρ trivial,
    trivial, Cert.AttentionClaim.algebraic,
    trivial, Cert.ClosingClaim.algebraic,
    trivial, Cert.OpeningClaim.algebraic,
    trivial, Cert.MergeClaim.algebraic⟩

end Cert.Proof

end
